-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)) (v2 : (c : Dev Cert.Kernel3Ideal.nD) → Buf (Elt Ideal) ((c.tc : Thread Cert.Kernel3Ideal.nD Cert.Kernel3Ideal.τ).loc Cert.Kernel3Ideal.main_v20_2)) (v3 : (c : Dev Cert.Kernel3Ideal.nD) → Buf (Elt Ideal) ((c.tc : Thread Cert.Kernel3Ideal.nD Cert.Kernel3Ideal.τ).loc Cert.Kernel3Ideal.main_v20_3)) (v4 : (c : Dev Cert.Kernel3Ideal.nD) → Buf (Elt Ideal) ((c.tc : Thread Cert.Kernel3Ideal.nD Cert.Kernel3Ideal.τ).loc Cert.Kernel3Ideal.main_v20_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_v20_2) = v2 c
          ∧ r.2.mem ((c.tc : Thread Cert.Kernel3Ideal.nD Cert.Kernel3Ideal.τ).loc Cert.Kernel3Ideal.main_v20_3) = v3 c
          ∧ r.2.mem ((c.tc : Thread Cert.Kernel3Ideal.nD Cert.Kernel3Ideal.τ).loc Cert.Kernel3Ideal.main_v20_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v56) = v1 c
          ∧ r.2.mem ((c.tc : Thread Cert.Reference3Ideal.nD Cert.Reference3Ideal.τ).loc Cert.Reference3Ideal.main_v59) = v2 c
          ∧ r.2.mem ((c.tc : Thread Cert.Reference3Ideal.nD Cert.Reference3Ideal.τ).loc Cert.Reference3Ideal.main_v52) = v3 c
          ∧ r.2.mem ((c.tc : Thread Cert.Reference3Ideal.nD Cert.Reference3Ideal.τ).loc Cert.Reference3Ideal.main_v22) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite3 : Cert.Pre_finite3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite3.lean ====
abbrev S32x256x1024 : Shape := ⟨3, ![32, 256, 1024]⟩
abbrev S1024 : Shape := ⟨1, ![1024]⟩
abbrev S1x1x1024 : Shape := ⟨3, ![1, 1, 1024]⟩
abbrev S1024x1536 : Shape := ⟨2, ![1024, 1536]⟩
abbrev S64 : Shape := ⟨1, ![64]⟩
abbrev S_ : Shape := ⟨0, ![]⟩

class Facts : Prop where
  bcast_S_S32x256x1024 : S_.BroadcastsInDim S32x256x1024 (![] : Fin 0 → Fin S32x256x1024.rank)
  reducesTo_S32x256x1024_S_d0_1_2 : S32x256x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1x1x1024 : S_.BroadcastsInDim S1x1x1024 (![] : Fin 0 → Fin S1x1x1024.rank)
  reducesTo_S1x1x1024_S_d0_1_2 : S1x1x1024.ReducesTo [0, 1, 2] S_
  bcast_S_S1024x1536 : S_.BroadcastsInDim S1024x1536 (![] : Fin 0 → Fin S1024x1536.rank)
  reducesTo_S1024x1536_S_d0_1 : S1024x1536.ReducesTo [0, 1] S_

variable [Facts]

def fn_part1 {F : FTy → Type} [FloatOps F] (main_arg4 : FVec F S1024x1536 .f32) (main_v13 : IVec S_ 1) (main_v16 : IVec S1x1x1024 1) : IVec S_ 1 :=
  let main_c_5 : IVec S_ 1 := constantI S_ 1 1#1
  let main_v17 : IVec S_ 1 := (fun x v => Host.reduce IntOp.andi x v reducesTo_S1x1x1024_S_d0_1_2 h_S_) main_v16 main_c_5
  let main_v18 : IVec S_ 1 := andi main_v13 main_v17
  let main_v19 : FVec F S1024x1536 .f32 := Host.absf main_arg4
  let main_cst_6 : FVec F S_ .f32 := constant S_ .f32 0x7F800000#32
  let main_v20 : FVec F S1024x1536 .f32 := broadcastInDim S1024x1536 ![] bcast_S_S1024x1536 main_cst_6
  let main_v21 : IVec S1024x1536 1 := cmpf .olt main_v19 main_v20
  let main_c_7 : IVec S_ 1 := constantI S_ 1 1#1
  let main_v22 : IVec S_ 1 := (fun x v => Host.reduce IntOp.andi x v reducesTo_S1024x1536_S_d0_1 h_S_) main_v21 main_c_7
  let main_v23 : IVec S_ 1 := andi main_v18 main_v22
  main_v23

def fn {F : FTy → Type} [FloatOps F] (main_arg0 : FVec F S32x256x1024 .f32) (main_arg1 : FVec F S1024 .f32) (main_arg2 : FVec F S1x1x1024 .f32) (main_arg3 : FVec F S1x1x1024 .f32) (main_arg4 : FVec F S1024x1536 .f32) (main_arg5 : FVec F S64 .f32) (main_arg6 : FVec F S64 .f32) : IVec S_ 1 :=
  let main_v0 : FVec F S32x256x1024 .f32 := Host.absf main_arg0
  let main_cst : FVec F S_ .f32 := constant S_ .f32 0x7F800000#32
  let main_v1 : FVec F S32x256x1024 .f32 := broadcastInDim S32x256x1024 ![] bcast_S_S32x256x1024 main_cst
  let main_v2 : IVec S32x256x1024 1 := cmpf .olt main_v0 main_v1
  let main_c : IVec S_ 1 := constantI S_ 1 1#1
  let main_v3 : IVec S_ 1 := (fun x v => Host.reduce IntOp.andi x v reducesTo_S32x256x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x1x1024 .f32 := Host.absf main_arg2
  let main_cst_2 : FVec F S_ .f32 := constant S_ .f32 0x7F800000#32
  let main_v10 : FVec F S1x1x1024 .f32 := broadcastInDim S1x1x1024 ![] bcast_S_S1x1x1024 main_cst_2
  let main_v11 : IVec S1x1x1024 1 := cmpf .olt main_v9 main_v10
  let main_c_3 : IVec S_ 1 := constantI S_ 1 1#1
  let main_v12 : IVec S_ 1 := (fun x v => Host.reduce IntOp.andi x v reducesTo_S1x1x1024_S_d0_1_2 h_S_) main_v11 main_c_3
  let main_v13 : IVec S_ 1 := andi main_v8 main_v12
  let main_v14 : FVec F S1x1x1024 .f32 := Host.absf main_arg3
  let main_cst_4 : FVec F S_ .f32 := constant S_ .f32 0x7F800000#32
  let main_v15 : FVec F S1x1x1024 .f32 := broadcastInDim S1x1x1024 ![] bcast_S_S1x1x1024 main_cst_4
  let main_v16 : IVec S1x1x1024 1 := cmpf .olt main_v14 main_v15
  fn_part1 (F := F) main_arg4 main_v13 main_v16
-- ==== Kernel.lean ====
abbrev S8x4096x1024 : Shape := ⟨3, ![8, 4096, 1024]⟩
abbrev S8x1x1024 : Shape := ⟨3, ![8, 1, 1024]⟩
abbrev S1024x1024 : Shape := ⟨2, ![1024, 1024]⟩
abbrev S8x4096x16x64 : Shape := ⟨4, ![8, 4096, 16, 64]⟩
abbrev S8x4096x4x64 : Shape := ⟨4, ![8, 4096, 4, 64]⟩
abbrev S16 : Shape := ⟨1, ![16]⟩
abbrev S8x512x4x64 : Shape := ⟨4, ![8, 512, 4, 64]⟩
abbrev S8x32x128x1024 : Shape := ⟨4, ![8, 32, 128, 1024]⟩
abbrev S_ : Shape := ⟨0, ![]⟩
abbrev S8x32x1024x128 : Shape := ⟨4, ![8, 32, 1024, 128]⟩
abbrev S8x4096x256 : Shape := ⟨3, ![8, 4096, 256]⟩
abbrev S8x32x128x256 : Shape := ⟨4, ![8, 32, 128, 256]⟩
abbrev S8x32x256x128 : Shape := ⟨4, ![8, 32, 256, 128]⟩
abbrev S8x512x256 : Shape := ⟨3, ![8, 512, 256]⟩
abbrev S8x256x512 : Shape := ⟨3, ![8, 256, 512]⟩
abbrev S3x384x512 : Shape := ⟨3, ![3, 384, 512]⟩
abbrev S1x2x1024x128 : Shape := ⟨4, ![1, 2, 1024, 128]⟩
abbrev S1x128x256 : Shape := ⟨3, ![1, 128, 256]⟩
abbrev S1x256x256 : Shape := ⟨3, ![1, 256, 256]⟩
abbrev S1x1x256x128 : Shape := ⟨4, ![1, 1, 256, 128]⟩
abbrev S1x2x256x128 : Shape := ⟨4, ![1, 2, 256, 128]⟩
abbrev S1x512x256 : Shape := ⟨3, ![1, 512, 256]⟩
abbrev S1x256x512 : Shape := ⟨3, ![1, 256, 512]⟩
abbrev S1x384x512 : Shape := ⟨3, ![1, 384, 512]⟩
abbrev S1x256x1024 : Shape := ⟨3, ![1, 256, 1024]⟩
abbrev S1x1x1024 : Shape := ⟨3, ![1, 1, 1024]⟩
abbrev S2x1024x128 : Shape := ⟨3, ![2, 1024, 128]⟩
abbrev S128x256 : Shape := ⟨2, ![128, 256]⟩
abbrev S256x128 : Shape := ⟨2, ![256, 128]⟩
abbrev S384x256 : Shape := ⟨2, ![384, 256]⟩
abbrev S256x384 : Shape := ⟨2, ![256, 384]⟩
abbrev S384x512 : Shape := ⟨2, ![384, 512]⟩
abbrev S512x256 : Shape := ⟨2, ![512, 256]⟩
abbrev S256x512 : Shape := ⟨2, ![256, 512]⟩
abbrev S1x1x64x128 : Shape := ⟨4, ![1, 1, 64, 128]⟩
abbrev S64x128 : Shape := ⟨2, ![64, 128]⟩
abbrev S64x512 : Shape := ⟨2, ![64, 512]⟩
abbrev S1 : Shape := ⟨1, ![1]⟩
abbrev S1x128 : Shape := ⟨2, ![1, 128]⟩
abbrev S1x512 : Shape := ⟨2, ![1, 512]⟩
abbrev S384x64 : Shape := ⟨2, ![384, 64]⟩
abbrev S512 : Shape := ⟨1, ![512]⟩
abbrev S512x64 : Shape := ⟨2, ![512, 64]⟩
abbrev S512x512 : Shape := ⟨2, ![512, 512]⟩
abbrev S80x512 : Shape := ⟨2, ![80, 512]⟩
abbrev S64x384 : Shape := ⟨2, ![64, 384]⟩
abbrev S16x384 : Shape := ⟨2, ![16, 384]⟩
abbrev S80x384 : Shape := ⟨2, ![80, 384]⟩
abbrev S16x512 : Shape := ⟨2, ![16, 512]⟩
abbrev S1x64x128 : Shape := ⟨3, ![1, 64, 128]⟩
abbrev S1x1024x128 : Shape := ⟨3, ![1, 1024, 128]⟩
abbrev S1024x128 : Shape := ⟨2, ![1024, 128]⟩
abbrev S128x1024 : Shape := ⟨2, ![128, 1024]⟩
abbrev S1x128x1024 : Shape := ⟨3, ![1, 128, 1024]⟩
abbrev S1x1024 : Shape := ⟨2, ![1, 1024]⟩

abbrev nBuf : Space → Nat
  | .hbm => 85
  | .vmem => 30
  | .smem => 1
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S1024x1024, .f32⟩
  | .hbm, ⟨3, _⟩ => ⟨S8x4096x16x64, .f32⟩
  | .hbm, ⟨4, _⟩ => ⟨S8x4096x4x64, .f32⟩
  | .hbm, ⟨5, _⟩ => ⟨S8x4096x4x64, .f32⟩
  | .hbm, ⟨6, _⟩ => ⟨S16, .f32⟩
  | .hbm, ⟨7, _⟩ => ⟨S8x512x4x64, .f32⟩
  | .hbm, ⟨8, _⟩ => ⟨S8x512x4x64, .f32⟩
  | .hbm, ⟨9, _⟩ => ⟨S8x32x128x1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x32x128x1024, .f32⟩
  | .hbm, ⟨15, _⟩ => ⟨S8x32x128x1024, .f32⟩
  | .hbm, ⟨16, _⟩ => ⟨S8x32x1024x128, .f32⟩
  | .hbm, ⟨17, _⟩ => ⟨S8x32x1024x128, .bf16⟩
  | .hbm, ⟨18, _⟩ => ⟨S8x4096x256, .f32⟩
  | .hbm, ⟨19, _⟩ => ⟨S8x4096x256, .bf16⟩
  | .hbm, ⟨20, _⟩ => ⟨S8x32x128x256, .f32⟩
  | .hbm, ⟨21, _⟩ => ⟨S8x32x256x128, .f32⟩
  | .hbm, ⟨22, _⟩ => ⟨S8x32x256x128, .bf16⟩
  | .hbm, ⟨23, _⟩ => ⟨S8x512x256, .f32⟩
  | .hbm, ⟨24, _⟩ => ⟨S8x512x256, .bf16⟩
  | .hbm, ⟨25, _⟩ => ⟨S8x512x256, .f32⟩
  | .hbm, ⟨26, _⟩ => ⟨S8x512x256, .bf16⟩
  | .hbm, ⟨27, _⟩ => ⟨S8x256x512, .bf16⟩
  | .hbm, ⟨28, _⟩ => ⟨S1024x1024, .bf16⟩
  | .hbm, ⟨29, _⟩ => ⟨S3x384x512, .i32⟩
  | .hbm, ⟨30, _⟩ => ⟨S3x384x512, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S3x384x512, .i32⟩
  | .hbm, ⟨38, _⟩ => ⟨S3x384x512, .i32⟩
  | .hbm, ⟨39, _⟩ => ⟨S_, .i32⟩
  | .hbm, ⟨40, _⟩ => ⟨S3x384x512, .i32⟩
  | .hbm, ⟨41, _⟩ => ⟨S3x384x512, .i1⟩
  | .hbm, ⟨42, _⟩ => ⟨S_, .i32⟩
  | .hbm, ⟨43, _⟩ => ⟨S3x384x512, .i32⟩
  | .hbm, ⟨44, _⟩ => ⟨S3x384x512, .i1⟩
  | .hbm, ⟨45, _⟩ => ⟨S_, .i32⟩
  | .hbm, ⟨46, _⟩ => ⟨S_, .i1⟩
  | .hbm, ⟨47, _⟩ => ⟨S3x384x512, .i1⟩
  | .hbm, ⟨48, _⟩ => ⟨S3x384x512, .i1⟩
  | .hbm, ⟨49, _⟩ => ⟨S3x384x512, .i1⟩
  | .hbm, ⟨50, _⟩ => ⟨S3x384x512, .i32⟩
  | .hbm, ⟨51, _⟩ => ⟨S3x384x512, .i32⟩
  | .hbm, ⟨52, _⟩ => ⟨S3x384x512, .i32⟩
  | .hbm, ⟨53, _⟩ => ⟨S3x384x512, .i32⟩
  | .hbm, ⟨54, _⟩ => ⟨S_, .i32⟩
  | .hbm, ⟨55, _⟩ => ⟨S3x384x512, .i32⟩
  | .hbm, ⟨56, _⟩ => ⟨S3x384x512, .i32⟩
  | .hbm, ⟨57, _⟩ => ⟨S3x384x512, .i32⟩
  | .hbm, ⟨58, _⟩ => ⟨S3x384x512, .i32⟩
  | .hbm, ⟨59, _⟩ => ⟨S_, .i32⟩
  | .hbm, ⟨60, _⟩ => ⟨S3x384x512, .i32⟩
  | .hbm, ⟨61, _⟩ => ⟨S3x384x512, .i1⟩
  | .hbm, ⟨62, _⟩ => ⟨S_, .i32⟩
  | .hbm, ⟨63, _⟩ => ⟨S3x384x512, .i32⟩
  | .hbm, ⟨64, _⟩ => ⟨S3x384x512, .i1⟩
  | .hbm, ⟨65, _⟩ => ⟨S_, .i32⟩
  | .hbm, ⟨66, _⟩ => ⟨S3x384x512, .i32⟩
  | .hbm, ⟨67, _⟩ => ⟨S3x384x512, .i1⟩
  | .hbm, ⟨68, _⟩ => ⟨S3x384x512, .i1⟩
  | .hbm, ⟨69, _⟩ => ⟨S3x384x512, .i1⟩
  | .hbm, ⟨70, _⟩ => ⟨S_, .i32⟩
  | .hbm, ⟨71, _⟩ => ⟨S3x384x512, .i32⟩
  | .hbm, ⟨72, _⟩ => ⟨S3x384x512, .i1⟩
  | .hbm, ⟨73, _⟩ => ⟨S_, .i32⟩
  | .hbm, ⟨74, _⟩ => ⟨S3x384x512, .i32⟩
  | .hbm, ⟨75, _⟩ => ⟨S3x384x512, .i1⟩
  | .hbm, ⟨76, _⟩ => ⟨S3x384x512, .i1⟩
  | .hbm, ⟨77, _⟩ => ⟨S3x384x512, .i1⟩
  | .hbm, ⟨78, _⟩ => ⟨S_, .f32⟩
  | .hbm, ⟨79, _⟩ => ⟨S_, .f32⟩
  | .hbm, ⟨80, _⟩ => ⟨S3x384x512, .f32⟩
  | .hbm, ⟨81, _⟩ => ⟨S3x384x512, .f32⟩
  | .hbm, ⟨82, _⟩ => ⟨S3x384x512, .f32⟩
  | .hbm, ⟨83, _⟩ => ⟨S3x384x512, .f32⟩
  | .hbm, ⟨84, _⟩ => ⟨S8x4096x1024, .f32⟩
  | .local _ .vmem, ⟨0, _⟩ => ⟨S1x2x1024x128, .bf16⟩
  | .local _ .vmem, ⟨1, _⟩ => ⟨S1x2x1024x128, .bf16⟩
  | .local _ .vmem, ⟨2, _⟩ => ⟨S1x128x256, .bf16⟩
  | .local _ .vmem, ⟨3, _⟩ => ⟨S1x128x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x1x256x128, .bf16⟩
  | .local _ .vmem, ⟨9, _⟩ => ⟨S1x1x256x128, .bf16⟩
  | .local _ .vmem, ⟨10, _⟩ => ⟨S1x2x256x128, .bf16⟩
  | .local _ .vmem, ⟨11, _⟩ => ⟨S1x2x256x128, .bf16⟩
  | .local _ .vmem, ⟨12, _⟩ => ⟨S1x1x256x128, .bf16⟩
  | .local _ .vmem, ⟨13, _⟩ => ⟨S1x1x256x128, .bf16⟩
  | .local _ .vmem, ⟨14, _⟩ => ⟨S1x512x256, .bf16⟩
  | .local _ .vmem, ⟨15, _⟩ => ⟨S1x512x256, .bf16⟩
  | .local _ .vmem, ⟨16, _⟩ => ⟨S1x256x512, .bf16⟩
  | .local _ .vmem, ⟨17, _⟩ => ⟨S1x256x512, .bf16⟩
  | .local _ .vmem, ⟨18, _⟩ => ⟨S1x384x512, .f32⟩
  | .local _ .vmem, ⟨19, _⟩ => ⟨S1x384x512, .f32⟩
  | .local _ .vmem, ⟨20, _⟩ => ⟨S1x384x512, .f32⟩
  | .local _ .vmem, ⟨21, _⟩ => ⟨S1x384x512, .f32⟩
  | .local _ .vmem, ⟨22, _⟩ => ⟨S1x256x1024, .f32⟩
  | .local _ .vmem, ⟨23, _⟩ => ⟨S1x256x1024, .f32⟩
  | .local _ .vmem, ⟨24, _⟩ => ⟨S1x1x1024, .f32⟩
  | .local _ .vmem, ⟨25, _⟩ => ⟨S1x1x1024, .f32⟩
  | .local _ .vmem, ⟨26, _⟩ => ⟨S1024x1024, .bf16⟩
  | .local _ .vmem, ⟨27, _⟩ => ⟨S1x256x1024, .f32⟩
  | .local _ .vmem, ⟨28, _⟩ => ⟨S1x256x1024, .f32⟩
  | .local _ .vmem, ⟨29, _⟩ => ⟨S2x1024x128, .f32⟩
  | .local _ .smem, ⟨0, _⟩ => ⟨S16, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_call0_v0 : Ref sig .tc := ⟨.hbm, 32, rfl⟩
abbrev main_call0_c : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_1 : Ref sig .tc := ⟨.hbm, 39, rfl⟩
abbrev main_call0_v5 : Ref sig .tc := ⟨.hbm, 40, rfl⟩
abbrev main_call0_v6 : Ref sig .tc := ⟨.hbm, 41, rfl⟩
abbrev main_call0_c_2 : Ref sig .tc := ⟨.hbm, 42, rfl⟩
abbrev main_call0_v7 : Ref sig .tc := ⟨.hbm, 43, rfl⟩
abbrev main_call0_v8 : Ref sig .tc := ⟨.hbm, 44, rfl⟩
abbrev main_call0_c_3 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_v20 : Ref sig .tc := ⟨.hbm, 52, rfl⟩
abbrev main_v21 : Ref sig .tc := ⟨.hbm, 53, rfl⟩
abbrev main_c_1 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_c_2 : Ref sig .tc := ⟨.hbm, 59, rfl⟩
abbrev main_v26 : Ref sig .tc := ⟨.hbm, 60, rfl⟩
abbrev main_v27 : Ref sig .tc := ⟨.hbm, 61, rfl⟩
abbrev main_c_3 : Ref sig .tc := ⟨.hbm, 62, rfl⟩
abbrev main_v28 : Ref sig .tc := ⟨.hbm, 63, rfl⟩
abbrev main_v29 : Ref sig .tc := ⟨.hbm, 64, rfl⟩
abbrev main_c_4 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_c_5 : Ref sig .tc := ⟨.hbm, 70, rfl⟩
abbrev main_v34 : Ref sig .tc := ⟨.hbm, 71, rfl⟩
abbrev main_v35 : Ref sig .tc := ⟨.hbm, 72, rfl⟩
abbrev main_c_6 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_7 : Ref sig .tc := ⟨.hbm, 78, rfl⟩
abbrev main_cst_8 : Ref sig .tc := ⟨.hbm, 79, rfl⟩
abbrev main_call1_v0 : Ref sig .tc := ⟨.hbm, 80, rfl⟩
abbrev main_call1_v1 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c31_i32 : BitVec 32 := 31#32
  let v2 : BitVec 32 := Scalar.minsi v1 c31_i32
  let c0_i32 : BitVec 32 := 0#32
  let c0_i32_1 : BitVec 32 := 0#32
  ![arg0.toNat, v2.toNat, c0_i32.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c31_i32 : BitVec 32 := 31#32
  let v2 : BitVec 32 := Scalar.minsi v1 c31_i32
  let c0_i32 : BitVec 32 := 0#32
  let c0_i32_1 : BitVec 32 := 0#32
  let c0_i32_2 : BitVec 32 := 0#32
  ![arg0.toNat, v2.toNat, c0_i32.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let v2 : BitVec 1 := Scalar.cmpi .eq v1 c0_i32_0
  let c31_i32 : BitVec 32 := 31#32
  let v3 : BitVec 1 := Scalar.cmpi .eq v1 c31_i32
  let c2_i32_1 : BitVec 32 := 2#32
  let c1_i32 : BitVec 32 := 1#32
  let v4 : BitVec 32 := Scalar.select v3 c2_i32_1 c1_i32
  let c0_i32_2 : BitVec 32 := 0#32
  let v5 : BitVec 32 := Scalar.select v2 c0_i32_2 v4
  let c0_i32_3 : BitVec 32 := 0#32
  let c0_i32_4 : BitVec 32 := 0#32
  let c0_i32_5 : BitVec 32 := 0#32
  ![v5.toNat, c0_i32_3.toNat, c0_i32_4.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let v2 : BitVec 1 := Scalar.cmpi .eq v1 c0_i32
  let c31_i32 : BitVec 32 := 31#32
  let v3 : BitVec 1 := Scalar.cmpi .eq v1 c31_i32
  let c2_i32_0 : BitVec 32 := 2#32
  let c1_i32_1 : BitVec 32 := 1#32
  let v4 : BitVec 32 := Scalar.select v3 c2_i32_0 c1_i32_1
  let c0_i32_2 : BitVec 32 := 0#32
  let v5 : BitVec 32 := Scalar.select v2 c0_i32_2 v4
  let c0_i32_3 : BitVec 32 := 0#32
  let c0_i32_4 : BitVec 32 := 0#32
  let c0_i32_5 : BitVec 32 := 0#32
  ![v5.toNat, c0_i32_3.toNat, c0_i32_4.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x384x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x384x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x4096x1024 : Shape := ⟨3, ![8, 4096, 1024]⟩
abbrev S8x1x1024 : Shape := ⟨3, ![8, 1, 1024]⟩
abbrev S1024x1024 : Shape := ⟨2, ![1024, 1024]⟩
abbrev S8x4096x16x64 : Shape := ⟨4, ![8, 4096, 16, 64]⟩
abbrev S8x4096x4x64 : Shape := ⟨4, ![8, 4096, 4, 64]⟩
abbrev S16 : Shape := ⟨1, ![16]⟩
abbrev S8x512x4x64 : Shape := ⟨4, ![8, 512, 4, 64]⟩
abbrev S8x4096x4x4x64 : Shape := ⟨5, ![8, 4096, 4, 4, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4x4096x4096x4 : Shape := ⟨5, ![8, 4, 4096, 4096, 4]⟩
abbrev S8x4x4x4096x4096 : Shape := ⟨5, ![8, 4, 4, 4096, 4096]⟩
abbrev S8x4x512x4096x4 : Shape := ⟨5, ![8, 4, 512, 4096, 4]⟩
abbrev S8x4x4x4096x512 : Shape := ⟨5, ![8, 4, 4, 4096, 512]⟩
abbrev S1x4x4x1 : Shape := ⟨4, ![1, 4, 4, 1]⟩
abbrev S8x4x4x4096 : Shape := ⟨4, ![8, 4, 4, 4096]⟩
abbrev S8x4x4x4096x1 : Shape := ⟨5, ![8, 4, 4, 4096, 1]⟩
abbrev S8x4x64x4x4096 : Shape := ⟨5, ![8, 4, 64, 4, 4096]⟩
abbrev S8x4096x4x4 : Shape := ⟨4, ![8, 4096, 4, 4]⟩
abbrev S8x4096x4x4x1 : Shape := ⟨5, ![8, 4096, 4, 4, 1]⟩

abbrev nBuf : Space → Nat
  | .hbm => 74
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S1024x1024, .f32⟩
  | .hbm, ⟨3, _⟩ => ⟨S8x4096x16x64, .f32⟩
  | .hbm, ⟨4, _⟩ => ⟨S8x4096x4x64, .f32⟩
  | .hbm, ⟨5, _⟩ => ⟨S8x4096x4x64, .f32⟩
  | .hbm, ⟨6, _⟩ => ⟨S16, .f32⟩
  | .hbm, ⟨7, _⟩ => ⟨S8x512x4x64, .f32⟩
  | .hbm, ⟨8, _⟩ => ⟨S8x512x4x64, .f32⟩
  | .hbm, ⟨9, _⟩ => ⟨S8x4096x4x4x64, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S8x4x4096x4096x4, .f32⟩
  | .hbm, ⟨21, _⟩ => ⟨S8x4x4x4096x4096, .f32⟩
  | .hbm, ⟨22, _⟩ => ⟨S_, .f32⟩
  | .hbm, ⟨23, _⟩ => ⟨S8x4x4x4096x4096, .f32⟩
  | .hbm, ⟨24, _⟩ => ⟨S8x4x4x4096x4096, .f32⟩
  | .hbm, ⟨25, _⟩ => ⟨S_, .f32⟩
  | .hbm, ⟨26, _⟩ => ⟨S_, .f32⟩
  | .hbm, ⟨27, _⟩ => ⟨S8x4x4x4096x4096, .i1⟩
  | .hbm, ⟨28, _⟩ => ⟨S8x4x4x4096x4096, .f32⟩
  | .hbm, ⟨29, _⟩ => ⟨S8x4x4x4096x4096, .f32⟩
  | .hbm, ⟨30, _⟩ => ⟨S8x4x512x4096x4, .f32⟩
  | .hbm, ⟨31, _⟩ => ⟨S8x4x4x4096x512, .f32⟩
  | .hbm, ⟨32, _⟩ => ⟨S_, .f32⟩
  | .hbm, ⟨33, _⟩ => ⟨S8x4x4x4096x512, .f32⟩
  | .hbm, ⟨34, _⟩ => ⟨S8x4x4x4096x512, .f32⟩
  | .hbm, ⟨35, _⟩ => ⟨S1x4x4x1, .f32⟩
  | .hbm, ⟨36, _⟩ => ⟨S_, .f32⟩
  | .hbm, ⟨37, _⟩ => ⟨S8x4x4x4096, .f32⟩
  | .hbm, ⟨38, _⟩ => ⟨S8x4x4x4096, .f32⟩
  | .hbm, ⟨39, _⟩ => ⟨S8x4x4x4096, .f32⟩
  | .hbm, ⟨40, _⟩ => ⟨S_, .f32⟩
  | .hbm, ⟨41, _⟩ => ⟨S8x4x4x4096, .f32⟩
  | .hbm, ⟨42, _⟩ => ⟨S8x4x4x4096, .f32⟩
  | .hbm, ⟨43, _⟩ => ⟨S8x4x4x4096x1, .f32⟩
  | .hbm, ⟨44, _⟩ => ⟨S8x4x4x4096x4096, .f32⟩
  | .hbm, ⟨45, _⟩ => ⟨S8x4x4x4096x4096, .f32⟩
  | .hbm, ⟨46, _⟩ => ⟨S8x4x4x4096x4096, .f32⟩
  | .hbm, ⟨47, _⟩ => ⟨S8x4x4x4096x1, .f32⟩
  | .hbm, ⟨48, _⟩ => ⟨S8x4x4x4096x512, .f32⟩
  | .hbm, ⟨49, _⟩ => ⟨S8x4x4x4096x512, .f32⟩
  | .hbm, ⟨50, _⟩ => ⟨S8x4x4x4096x512, .f32⟩
  | .hbm, ⟨51, _⟩ => ⟨S8x4x4x4096, .f32⟩
  | .hbm, ⟨52, _⟩ => ⟨S8x4x4x4096, .f32⟩
  | .hbm, ⟨53, _⟩ => ⟨S8x4x4x4096, .f32⟩
  | .hbm, ⟨54, _⟩ => ⟨S_, .f32⟩
  | .hbm, ⟨55, _⟩ => ⟨S8x4x4x4096, .f32⟩
  | .hbm, ⟨56, _⟩ => ⟨S8x4x4x4096, .f32⟩
  | .hbm, ⟨57, _⟩ => ⟨S_, .f32⟩
  | .hbm, ⟨58, _⟩ => ⟨S8x4x4x4096, .f32⟩
  | .hbm, ⟨59, _⟩ => ⟨S8x4x4x4096, .f32⟩
  | .hbm, ⟨60, _⟩ => ⟨S8x4x64x4x4096, .f32⟩
  | .hbm, ⟨61, _⟩ => ⟨S8x4096x4x4x64, .f32⟩
  | .hbm, ⟨62, _⟩ => ⟨S8x4x64x4x4096, .f32⟩
  | .hbm, ⟨63, _⟩ => ⟨S8x4096x4x4x64, .f32⟩
  | .hbm, ⟨64, _⟩ => ⟨S8x4096x4x4x64, .f32⟩
  | .hbm, ⟨65, _⟩ => ⟨S8x4096x4x4, .f32⟩
  | .hbm, ⟨66, _⟩ => ⟨S8x4096x4x4x1, .f32⟩
  | .hbm, ⟨67, _⟩ => ⟨S8x4096x4x4x64, .f32⟩
  | .hbm, ⟨68, _⟩ => ⟨S8x4096x4x4x64, .f32⟩
  | .hbm, ⟨69, _⟩ => ⟨S8x4096x1024, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S8x1x1024 : Shape := ⟨3, ![8, 1, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1x512x1024 : Shape := ⟨3, ![1, 512, 1024]⟩
abbrev S1x8x1024 : Shape := ⟨3, ![1, 8, 1024]⟩
abbrev S1x1x1024 : Shape := ⟨3, ![1, 1, 1024]⟩
abbrev S528x1024 : Shape := ⟨2, ![528, 1024]⟩
abbrev S512x2816 : Shape := ⟨2, ![512, 2816]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S8x1024 : Shape := ⟨2, ![8, 1024]⟩
abbrev S8 : Shape := ⟨1, ![8]⟩
abbrev S8x1 : Shape := ⟨2, ![8, 1]⟩
abbrev S16x1024 : Shape := ⟨2, ![16, 1024]⟩
abbrev S1024x256 : Shape := ⟨2, ![1024, 256]⟩
abbrev S176x1024 : Shape := ⟨2, ![176, 1024]⟩
abbrev S176x256 : Shape := ⟨2, ![176, 256]⟩
abbrev S528x256 : Shape := ⟨2, ![528, 256]⟩
abbrev S512x256 : Shape := ⟨2, ![512, 256]⟩
abbrev S1x256 : Shape := ⟨2, ![1, 256]⟩
abbrev S3x256 : Shape := ⟨2, ![3, 256]⟩
abbrev S8x256 : Shape := ⟨2, ![8, 256]⟩
abbrev S504x256 : Shape := ⟨2, ![504, 256]⟩
abbrev S512x1024 : Shape := ⟨2, ![512, 1024]⟩

abbrev nBuf : Space → Nat
  | .hbm => 14
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024x5632, .bf16⟩
  | .hbm, ⟨10, _⟩ => ⟨S2816x1024, .bf16⟩
  | .hbm, ⟨11, _⟩ => ⟨S1x1024, .f32⟩
  | .hbm, ⟨12, _⟩ => ⟨S1x5632, .f32⟩
  | .hbm, ⟨13, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1024x5632, .bf16⟩
  | .local _ .vmem, ⟨14, _⟩ => ⟨S3x5632, .f32⟩
  | .local _ .vmem, ⟨15, _⟩ => ⟨S1x5632, .f32⟩
  | .local _ .vmem, ⟨16, _⟩ => ⟨S2816x1024, .bf16⟩
  | .local _ .vmem, ⟨17, _⟩ => ⟨S1x512x1024, .f32⟩
  | .local _ .vmem, ⟨18, _⟩ => ⟨S1x512x1024, .f32⟩
  | .local _ .vmem, ⟨19, _⟩ => ⟨S528x1024, .bf16⟩
  | .local _ .vmem, ⟨20, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8x4096x1024 : Shape := ⟨3, ![8, 4096, 1024]⟩
abbrev S1024 : Shape := ⟨1, ![1024]⟩
abbrev S8x1x1024 : Shape := ⟨3, ![8, 1, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩

abbrev nBuf : Space → Nat
  | .hbm => 75
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x5632, .f32⟩
  | .hbm, ⟨33, _⟩ => ⟨S_, .i32⟩
  | .hbm, ⟨34, _⟩ => ⟨S_, .f32⟩
  | .hbm, ⟨35, _⟩ => ⟨S8x4098x5632, .f32⟩
  | .hbm, ⟨36, _⟩ => ⟨S8x4096x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S8x4096x5632, .f32⟩
  | .hbm, ⟨41, _⟩ => ⟨S8x4096x5632, .f32⟩
  | .hbm, ⟨42, _⟩ => ⟨S8x4096x5632, .f32⟩
  | .hbm, ⟨43, _⟩ => ⟨S1x5632, .f32⟩
  | .hbm, ⟨44, _⟩ => ⟨S5632, .f32⟩
  | .hbm, ⟨45, _⟩ => ⟨S1x1x5632, .f32⟩
  | .hbm, ⟨46, _⟩ => ⟨S8x4096x5632, .f32⟩
  | .hbm, ⟨47, _⟩ => ⟨S8x4096x5632, .f32⟩
  | .hbm, ⟨48, _⟩ => ⟨S8x4096x5632, .f32⟩
  | .hbm, ⟨49, _⟩ => ⟨S8x4096x5632, .f32⟩
  | .hbm, ⟨50, _⟩ => ⟨S1x5632, .f32⟩
  | .hbm, ⟨51, _⟩ => ⟨S5632, .f32⟩
  | .hbm, ⟨52, _⟩ => ⟨S1x1x5632, .f32⟩
  | .hbm, ⟨53, _⟩ => ⟨S8x4096x5632, .f32⟩
  | .hbm, ⟨54, _⟩ => ⟨S8x4096x5632, .f32⟩
  | .hbm, ⟨55, _⟩ => ⟨S8x4096x5632, .f32⟩
  | .hbm, ⟨56, _⟩ => ⟨S1x1x5632, .f32⟩
  | .hbm, ⟨57, _⟩ => ⟨S8x4096x5632, .f32⟩
  | .hbm, ⟨58, _⟩ => ⟨S8x4096x5632, .f32⟩
  | .hbm, ⟨59, _⟩ => ⟨S8x4096x2816, .f32⟩
  | .hbm, ⟨60, _⟩ => ⟨S8x4096x2816, .f32⟩
  | .hbm, ⟨61, _⟩ => ⟨S8x4096x2816, .f32⟩
  | .hbm, ⟨62, _⟩ => ⟨S8x4096x2816, .f32⟩
  | .hbm, ⟨63, _⟩ => ⟨S_, .f32⟩
  | .hbm, ⟨64, _⟩ => ⟨S8x4096x2816, .f32⟩
  | .hbm, ⟨65, _⟩ => ⟨S8x4096x2816, .f32⟩
  | .hbm, ⟨66, _⟩ => ⟨S_, .f32⟩
  | .hbm, ⟨67, _⟩ => ⟨S8x4096x2816, .f32⟩
  | .hbm, ⟨68, _⟩ => ⟨S8x4096x2816, .f32⟩
  | .hbm, ⟨69, _⟩ => ⟨S8x4096x2816, .f32⟩
  | .hbm, ⟨70, _⟩ => ⟨S8x4096x2816, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_call0_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]
-- ==== Kernel3.lean ====
abbrev S32x256x1024 : Shape := ⟨3, ![32, 256, 1024]⟩
abbrev S1024 : Shape := ⟨1, ![1024]⟩
abbrev S1x1x1024 : Shape := ⟨3, ![1, 1, 1024]⟩
abbrev S1024x1536 : Shape := ⟨2, ![1024, 1536]⟩
abbrev S64 : Shape := ⟨1, ![64]⟩
abbrev S1024x128 : Shape := ⟨2, ![1024, 128]⟩
abbrev S_ : Shape := ⟨0, ![]⟩
abbrev S128x1024 : Shape := ⟨2, ![128, 1024]⟩
abbrev S64x1 : Shape := ⟨2, ![64, 1]⟩
abbrev S64x256 : Shape := ⟨2, ![64, 256]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S1x1024 : Shape := ⟨2, ![1, 1024]⟩
abbrev S256x128 : Shape := ⟨2, ![256, 128]⟩
abbrev S128x256 : Shape := ⟨2, ![128, 256]⟩
abbrev S32x2x1024x128 : Shape := ⟨4, ![32, 2, 1024, 128]⟩
abbrev S32x256x256 : Shape := ⟨3, ![32, 256, 256]⟩
abbrev S32x2x256x128 : Shape := ⟨4, ![32, 2, 256, 128]⟩
abbrev S1x256x1024 : Shape := ⟨3, ![1, 256, 1024]⟩
abbrev S1x2x1024x128 : Shape := ⟨4, ![1, 2, 1024, 128]⟩
abbrev S1x256x256 : Shape := ⟨3, ![1, 256, 256]⟩
abbrev S1x2x256x128 : Shape := ⟨4, ![1, 2, 256, 128]⟩
abbrev S256x1024 : Shape := ⟨2, ![256, 1024]⟩
abbrev S256x1 : Shape := ⟨2, ![256, 1]⟩
abbrev S256x1536 : Shape := ⟨2, ![256, 1536]⟩
abbrev S256x256 : Shape := ⟨2, ![256, 256]⟩
abbrev S1x1x256x128 : Shape := ⟨4, ![1, 1, 256, 128]⟩
abbrev S1024x256 : Shape := ⟨2, ![1024, 256]⟩
abbrev S64x128 : Shape := ⟨2, ![64, 128]⟩
abbrev S1x1x64x128 : Shape := ⟨4, ![1, 1, 64, 128]⟩

abbrev nBuf : Space → Nat
  | .hbm => 37
  | .vmem => 20
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1024x1536, .f32⟩
  | .hbm, ⟨5, _⟩ => ⟨S64, .f32⟩
  | .hbm, ⟨6, _⟩ => ⟨S64, .f32⟩
  | .hbm, ⟨7, _⟩ => ⟨S1024x1536, .bf16⟩
  | .hbm, ⟨8, _⟩ => ⟨S1024x128, .i32⟩
  | .hbm, ⟨9, _⟩ => ⟨S_, .i32⟩
  | .hbm, ⟨10, _⟩ => ⟨S1024x128, .i32⟩
  | .hbm, ⟨11, _⟩ => ⟨S1024x128, .i32⟩
  | .hbm, ⟨12, _⟩ => ⟨S1024x128, .i32⟩
  | .hbm, ⟨13, _⟩ => ⟨S1024x128, .i1⟩
  | .hbm, ⟨14, _⟩ => ⟨S_, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S1024x128, .f32⟩
  | .hbm, ⟨20, _⟩ => ⟨S1024x128, .bf16⟩
  | .hbm, ⟨21, _⟩ => ⟨S128x1024, .f32⟩
  | .hbm, ⟨22, _⟩ => ⟨S128x1024, .bf16⟩
  | .hbm, ⟨23, _⟩ => ⟨S64x1, .f32⟩
  | .hbm, ⟨24, _⟩ => ⟨S64x256, .f32⟩
  | .hbm, ⟨25, _⟩ => ⟨S1x64, .f32⟩
  | .hbm, ⟨26, _⟩ => ⟨S4x64, .f32⟩
  | .hbm, ⟨27, _⟩ => ⟨S256, .f32⟩
  | .hbm, ⟨28, _⟩ => ⟨S1x256, .f32⟩
  | .hbm, ⟨29, _⟩ => ⟨S1x1024, .f32⟩
  | .hbm, ⟨30, _⟩ => ⟨S256x128, .bf16⟩
  | .hbm, ⟨31, _⟩ => ⟨S128x256, .bf16⟩
  | .hbm, ⟨32, _⟩ => ⟨S32x2x1024x128, .bf16⟩
  | .hbm, ⟨33, _⟩ => ⟨S32x256x256, .bf16⟩
  | .hbm, ⟨34, _⟩ => ⟨S32x2x256x128, .bf16⟩
  | .hbm, ⟨35, _⟩ => ⟨S32x256x256, .f32⟩
  | .hbm, ⟨36, _⟩ => ⟨S32x256x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1024x1536, .bf16⟩
  | .local _ .vmem, ⟨6, _⟩ => ⟨S64x256, .f32⟩
  | .local _ .vmem, ⟨7, _⟩ => ⟨S1x256, .f32⟩
  | .local _ .vmem, ⟨8, _⟩ => ⟨S256x128, .bf16⟩
  | .local _ .vmem, ⟨9, _⟩ => ⟨S128x256, .bf16⟩
  | .local _ .vmem, ⟨10, _⟩ => ⟨S1x2x1024x128, .bf16⟩
  | .local _ .vmem, ⟨11, _⟩ => ⟨S1x2x1024x128, .bf16⟩
  | .local _ .vmem, ⟨12, _⟩ => ⟨S1x256x256, .bf16⟩
  | .local _ .vmem, ⟨13, _⟩ => ⟨S1x256x256, .bf16⟩
  | .local _ .vmem, ⟨14, _⟩ => ⟨S1x2x256x128, .bf16⟩
  | .local _ .vmem, ⟨15, _⟩ => ⟨S1x2x256x128, .bf16⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v20_3 : Ref sig .tc := ⟨.hbm, 35, rfl⟩
abbrev main_v20_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S32x256x1024 : Shape := ⟨3, ![32, 256, 1024]⟩
abbrev S1024 : Shape := ⟨1, ![1024]⟩
abbrev S1x1x1024 : Shape := ⟨3, ![1, 1, 1024]⟩
abbrev S1024x1536 : Shape := ⟨2, ![1024, 1536]⟩
abbrev S64 : Shape := ⟨1, ![64]⟩
abbrev S_ : Shape := ⟨0, ![]⟩
abbrev S32x256 : Shape := ⟨2, ![32, 256]⟩
abbrev S32x256x1 : Shape := ⟨3, ![32, 256, 1]⟩
abbrev S32x256x1536 : Shape := ⟨3, ![32, 256, 1536]⟩
abbrev S32x256x256 : Shape := ⟨3, ![32, 256, 256]⟩
abbrev S32x256x16x64 : Shape := ⟨4, ![32, 256, 16, 64]⟩
abbrev S32x256x16 : Shape := ⟨3, ![32, 256, 16]⟩
abbrev S32x256x16x1 : Shape := ⟨4, ![32, 256, 16, 1]⟩
abbrev S1x1x1x64 : Shape := ⟨4, ![1, 1, 1, 64]⟩
abbrev S32x256x4x64 : Shape := ⟨4, ![32, 256, 4, 64]⟩
abbrev S32x256x4 : Shape := ⟨3, ![32, 256, 4]⟩
abbrev S32x256x4x1 : Shape := ⟨4, ![32, 256, 4, 1]⟩
abbrev S32x2x128x1024 : Shape := ⟨4, ![32, 2, 128, 1024]⟩
abbrev S32x2x1024x128 : Shape := ⟨4, ![32, 2, 1024, 128]⟩
abbrev S32x2x128x256 : Shape := ⟨4, ![32, 2, 128, 256]⟩
abbrev S32x2x256x128 : Shape := ⟨4, ![32, 2, 256, 128]⟩

abbrev nBuf : Space → Nat
  | .hbm => 77
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1024x1536, .f32⟩
  | .hbm, ⟨5, _⟩ => ⟨S64, .f32⟩
  | .hbm, ⟨6, _⟩ => ⟨S64, .f32⟩
  | .hbm, ⟨7, _⟩ => ⟨S32x256x1024, .f32⟩
  | .hbm, ⟨8, _⟩ => ⟨S_, .f32⟩
  | .hbm, ⟨9, _⟩ => ⟨S32x256, .f32⟩
  | .hbm, ⟨10, _⟩ => ⟨S32x256x1, .f32⟩
  | .hbm, ⟨11, _⟩ => ⟨S_, .f32⟩
  | .hbm, ⟨12, _⟩ => ⟨S32x256x1, .f32⟩
  | .hbm, ⟨13, _⟩ => ⟨S32x256x1, .f32⟩
  | .hbm, ⟨14, _⟩ => ⟨S_, .f32⟩
  | .hbm, ⟨15, _⟩ => ⟨S32x256x1, .f32⟩
  | .hbm, ⟨16, _⟩ => ⟨S32x256x1, .f32⟩
  | .hbm, ⟨17, _⟩ => ⟨S32x256x1, .f32⟩
  | .hbm, ⟨18, _⟩ => ⟨S32x256x1024, .f32⟩
  | .hbm, ⟨19, _⟩ => ⟨S32x256x1024, .f32⟩
  | .hbm, ⟨20, _⟩ => ⟨S1x1x1024, .f32⟩
  | .hbm, ⟨21, _⟩ => ⟨S32x256x1024, .f32⟩
  | .hbm, ⟨22, _⟩ => ⟨S32x256x1024, .f32⟩
  | .hbm, ⟨23, _⟩ => ⟨S_, .f32⟩
  | .hbm, ⟨24, _⟩ => ⟨S1x1x1024, .f32⟩
  | .hbm, ⟨25, _⟩ => ⟨S1x1x1024, .f32⟩
  | .hbm, ⟨26, _⟩ => ⟨S32x256x1024, .f32⟩
  | .hbm, ⟨27, _⟩ => ⟨S32x256x1024, .f32⟩
  | .hbm, ⟨28, _⟩ => ⟨S32x256x1024, .f32⟩
  | .hbm, ⟨29, _⟩ => ⟨S32x256x1024, .f32⟩
  | .hbm, ⟨30, _⟩ => ⟨S32x256x1536, .f32⟩
  | .hbm, ⟨31, _⟩ => ⟨S32x256x1024, .f32⟩
  | .hbm, ⟨32, _⟩ => ⟨S32x256x256, .f32⟩
  | .hbm, ⟨33, _⟩ => ⟨S32x256x256, .f32⟩
  | .hbm, ⟨34, _⟩ => ⟨S32x256x16x64, .f32⟩
  | .hbm, ⟨35, _⟩ => ⟨S32x256x16x64, .f32⟩
  | .hbm, ⟨36, _⟩ => ⟨S_, .f32⟩
  | .hbm, ⟨37, _⟩ => ⟨S32x256x16, .f32⟩
  | .hbm, ⟨38, _⟩ => ⟨S32x256x16x1, .f32⟩
  | .hbm, ⟨39, _⟩ => ⟨S_, .f32⟩
  | .hbm, ⟨40, _⟩ => ⟨S32x256x16x1, .f32⟩
  | .hbm, ⟨41, _⟩ => ⟨S32x256x16x1, .f32⟩
  | .hbm, ⟨42, _⟩ => ⟨S_, .f32⟩
  | .hbm, ⟨43, _⟩ => ⟨S32x256x16x1, .f32⟩
  | .hbm, ⟨44, _⟩ => ⟨S32x256x16x1, .f32⟩
  | .hbm, ⟨45, _⟩ => ⟨S32x256x16x1, .f32⟩
  | .hbm, ⟨46, _⟩ => ⟨S32x256x16x64, .f32⟩
  | .hbm, ⟨47, _⟩ => ⟨S32x256x16x64, .f32⟩
  | .hbm, ⟨48, _⟩ => ⟨S1x1x1x64, .f32⟩
  | .hbm, ⟨49, _⟩ => ⟨S32x256x16x64, .f32⟩
  | .hbm, ⟨50, _⟩ => ⟨S32x256x16x64, .f32⟩
  | .hbm, ⟨51, _⟩ => ⟨S32x256x1024, .f32⟩
  | .hbm, ⟨52, _⟩ => ⟨S32x256x4x64, .f32⟩
  | .hbm, ⟨53, _⟩ => ⟨S32x256x4x64, .f32⟩
  | .hbm, ⟨54, _⟩ => ⟨S_, .f32⟩
  | .hbm, ⟨55, _⟩ => ⟨S32x256x4, .f32⟩
  | .hbm, ⟨56, _⟩ => ⟨S32x256x4x1, .f32⟩
  | .hbm, ⟨57, _⟩ => ⟨S_, .f32⟩
  | .hbm, ⟨58, _⟩ => ⟨S32x256x4x1, .f32⟩
  | .hbm, ⟨59, _⟩ => ⟨S32x256x4x1, .f32⟩
  | .hbm, ⟨60, _⟩ => ⟨S_, .f32⟩
  | .hbm, ⟨61, _⟩ => ⟨S32x256x4x1, .f32⟩
  | .hbm, ⟨62, _⟩ => ⟨S32x256x4x1, .f32⟩
  | .hbm, ⟨63, _⟩ => ⟨S32x256x4x1, .f32⟩
  | .hbm, ⟨64, _⟩ => ⟨S32x256x4x64, .f32⟩
  | .hbm, ⟨65, _⟩ => ⟨S32x256x4x64, .f32⟩
  | .hbm, ⟨66, _⟩ => ⟨S1x1x1x64, .f32⟩
  | .hbm, ⟨67, _⟩ => ⟨S32x256x4x64, .f32⟩
  | .hbm, ⟨68, _⟩ => ⟨S32x256x4x64, .f32⟩
  | .hbm, ⟨69, _⟩ => ⟨S32x256x256, .f32⟩
  | .hbm, ⟨70, _⟩ => ⟨S32x2x128x1024, .f32⟩
  | .hbm, ⟨71, _⟩ => ⟨S32x2x1024x128, .f32⟩
  | .hbm, ⟨72, _⟩ => ⟨S32x2x1024x128, .bf16⟩
  | .hbm, ⟨73, _⟩ => ⟨S32x256x256, .bf16⟩
  | .hbm, ⟨74, _⟩ => ⟨S32x2x128x256, .f32⟩
  | .hbm, ⟨75, _⟩ => ⟨S32x2x256x128, .f32⟩
  | .hbm, ⟨76, _⟩ => ⟨S32x2x256x128, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩

abbrev nD : Nat := 1
abbrev τ : Topo := Topo.v7x

variable {F : FTy → Type} [FloatOps F]
-- ==== Proof.Attn.Group.lean ====
/- What one key/value head's group of four query heads computes from its staged blocks, and its value at an index. -/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Attn

open Cert.KernelIdeal Cert.KernelIdeal.Gen

/-- The pattern of minus infinity is the bottom element. -/
theorem ofBits_neg_inf : Ideal.ofBits .f32 0xFF800000#32 = ⊥ := by simp [Ideal.ofBits, Ideal.ieee]

/-- Scores of the 384 window keys against the group's 512 query columns, with the band's bias added. -/
def winScores (kS : FVec Ideal S384x64 .bf16) (bias : FVec Ideal S384x512 .f32) (q : FVec Ideal S64x512 .bf16) : FVec Ideal S384x512 .f32 :=
  addf (matmul dot_S384x64_S64x512_S384x512_1_0_0_1_n_n none kS q (constant S384x512 .f32 0x00000000#32)) bias

/-- Scores of the 512 context keys against the group's 512 query columns. -/
def ctxScores (cS : FVec Ideal S512x64 .bf16) (q : FVec Ideal S64x512 .bf16) : FVec Ideal S512x512 .f32 :=
  matmul dot_S512x64_S64x512_S512x512_1_0_0_1_n_n none cS q (constant S512x512 .f32 0x00000000#32)

/-- The column maximum: the sink, the window scores, then the context scores. -/
def colMax (sk : FVec Ideal S1x512 .f32) (sw : FVec Ideal S384x512 .f32) (sc : FVec Ideal S512x512 .f32) : FVec Ideal S1x512 .f32 :=
  maximumf (maximumf sk (shapeCast S1x512 (multiReduction .maximumf [0] S512 sw 0xFF800000#32 reduces_S384x512_S512 (.inl rfl) rfl) shapeCasts_S512_S1x512))
    (shapeCast S1x512 (multiReduction .maximumf [0] S512 sc 0xFF800000#32 reduces_S512x512_S512 (.inl rfl) rfl) shapeCasts_S512_S1x512)

/-- The weighted values with sixteen rows of ones below them: rows 0..63 are the numerators, row 64 the sum of the weights. -/
def accum (vS : FVec Ideal S64x384 .bf16) (cvS : FVec Ideal S64x512 .bf16) (sw : FVec Ideal S384x512 .f32) (sc : FVec Ideal S512x512 .f32)
    (m : FVec Ideal S1x512 .f32) : FVec Ideal S80x512 .f32 :=
  addf (addf (broadcast S80x512 (Scalar.ofBits .f32 0x00000000#32))
      (matmul dot_S80x384_S384x512_S80x512_1_0_0_1_n_n none
        (concatenate S80x384 0 [⟨S64x384, vS⟩, ⟨S16x384, broadcast S16x384 (Scalar.ofBits (F := Ideal) .bf16 0x3F80#16)⟩] concatenates_S64x384_S16x384_S80x384_d0)
        (truncf .bf16 (exp2 (subf sw (broadcastTo S384x512 m broadcasts_S1x512_S384x512))) bitsLt_bf16_f32) (constant S80x512 .f32 0x00000000#32)))
    (matmul dot_S80x512_S512x512_S80x512_1_0_0_1_n_n none
      (concatenate S80x512 0 [⟨S64x512, cvS⟩, ⟨S16x512, broadcast S16x512 (Scalar.ofBits (F := Ideal) .bf16 0x3F80#16)⟩] concatenates_S64x512_S16x512_S80x512_d0)
      (truncf .bf16 (exp2 (subf sc (broadcastTo S512x512 m broadcasts_S1x512_S512x512))) bitsLt_bf16_f32) (constant S80x512 .f32 0x00000000#32))

/-- The group's output: the numerators over the sink's weight plus the sum of the weights. -/
def groupOut (vS : FVec Ideal S64x384 .bf16) (cvS : FVec Ideal S64x512 .bf16) (sk : FVec Ideal S1x512 .f32) (sw : FVec Ideal S384x512 .f32)
    (sc : FVec Ideal S512x512 .f32) (m : FVec Ideal S1x512 .f32) : FVec Ideal S64x512 .f32 :=
  divf (extractStridedSlice S64x512 ![0, 0] (accum vS cvS sw sc m) slices_S80x512_o0_0_S64x512)
    (broadcastTo S64x512 (addf (exp2 (subf sk m)) (extractStridedSlice S1x512 ![64, 0] (accum vS cvS sw sc m) slices_S80x512_o64_0_S1x512)) broadcasts_S1x512_S64x512)

/-- A window score at a key and a column. -/
theorem winScores_at (kS : FVec Ideal S384x64 .bf16) (bias : FVec Ideal S384x512 .f32) (q : FVec Ideal S64x512 .bf16) (s : Fin 384) (c : Fin 512) :
    winScores kS bias q (ix2 s c) = (∑ e : Fin 64, kS (ix2 s e) * q (ix2 e c)) + bias (ix2 s c) := by
  pointwise! [winScores]

/-- A context score at a key and a column. -/
theorem ctxScores_at (cS : FVec Ideal S512x64 .bf16) (q : FVec Ideal S64x512 .bf16) (s : Fin 512) (c : Fin 512) :
    ctxScores cS q (ix2 s c) = ∑ e : Fin 64, cS (ix2 s e) * q (ix2 e c) := by
  pointwise! [ctxScores]

/-- The column maximum at a column. -/
theorem colMax_at (sk : FVec Ideal S1x512 .f32) (sw : FVec Ideal S384x512 .f32) (sc : FVec Ideal S512x512 .f32) (c : Fin 512) :
    colMax sk sw sc (ix2 0 c) = max (max (sk (ix2 0 c)) (Finset.univ.fold max ⊥ fun s : Fin 384 => sw (ix2 s c)))
      (Finset.univ.fold max ⊥ fun s : Fin 512 => sc (ix2 s c)) := by
  pointwise [colMax]
  rw [ofBits_neg_inf]

/-- The group's output at a value lane and a column. -/
theorem groupOut_at (vS : FVec Ideal S64x384 .bf16) (cvS : FVec Ideal S64x512 .bf16) (sk : FVec Ideal S1x512 .f32) (sw : FVec Ideal S384x512 .f32)
    (sc : FVec Ideal S512x512 .f32) (m : FVec Ideal S1x512 .f32) (e : Fin 64) (c : Fin 512) :
    groupOut vS cvS sk sw sc m (ix2 e c) = Ideal.div
      ((∑ s : Fin 384, vS (ix2 e s) * Ideal.exp2 (sw (ix2 s c) - m (ix2 0 c))) + ∑ s : Fin 512, cvS (ix2 e s) * Ideal.exp2 (sc (ix2 s c) - m (ix2 0 c)))
      (Ideal.exp2 (sk (ix2 0 c) - m (ix2 0 c)) +
        ((∑ s : Fin 384, Ideal.exp2 (sw (ix2 s c) - m (ix2 0 c))) + ∑ s : Fin 512, Ideal.exp2 (sc (ix2 s c) - m (ix2 0 c)))) := by
  pointwise [groupOut, accum]
  rfl

end Cert.KernelIdeal.Attn
-- ==== Proof.Attn.Loads.lean ====
/- What a head's group computes from the loaded tiles, and the tiles as parts of the staged blocks. -/
module

public import proofs.«01_k».proof.Proof.Attn.Group
public import Idealize.ShloMosaic.Lib.Pipeline.ValueKit

@[expose] public section

set_option maxRecDepth 16384

noncomputable section

open Idealize.ShloMosaic Idealize.ShloMosaic.TcCoe Idealize.SL.Sem

namespace Cert.KernelIdeal.Attn

open Cert.KernelIdeal Cert.KernelIdeal.Gen

/-- The slice of one head's key columns lies in the window's keys. -/
theorem winKeySlice : ∀ kh : Fin 4, S384x256.Slices ![0, 64 * kh.val] S384x64 := by decide

/-- The slice of one head's key columns lies in the context's keys. -/
theorem ctxKeySlice : ∀ kh : Fin 4, S512x256.Slices ![0, 64 * kh.val] S512x64 := by decide

/-- The slice of one head's value rows lies in the window's values. -/
theorem winValSlice : ∀ kh : Fin 4, S256x384.Slices ![64 * kh.val, 0] S64x384 := by decide

/-- The slice of one head's value rows lies in the context's values. -/
theorem ctxValSlice : ∀ kh : Fin 4, S256x512.Slices ![64 * kh.val, 0] S64x512 := by decide

/-- Three key tiles one below the other. -/
def keys3 (k0 k1 k2 : FVec Ideal S1x128x256 .bf16) : FVec Ideal S384x256 .bf16 :=
  concatenate S384x256 0 [⟨S128x256, shapeCast S128x256 k0 shapeCasts_S1x128x256_S128x256⟩, ⟨S128x256, shapeCast S128x256 k1 shapeCasts_S1x128x256_S128x256⟩,
    ⟨S128x256, shapeCast S128x256 k2 shapeCasts_S1x128x256_S128x256⟩] concatenates_S128x256_S128x256_S128x256_S384x256_d0

/-- Three value tiles side by side. -/
def vals3 (v0 v1 v2 : FVec Ideal S1x1x256x128 .bf16) : FVec Ideal S256x384 .bf16 :=
  concatenate S256x384 1 [⟨S256x128, shapeCast S256x128 v0 shapeCasts_S1x1x256x128_S256x128⟩, ⟨S256x128, shapeCast S256x128 v1 shapeCasts_S1x1x256x128_S256x128⟩,
    ⟨S256x128, shapeCast S256x128 v2 shapeCasts_S1x1x256x128_S256x128⟩] concatenates_S256x128_S256x128_S256x128_S256x384_d1

/-- Four heads' queries side by side. -/
def queries4 (q0 q1 q2 q3 : FVec Ideal S1x1x64x128 .bf16) : FVec Ideal S64x512 .bf16 := k0_pay13 q0 q1 q2 q3

/-- Four heads' sinks in base two, each over its 128 columns. -/
def sinks4 (s0 s1 s2 s3 : EReal) : FVec Ideal S1x512 .f32 := k0_pay14 (F := Ideal) s0 s1 s2 s3

/-- One group's window scores from its tiles. -/
def tileWin (kh : Fin 4) (k0 k1 k2 : FVec Ideal S1x128x256 .bf16) (b : FVec Ideal S1x384x512 .f32) (q0 q1 q2 q3 : FVec Ideal S1x1x64x128 .bf16) :
    FVec Ideal S384x512 .f32 :=
  winScores (extractStridedSlice S384x64 ![0, 64 * kh.val] (keys3 k0 k1 k2) (winKeySlice kh)) (shapeCast S384x512 b shapeCasts_S1x384x512_S384x512) (queries4 q0 q1 q2 q3)

/-- One group's context scores from its tiles. -/
def tileCtx (kh : Fin 4) (ck : FVec Ideal S1x512x256 .bf16) (q0 q1 q2 q3 : FVec Ideal S1x1x64x128 .bf16) : FVec Ideal S512x512 .f32 :=
  ctxScores (extractStridedSlice S512x64 ![0, 64 * kh.val] (shapeCast S512x256 ck shapeCasts_S1x512x256_S512x256) (ctxKeySlice kh)) (queries4 q0 q1 q2 q3)

/-- One group's output from its tiles. -/
def tileOut (kh : Fin 4) (k0 k1 k2 : FVec Ideal S1x128x256 .bf16) (v0 v1 v2 : FVec Ideal S1x1x256x128 .bf16) (b : FVec Ideal S1x384x512 .f32)
    (ck : FVec Ideal S1x512x256 .bf16) (cv : FVec Ideal S1x256x512 .bf16) (q0 q1 q2 q3 : FVec Ideal S1x1x64x128 .bf16) (s0 s1 s2 s3 : EReal) :
    FVec Ideal S64x512 .f32 :=
  groupOut (extractStridedSlice S64x384 ![64 * kh.val, 0] (vals3 v0 v1 v2) (winValSlice kh))
    (extractStridedSlice S64x512 ![64 * kh.val, 0] (shapeCast S256x512 cv shapeCasts_S1x256x512_S256x512) (ctxValSlice kh))
    (sinks4 s0 s1 s2 s3) (tileWin kh k0 k1 k2 b q0 q1 q2 q3) (tileCtx kh ck q0 q1 q2 q3)
    (colMax (sinks4 s0 s1 s2 s3) (tileWin kh k0 k1 k2 b q0 q1 q2 q3) (tileCtx kh ck q0 q1 q2 q3))

/-- Half `o` of the staged centre keys. -/
def keyHalf (x : FVec Ideal S1x256x256 .bf16) (o : Fin 2) : FVec Ideal S1x128x256 .bf16 := fun j => x (ix3 0 ⟨128 * o.val + (j 1).val, by have := (j 1).isLt; have : (j 1).val < 128 := this; omega⟩ (j 2))

/-- Half `o` of the staged centre values. -/
def valHalf (x : FVec Ideal S1x2x256x128 .bf16) (o : Fin 2) : FVec Ideal S1x1x256x128 .bf16 := fun j => x (ix4 0 o (j 2) (j 3))

/-- Head `h`'s queries of query block `qb`. -/
def headQ (x : FVec Ideal S1x2x1024x128 .bf16) (qb : Fin 2) (h : Fin 16) : FVec Ideal S1x1x64x128 .bf16 :=
  fun j => x (ix4 0 qb ⟨64 * h.val + (j 2).val, by have := (j 2).isLt; have : (j 2).val < 64 := this; omega⟩ (j 3))

/-- Half `o` of the staged rows of `x`. -/
def rowHalf (x : FVec Ideal S1x256x1024 .f32) (o : Fin 2) : FVec Ideal S1x128x1024 .f32 :=
  fun j => x (ix3 0 ⟨128 * o.val + (j 1).val, by have := (j 1).isLt; have : (j 1).val < 128 := this; omega⟩ (j 2))

variable {κd : Kind}

/-- A load of one head's queries. -/
theorem load_headQ (a : Memref sig .tc .vmem S1x2x1024x128 .bf16) (h : a.IsWhole) (x : Vec Ideal S1x2x1024x128 .bf16) (qb : Fin 2) (hd : Fin 16)
    (off : Fin 4 → ℕ) (e : off = ![0, qb.val, 64 * hd.val, 0]) (inb : ∀ i, off i + S1x1x64x128.size i ≤ S1x2x1024x128.size i) :
    View.readAt (Elt Ideal) a.view (Rect.unit (s := S1x2x1024x128) off S1x1x64x128.size inb).toLoadRect (h.unread x) = headQ x qb hd := by
  subst e
  rw [View.readAt_eq_ld, h.read_unread]
  funext j
  refine View.ld_unit_apply_of x _ _ inb j _ fun a => ?_
  idx_bounds_all
  fin_cases a <;> simp <;> omega

/-- A load of a half of the centre keys. -/
theorem load_keyHalf (a : Memref sig .tc .vmem S1x256x256 .bf16) (h : a.IsWhole) (x : Vec Ideal S1x256x256 .bf16) (o : Fin 2)
    (off : Fin 3 → ℕ) (e : off = ![0, 128 * o.val, 0]) (inb : ∀ i, off i + S1x128x256.size i ≤ S1x256x256.size i) :
    View.readAt (Elt Ideal) a.view (Rect.unit (s := S1x256x256) off S1x128x256.size inb).toLoadRect (h.unread x) = keyHalf x o := by
  subst e
  rw [View.readAt_eq_ld, h.read_unread]
  funext j
  refine View.ld_unit_apply_of x _ _ inb j _ fun a => ?_
  idx_bounds_all
  fin_cases a <;> simp <;> omega

/-- A load of a half of the centre values. -/
theorem load_valHalf (a : Memref sig .tc .vmem S1x2x256x128 .bf16) (h : a.IsWhole) (x : Vec Ideal S1x2x256x128 .bf16) (o : Fin 2)
    (off : Fin 4 → ℕ) (e : off = ![0, o.val, 0, 0]) (inb : ∀ i, off i + S1x1x256x128.size i ≤ S1x2x256x128.size i) :
    View.readAt (Elt Ideal) a.view (Rect.unit (s := S1x2x256x128) off S1x1x256x128.size inb).toLoadRect (h.unread x) = valHalf x o := by
  subst e
  rw [View.readAt_eq_ld, h.read_unread]
  funext j
  refine View.ld_unit_apply_of x _ _ inb j _ fun a => ?_
  idx_bounds_all
  fin_cases a <;> simp <;> omega

/-- A load of a half of the rows. -/
theorem load_rowHalf (a : Memref sig .tc .vmem S1x256x1024 .f32) (h : a.IsWhole) (x : Vec Ideal S1x256x1024 .f32) (o : Fin 2)
    (off : Fin 3 → ℕ) (e : off = ![0, 128 * o.val, 0]) (inb : ∀ i, off i + S1x128x1024.size i ≤ S1x256x1024.size i) :
    View.readAt (Elt Ideal) a.view (Rect.unit (s := S1x256x1024) off S1x128x1024.size inb).toLoadRect (h.unread x) = rowHalf x o := by
  subst e
  rw [View.readAt_eq_ld, h.read_unread]
  funext j
  refine View.ld_unit_apply_of x _ _ inb j _ fun a => ?_
  idx_bounds_all
  fin_cases a <;> simp <;> omega

/-- A load of one sink. -/
theorem load_sink (a : Memref sig .tc .smem S16 .f32) (h : a.IsWhole) (x : Vec Ideal S16 .f32) (hd : Fin 16)
    (off : Fin 1 → ℕ) (e : off = ![hd.val]) (inb : ∀ i, off i + S1.size i ≤ S16.size i) (p) :
    View.readAt (Elt Ideal) a.view (Rect.unit (s := S16) off S1.size inb).toLoadRect (h.unread x) (Shape.Idx.first p) = x (ix1 hd) := by
  subst e
  rw [View.readAt_eq_ld, h.read_unread]
  refine View.ld_unit_apply_of x _ _ inb _ _ fun a => ?_
  fin_cases a; rfl

/-- A load of a whole staged block. -/
theorem load_whole {sp : Space} {S : Shape} {φ : EltTy} (a : Memref sig .tc sp S φ) (h : a.IsWhole) (x : Vec Ideal S φ)
    (off : Fin S.rank → ℕ) (e : ∀ i, off i = 0) (inb : ∀ i, off i + S.size i ≤ S.size i) :
    View.readAt (Elt Ideal) a.view (Rect.unit (s := S) off S.size inb).toLoadRect (h.unread x) = x := by
  rw [View.readAt_eq_ld, h.read_unread]
  exact View.ld_unit_lit inb x e

end Cert.KernelIdeal.Attn
-- ==== Proof.Attn.Words.lean ====
/- The kernel's group results, scratch pieces and output tiles in closed form. -/
module

public import proofs.«01_k».proof.Proof.Gen.KernelIdeal.Frame
public import proofs.«01_k».proof.Proof.Attn.Loads
public import Idealize.ShloMosaic.Lib.Pipeline.ReadBack

@[expose] public section

set_option maxRecDepth 16384

noncomputable section

open Idealize.ShloMosaic Idealize.ShloMosaic.TcCoe Idealize.SL.Sem

namespace Cert.KernelIdeal.Attn

open Cert.KernelIdeal Cert.KernelIdeal.Gen

/-- A group's output depends on its tiles only. -/
theorem tileOut_congr {kh : Fin 4} {k0 k0' k1 k1' k2 k2' : FVec Ideal S1x128x256 .bf16} {v0 v0' v1 v1' v2 v2' : FVec Ideal S1x1x256x128 .bf16}
    {b b' : FVec Ideal S1x384x512 .f32} {ck ck' : FVec Ideal S1x512x256 .bf16} {cv cv' : FVec Ideal S1x256x512 .bf16}
    {q0 q0' q1 q1' q2 q2' q3 q3' : FVec Ideal S1x1x64x128 .bf16} {s0 s0' s1 s1' s2 s2' s3 s3' : EReal}
    (a0 : k0 = k0') (a1 : k1 = k1') (a2 : k2 = k2') (a3 : v0 = v0') (a4 : v1 = v1') (a5 : v2 = v2') (a6 : b = b') (a7 : ck = ck') (a8 : cv = cv')
    (a9 : q0 = q0') (a10 : q1 = q1') (a11 : q2 = q2') (a12 : q3 = q3') (a13 : s0 = s0') (a14 : s1 = s1') (a15 : s2 = s2') (a16 : s3 = s3') :
    tileOut kh k0 k1 k2 v0 v1 v2 b ck cv q0 q1 q2 q3 s0 s1 s2 s3 = tileOut kh k0' k1' k2' v0' v1' v2' b' ck' cv' q0' q1' q2' q3' s0' s1' s2' s3' := by
  subst a0 a1 a2 a3 a4 a5 a6 a7 a8 a9 a10 a11 a12 a13 a14 a15 a16; rfl

/-- Query block 0's result for key/value head `kh`, from the staged blocks. -/
def first (x0 : Vec Ideal S16 .f32) (x1 : Vec Ideal S1x2x1024x128 .bf16) (x2 : Vec Ideal S1x128x256 .bf16) (x3 : Vec Ideal S1x256x256 .bf16)
    (x5 : Vec Ideal S1x1x256x128 .bf16) (x6 : Vec Ideal S1x2x256x128 .bf16) (x8 : Vec Ideal S1x512x256 .bf16) (x9 : Vec Ideal S1x256x512 .bf16)
    (x10 : Vec Ideal S1x384x512 .f32) (kh : Fin 4) : FVec Ideal S64x512 .f32 :=
  tileOut kh x2 (keyHalf x3 0) (keyHalf x3 1) x5 (valHalf x6 0) (valHalf x6 1) x10 x8 x9
    (headQ x1 0 ⟨4 * kh.val, by omega⟩) (headQ x1 0 ⟨4 * kh.val + 1, by omega⟩) (headQ x1 0 ⟨4 * kh.val + 2, by omega⟩) (headQ x1 0 ⟨4 * kh.val + 3, by omega⟩)
    (x0 (ix1 ⟨4 * kh.val, by omega⟩)) (x0 (ix1 ⟨4 * kh.val + 1, by omega⟩)) (x0 (ix1 ⟨4 * kh.val + 2, by omega⟩)) (x0 (ix1 ⟨4 * kh.val + 3, by omega⟩))

/-- Query block 1's result for key/value head `kh`, from the staged blocks. -/
def second (x0 : Vec Ideal S16 .f32) (x1 : Vec Ideal S1x2x1024x128 .bf16) (x3 : Vec Ideal S1x256x256 .bf16) (x4 : Vec Ideal S1x128x256 .bf16)
    (x6 : Vec Ideal S1x2x256x128 .bf16) (x7 : Vec Ideal S1x1x256x128 .bf16) (x8 : Vec Ideal S1x512x256 .bf16) (x9 : Vec Ideal S1x256x512 .bf16)
    (x11 : Vec Ideal S1x384x512 .f32) (kh : Fin 4) : FVec Ideal S64x512 .f32 :=
  tileOut kh (keyHalf x3 0) (keyHalf x3 1) x4 (valHalf x6 0) (valHalf x6 1) x7 x11 x8 x9
    (headQ x1 1 ⟨4 * kh.val, by omega⟩) (headQ x1 1 ⟨4 * kh.val + 1, by omega⟩) (headQ x1 1 ⟨4 * kh.val + 2, by omega⟩) (headQ x1 1 ⟨4 * kh.val + 3, by omega⟩)
    (x0 (ix1 ⟨4 * kh.val, by omega⟩)) (x0 (ix1 ⟨4 * kh.val + 1, by omega⟩)) (x0 (ix1 ⟨4 * kh.val + 2, by omega⟩)) (x0 (ix1 ⟨4 * kh.val + 3, by omega⟩))

variable (c : Dev nD)
  (arg2 : Memref sig .tc .smem S16 .f32) (harg2 : arg2.IsWhole)
  (arg3 : Memref sig .tc .vmem S1x2x1024x128 .bf16) (harg3 : arg3.IsWhole)
  (arg4 : Memref sig .tc .vmem S1x128x256 .bf16) (harg4 : arg4.IsWhole)
  (arg5 : Memref sig .tc .vmem S1x256x256 .bf16) (harg5 : arg5.IsWhole)
  (arg6 : Memref sig .tc .vmem S1x128x256 .bf16) (harg6 : arg6.IsWhole)
  (arg7 : Memref sig .tc .vmem S1x1x256x128 .bf16) (harg7 : arg7.IsWhole)
  (arg8 : Memref sig .tc .vmem S1x2x256x128 .bf16) (harg8 : arg8.IsWhole)
  (arg9 : Memref sig .tc .vmem S1x1x256x128 .bf16) (harg9 : arg9.IsWhole)
  (arg10 : Memref sig .tc .vmem S1x512x256 .bf16) (harg10 : arg10.IsWhole)
  (arg11 : Memref sig .tc .vmem S1x256x512 .bf16) (harg11 : arg11.IsWhole)
  (arg12 : Memref sig .tc .vmem S1x384x512 .f32) (harg12 : arg12.IsWhole)
  (arg13 : Memref sig .tc .vmem S1x384x512 .f32) (harg13 : arg13.IsWhole)
  (arg14 : Memref sig .tc .vmem S1x256x1024 .f32) (harg14 : arg14.IsWhole)
  (arg15 : Memref sig .tc .vmem S1x1x1024 .f32) (harg15 : arg15.IsWhole)
  (arg16 : Memref sig .tc .vmem S1024x1024 .bf16) (harg16 : arg16.IsWhole)
  (arg18 : Memref sig .tc .vmem S2x1024x128 .f32)
  (x0 : Vec Ideal S16 .f32)
  (x1 : Vec Ideal S1x2x1024x128 .bf16)
  (x2 : Vec Ideal S1x128x256 .bf16)
  (x3 : Vec Ideal S1x256x256 .bf16)
  (x4 : Vec Ideal S1x128x256 .bf16)
  (x5 : Vec Ideal S1x1x256x128 .bf16)
  (x6 : Vec Ideal S1x2x256x128 .bf16)
  (x7 : Vec Ideal S1x1x256x128 .bf16)
  (x8 : Vec Ideal S1x512x256 .bf16)
  (x9 : Vec Ideal S1x256x512 .bf16)
  (x10 : Vec Ideal S1x384x512 .f32)
  (x11 : Vec Ideal S1x384x512 .f32)
  (x12 : Vec Ideal S1x256x1024 .f32)
  (x13 : Vec Ideal S1x1x1024 .f32)
  (x14 : Vec Ideal S1024x1024 .bf16)

/-- Query block 0, key/value head 0. -/
theorem first_0 : kernelRun0_A.sl.v181 (F := Ideal) c arg2 harg2 arg3 harg3 arg4 harg4 arg5 harg5 arg7 harg7 arg8 harg8 arg10 harg10 arg11 harg11 arg12 harg12 x0 x1 x2 x3 x5 x6 x8 x9 x10 = first x0 x1 x2 x3 x5 x6 x8 x9 x10 0 := by
  have h := tileOut_congr (kh := 0) (load_whole arg4 harg4 x2 ![0, 0, 0] (by decide) (by decide)) (load_keyHalf arg5 harg5 x3 0 ![0, 0, 0] rfl (by decide)) (load_keyHalf arg5 harg5 x3 1 ![0, 128, 0] rfl (by decide)) (load_whole arg7 harg7 x5 ![0, 0, 0, 0] (by decide) (by decide))
    (load_valHalf arg8 harg8 x6 0 ![0, 0, 0, 0] rfl (by decide)) (load_valHalf arg8 harg8 x6 1 ![0, 1, 0, 0] rfl (by decide)) (load_whole arg12 harg12 x10 ![0, 0, 0] (by decide) (by decide)) (load_whole arg10 harg10 x8 ![0, 0, 0] (by decide) (by decide)) (load_whole arg11 harg11 x9 ![0, 0, 0] (by decide) (by decide))
    (load_headQ arg3 harg3 x1 0 0 ![0, 0, 0, 0] rfl (by decide)) (load_headQ arg3 harg3 x1 0 1 ![0, 0, 64, 0] rfl (by decide)) (load_headQ arg3 harg3 x1 0 2 ![0, 0, 128, 0] rfl (by decide)) (load_headQ arg3 harg3 x1 0 3 ![0, 0, 192, 0] rfl (by decide))
    (load_sink arg2 harg2 x0 0 ![0] rfl (by decide) (by decide)) (load_sink arg2 harg2 x0 1 ![1] rfl (by decide) (by decide)) (load_sink arg2 harg2 x0 2 ![2] rfl (by decide) (by decide)) (load_sink arg2 harg2 x0 3 ![3] rfl (by decide) (by decide))
  exact h

/-- Query block 0, key/value head 1. -/
theorem first_1 : kernelRun0_A.sl.v223 (F := Ideal) c arg2 harg2 arg3 harg3 arg4 harg4 arg5 harg5 arg7 harg7 arg8 harg8 arg10 harg10 arg11 harg11 arg12 harg12 x0 x1 x2 x3 x5 x6 x8 x9 x10 = first x0 x1 x2 x3 x5 x6 x8 x9 x10 1 := by
  have h := tileOut_congr (kh := 1) (load_whole arg4 harg4 x2 ![0, 0, 0] (by decide) (by decide)) (load_keyHalf arg5 harg5 x3 0 ![0, 0, 0] rfl (by decide)) (load_keyHalf arg5 harg5 x3 1 ![0, 128, 0] rfl (by decide)) (load_whole arg7 harg7 x5 ![0, 0, 0, 0] (by decide) (by decide))
    (load_valHalf arg8 harg8 x6 0 ![0, 0, 0, 0] rfl (by decide)) (load_valHalf arg8 harg8 x6 1 ![0, 1, 0, 0] rfl (by decide)) (load_whole arg12 harg12 x10 ![0, 0, 0] (by decide) (by decide)) (load_whole arg10 harg10 x8 ![0, 0, 0] (by decide) (by decide)) (load_whole arg11 harg11 x9 ![0, 0, 0] (by decide) (by decide))
    (load_headQ arg3 harg3 x1 0 4 ![0, 0, 256, 0] rfl (by decide)) (load_headQ arg3 harg3 x1 0 5 ![0, 0, 320, 0] rfl (by decide)) (load_headQ arg3 harg3 x1 0 6 ![0, 0, 384, 0] rfl (by decide)) (load_headQ arg3 harg3 x1 0 7 ![0, 0, 448, 0] rfl (by decide))
    (load_sink arg2 harg2 x0 4 ![4] rfl (by decide) (by decide)) (load_sink arg2 harg2 x0 5 ![5] rfl (by decide) (by decide)) (load_sink arg2 harg2 x0 6 ![6] rfl (by decide) (by decide)) (load_sink arg2 harg2 x0 7 ![7] rfl (by decide) (by decide))
  exact h

/-- Query block 0, key/value head 2. -/
theorem first_2 : kernelRun0_A.sl.v265 (F := Ideal) c arg2 harg2 arg3 harg3 arg4 harg4 arg5 harg5 arg7 harg7 arg8 harg8 arg10 harg10 arg11 harg11 arg12 harg12 x0 x1 x2 x3 x5 x6 x8 x9 x10 = first x0 x1 x2 x3 x5 x6 x8 x9 x10 2 := by
  have h := tileOut_congr (kh := 2) (load_whole arg4 harg4 x2 ![0, 0, 0] (by decide) (by decide)) (load_keyHalf arg5 harg5 x3 0 ![0, 0, 0] rfl (by decide)) (load_keyHalf arg5 harg5 x3 1 ![0, 128, 0] rfl (by decide)) (load_whole arg7 harg7 x5 ![0, 0, 0, 0] (by decide) (by decide))
    (load_valHalf arg8 harg8 x6 0 ![0, 0, 0, 0] rfl (by decide)) (load_valHalf arg8 harg8 x6 1 ![0, 1, 0, 0] rfl (by decide)) (load_whole arg12 harg12 x10 ![0, 0, 0] (by decide) (by decide)) (load_whole arg10 harg10 x8 ![0, 0, 0] (by decide) (by decide)) (load_whole arg11 harg11 x9 ![0, 0, 0] (by decide) (by decide))
    (load_headQ arg3 harg3 x1 0 8 ![0, 0, 512, 0] rfl (by decide)) (load_headQ arg3 harg3 x1 0 9 ![0, 0, 576, 0] rfl (by decide)) (load_headQ arg3 harg3 x1 0 10 ![0, 0, 640, 0] rfl (by decide)) (load_headQ arg3 harg3 x1 0 11 ![0, 0, 704, 0] rfl (by decide))
    (load_sink arg2 harg2 x0 8 ![8] rfl (by decide) (by decide)) (load_sink arg2 harg2 x0 9 ![9] rfl (by decide) (by decide)) (load_sink arg2 harg2 x0 10 ![10] rfl (by decide) (by decide)) (load_sink arg2 harg2 x0 11 ![11] rfl (by decide) (by decide))
  exact h

/-- Query block 0, key/value head 3. -/
theorem first_3 : kernelRun0_A.sl.v307 (F := Ideal) c arg2 harg2 arg3 harg3 arg4 harg4 arg5 harg5 arg7 harg7 arg8 harg8 arg10 harg10 arg11 harg11 arg12 harg12 x0 x1 x2 x3 x5 x6 x8 x9 x10 = first x0 x1 x2 x3 x5 x6 x8 x9 x10 3 := by
  have h := tileOut_congr (kh := 3) (load_whole arg4 harg4 x2 ![0, 0, 0] (by decide) (by decide)) (load_keyHalf arg5 harg5 x3 0 ![0, 0, 0] rfl (by decide)) (load_keyHalf arg5 harg5 x3 1 ![0, 128, 0] rfl (by decide)) (load_whole arg7 harg7 x5 ![0, 0, 0, 0] (by decide) (by decide))
    (load_valHalf arg8 harg8 x6 0 ![0, 0, 0, 0] rfl (by decide)) (load_valHalf arg8 harg8 x6 1 ![0, 1, 0, 0] rfl (by decide)) (load_whole arg12 harg12 x10 ![0, 0, 0] (by decide) (by decide)) (load_whole arg10 harg10 x8 ![0, 0, 0] (by decide) (by decide)) (load_whole arg11 harg11 x9 ![0, 0, 0] (by decide) (by decide))
    (load_headQ arg3 harg3 x1 0 12 ![0, 0, 768, 0] rfl (by decide)) (load_headQ arg3 harg3 x1 0 13 ![0, 0, 832, 0] rfl (by decide)) (load_headQ arg3 harg3 x1 0 14 ![0, 0, 896, 0] rfl (by decide)) (load_headQ arg3 harg3 x1 0 15 ![0, 0, 960, 0] rfl (by decide))
    (load_sink arg2 harg2 x0 12 ![12] rfl (by decide) (by decide)) (load_sink arg2 harg2 x0 13 ![13] rfl (by decide) (by decide)) (load_sink arg2 harg2 x0 14 ![14] rfl (by decide) (by decide)) (load_sink arg2 harg2 x0 15 ![15] rfl (by decide) (by decide))
  exact h

/-- Query block 1, key/value head 0. -/
theorem second_0 : kernelRun0_A.sl.v506 (F := Ideal) c arg2 harg2 arg3 harg3 arg5 harg5 arg6 harg6 arg8 harg8 arg9 harg9 arg10 harg10 arg11 harg11 arg13 harg13 x0 x1 x3 x4 x6 x7 x8 x9 x11 = second x0 x1 x3 x4 x6 x7 x8 x9 x11 0 := by
  have h := tileOut_congr (kh := 0) (load_keyHalf arg5 harg5 x3 0 ![0, 0, 0] rfl (by decide)) (load_keyHalf arg5 harg5 x3 1 ![0, 128, 0] rfl (by decide)) (load_whole arg6 harg6 x4 ![0, 0, 0] (by decide) (by decide)) (load_valHalf arg8 harg8 x6 0 ![0, 0, 0, 0] rfl (by decide))
    (load_valHalf arg8 harg8 x6 1 ![0, 1, 0, 0] rfl (by decide)) (load_whole arg9 harg9 x7 ![0, 0, 0, 0] (by decide) (by decide)) (load_whole arg13 harg13 x11 ![0, 0, 0] (by decide) (by decide)) (load_whole arg10 harg10 x8 ![0, 0, 0] (by decide) (by decide)) (load_whole arg11 harg11 x9 ![0, 0, 0] (by decide) (by decide))
    (load_headQ arg3 harg3 x1 1 0 ![0, 1, 0, 0] rfl (by decide)) (load_headQ arg3 harg3 x1 1 1 ![0, 1, 64, 0] rfl (by decide)) (load_headQ arg3 harg3 x1 1 2 ![0, 1, 128, 0] rfl (by decide)) (load_headQ arg3 harg3 x1 1 3 ![0, 1, 192, 0] rfl (by decide))
    (load_sink arg2 harg2 x0 0 ![0] rfl (by decide) (by decide)) (load_sink arg2 harg2 x0 1 ![1] rfl (by decide) (by decide)) (load_sink arg2 harg2 x0 2 ![2] rfl (by decide) (by decide)) (load_sink arg2 harg2 x0 3 ![3] rfl (by decide) (by decide))
  exact h

/-- Query block 1, key/value head 1. -/
theorem second_1 : kernelRun0_A.sl.v548 (F := Ideal) c arg2 harg2 arg3 harg3 arg5 harg5 arg6 harg6 arg8 harg8 arg9 harg9 arg10 harg10 arg11 harg11 arg13 harg13 x0 x1 x3 x4 x6 x7 x8 x9 x11 = second x0 x1 x3 x4 x6 x7 x8 x9 x11 1 := by
  have h := tileOut_congr (kh := 1) (load_keyHalf arg5 harg5 x3 0 ![0, 0, 0] rfl (by decide)) (load_keyHalf arg5 harg5 x3 1 ![0, 128, 0] rfl (by decide)) (load_whole arg6 harg6 x4 ![0, 0, 0] (by decide) (by decide)) (load_valHalf arg8 harg8 x6 0 ![0, 0, 0, 0] rfl (by decide))
    (load_valHalf arg8 harg8 x6 1 ![0, 1, 0, 0] rfl (by decide)) (load_whole arg9 harg9 x7 ![0, 0, 0, 0] (by decide) (by decide)) (load_whole arg13 harg13 x11 ![0, 0, 0] (by decide) (by decide)) (load_whole arg10 harg10 x8 ![0, 0, 0] (by decide) (by decide)) (load_whole arg11 harg11 x9 ![0, 0, 0] (by decide) (by decide))
    (load_headQ arg3 harg3 x1 1 4 ![0, 1, 256, 0] rfl (by decide)) (load_headQ arg3 harg3 x1 1 5 ![0, 1, 320, 0] rfl (by decide)) (load_headQ arg3 harg3 x1 1 6 ![0, 1, 384, 0] rfl (by decide)) (load_headQ arg3 harg3 x1 1 7 ![0, 1, 448, 0] rfl (by decide))
    (load_sink arg2 harg2 x0 4 ![4] rfl (by decide) (by decide)) (load_sink arg2 harg2 x0 5 ![5] rfl (by decide) (by decide)) (load_sink arg2 harg2 x0 6 ![6] rfl (by decide) (by decide)) (load_sink arg2 harg2 x0 7 ![7] rfl (by decide) (by decide))
  exact h

/-- Query block 1, key/value head 2. -/
theorem second_2 : kernelRun0_A.sl.v590 (F := Ideal) c arg2 harg2 arg3 harg3 arg5 harg5 arg6 harg6 arg8 harg8 arg9 harg9 arg10 harg10 arg11 harg11 arg13 harg13 x0 x1 x3 x4 x6 x7 x8 x9 x11 = second x0 x1 x3 x4 x6 x7 x8 x9 x11 2 := by
  have h := tileOut_congr (kh := 2) (load_keyHalf arg5 harg5 x3 0 ![0, 0, 0] rfl (by decide)) (load_keyHalf arg5 harg5 x3 1 ![0, 128, 0] rfl (by decide)) (load_whole arg6 harg6 x4 ![0, 0, 0] (by decide) (by decide)) (load_valHalf arg8 harg8 x6 0 ![0, 0, 0, 0] rfl (by decide))
    (load_valHalf arg8 harg8 x6 1 ![0, 1, 0, 0] rfl (by decide)) (load_whole arg9 harg9 x7 ![0, 0, 0, 0] (by decide) (by decide)) (load_whole arg13 harg13 x11 ![0, 0, 0] (by decide) (by decide)) (load_whole arg10 harg10 x8 ![0, 0, 0] (by decide) (by decide)) (load_whole arg11 harg11 x9 ![0, 0, 0] (by decide) (by decide))
    (load_headQ arg3 harg3 x1 1 8 ![0, 1, 512, 0] rfl (by decide)) (load_headQ arg3 harg3 x1 1 9 ![0, 1, 576, 0] rfl (by decide)) (load_headQ arg3 harg3 x1 1 10 ![0, 1, 640, 0] rfl (by decide)) (load_headQ arg3 harg3 x1 1 11 ![0, 1, 704, 0] rfl (by decide))
    (load_sink arg2 harg2 x0 8 ![8] rfl (by decide) (by decide)) (load_sink arg2 harg2 x0 9 ![9] rfl (by decide) (by decide)) (load_sink arg2 harg2 x0 10 ![10] rfl (by decide) (by decide)) (load_sink arg2 harg2 x0 11 ![11] rfl (by decide) (by decide))
  exact h

/-- Query block 1, key/value head 3. -/
theorem second_3 : kernelRun0_A.sl.v632 (F := Ideal) c arg2 harg2 arg3 harg3 arg5 harg5 arg6 harg6 arg8 harg8 arg9 harg9 arg10 harg10 arg11 harg11 arg13 harg13 x0 x1 x3 x4 x6 x7 x8 x9 x11 = second x0 x1 x3 x4 x6 x7 x8 x9 x11 3 := by
  have h := tileOut_congr (kh := 3) (load_keyHalf arg5 harg5 x3 0 ![0, 0, 0] rfl (by decide)) (load_keyHalf arg5 harg5 x3 1 ![0, 128, 0] rfl (by decide)) (load_whole arg6 harg6 x4 ![0, 0, 0] (by decide) (by decide)) (load_valHalf arg8 harg8 x6 0 ![0, 0, 0, 0] rfl (by decide))
    (load_valHalf arg8 harg8 x6 1 ![0, 1, 0, 0] rfl (by decide)) (load_whole arg9 harg9 x7 ![0, 0, 0, 0] (by decide) (by decide)) (load_whole arg13 harg13 x11 ![0, 0, 0] (by decide) (by decide)) (load_whole arg10 harg10 x8 ![0, 0, 0] (by decide) (by decide)) (load_whole arg11 harg11 x9 ![0, 0, 0] (by decide) (by decide))
    (load_headQ arg3 harg3 x1 1 12 ![0, 1, 768, 0] rfl (by decide)) (load_headQ arg3 harg3 x1 1 13 ![0, 1, 832, 0] rfl (by decide)) (load_headQ arg3 harg3 x1 1 14 ![0, 1, 896, 0] rfl (by decide)) (load_headQ arg3 harg3 x1 1 15 ![0, 1, 960, 0] rfl (by decide))
    (load_sink arg2 harg2 x0 12 ![12] rfl (by decide) (by decide)) (load_sink arg2 harg2 x0 13 ![13] rfl (by decide) (by decide)) (load_sink arg2 harg2 x0 14 ![14] rfl (by decide) (by decide)) (load_sink arg2 harg2 x0 15 ![15] rfl (by decide) (by decide))
  exact h

end Cert.KernelIdeal.Attn
-- ==== Proof.Attn.Stage.lean ====
/- The scratch the two query blocks fill, and the kernel's output block, in closed form. -/
module

public import proofs.«01_k».proof.Proof.Attn.Words

@[expose] public section

set_option maxRecDepth 16384

noncomputable section

open Idealize.ShloMosaic Idealize.ShloMosaic.TcCoe Idealize.SL.Sem

namespace Cert.KernelIdeal.Attn

open Cert.KernelIdeal Cert.KernelIdeal.Gen

/-- The slice of one head's columns lies in the group's result. -/
theorem headSlice : ∀ g : Fin 4, S64x512.Slices ![0, 128 * g.val] S64x128 := by decide

/-- Head `g`'s columns of a group's result, as one piece of the scratch. -/
def piece (W : FVec Ideal S64x512 .f32) (g : Fin 4) : FVec Ideal S1x64x128 .f32 :=
  shapeCast S1x64x128 (extractStridedSlice S64x128 ![0, 128 * g.val] W (headSlice g)) shapeCasts_S64x128_S1x64x128

/-- The scratch: row `y 1` is lane `y 1 % 64` of head `y 1 / 64`, column `y 2` the query. -/
def stage (W0 W1 : Fin 4 → FVec Ideal S64x512 .f32) (qb : Fin 2) (j : Fin 1024) (r : Fin 128) : EReal :=
  (if qb = 0 then W0 else W1) ⟨j.val / 256, by omega⟩ (ix2 ⟨j.val % 64, by omega⟩ ⟨j.val / 64 % 4 * 128 + r.val, by omega⟩)

/-- A piece at an index. -/
theorem piece_at (W : FVec Ideal S64x512 .f32) (g : Fin 4) (a : Fin 1) (e : Fin 64) (r : Fin 128) : piece W g (ix3 a e r) = W (ix2 e ⟨128 * g.val + r.val, by omega⟩) := by
  pointwise [piece]

/-- A piece holds the scratch's entries at its place. -/
theorem piece_entry (W0 W1 : Fin 4 → FVec Ideal S64x512 .f32) (qb q : Fin 2) (kh g : Fin 4) (a : Fin 1) (e : Fin 64) (r r' : Fin 128) (j : Fin 1024) (hq : q = qb)
    (hj : j.val = 64 * (4 * kh.val + g.val) + e.val) (hr : r'.val = r.val) :
    piece ((if qb = 0 then W0 else W1) kh) g (ix3 a e r) = stage W0 W1 q j r' := by
  subst hq
  rw [piece_at]
  unfold stage
  exact congrArg₂ (fun (k : Fin 4) (i : S64x512.Idx) => (if q = 0 then W0 else W1) k i) (Fin.ext (by show kh.val = j.val / 256; omega))
    (congrArg₂ ix2 (Fin.ext (by show e.val = j.val % 64; omega)) (Fin.ext (by show 128 * g.val + r.val = j.val / 64 % 4 * 128 + r'.val; omega)))

/-- A piece is the block of the scratch it is stored to. -/
theorem piece_stage (W0 W1 : Fin 4 → FVec Ideal S64x512 .f32) (qb : Fin 2) (kh g : Fin 4) (off : Fin 3 → ℕ) (e : off = ![qb.val, 64 * (4 * kh.val + g.val), 0])
    (inb : ∀ a, off a + S1x64x128.size a ≤ S2x1024x128.size a) (x : S1x64x128.Idx) :
    piece ((if qb = 0 then W0 else W1) kh) g x = (fun y : S2x1024x128.Idx => stage W0 W1 (y 0) (y 1) (y 2)) ((Rect.unit (s := S2x1024x128) off S1x64x128.size inb).emb x) := by
  subst e
  idx_vars x
  have hv := Rect.idx_unit_val (s := S2x1024x128) ![qb.val, 64 * (4 * kh.val + g.val), 0] S1x64x128.size inb (ix3 x0 x1 x2)
  exact piece_entry W0 W1 qb _ kh g x0 x1 x2 _ _ (Fin.ext ((hv 0).trans (by show qb.val + x0.val = _; omega))) (hv 1) ((hv 2).trans (Nat.zero_add _))

/-- One half of the scratch. -/
def half (W0 W1 : Fin 4 → FVec Ideal S64x512 .f32) (qb : Fin 2) : FVec Ideal S1x1024x128 .f32 := fun j => stage W0 W1 qb (j 1) (j 2)

/-- The second query block's results never enter its first half. -/
theorem stage_zero (W0 W1 W1' : Fin 4 → FVec Ideal S64x512 .f32) (j : Fin 1024) (r : Fin 128) : stage W0 W1 0 j r = stage W0 W1' 0 j r := rfl

/-- Every row of the first half of the scratch lies in one of sixteen pieces. -/
theorem row_block (y : S2x1024x128.Idx) (h : (y 0).val = 0) (off : Fin 3 → ℕ) (k : ℕ) (e : off = ![0, 64 * k, 0]) (hk : (y 1).val / 64 = k)
    (inb : ∀ a, off a + S1x64x128.size a ≤ S2x1024x128.size a) : y ∈ (Rect.unit (s := S2x1024x128) off S1x64x128.size inb).set := by
  subst e
  have h1 : (y 1).val < 1024 := (y 1).isLt
  have h2 : (y 2).val < 128 := (y 2).isLt
  refine Rect.mem_set_unit.mpr fun a => ?_
  fin_cases a
  · show 0 ≤ (y 0).val ∧ (y 0).val < 0 + 1; omega
  · show 64 * k ≤ (y 1).val ∧ (y 1).val < 64 * k + 64; omega
  · show 0 ≤ (y 2).val ∧ (y 2).val < 0 + 128; omega

variable (c : Dev nD)
  (arg2 : Memref sig .tc .smem S16 .f32) (harg2 : arg2.IsWhole)
  (arg3 : Memref sig .tc .vmem S1x2x1024x128 .bf16) (harg3 : arg3.IsWhole)
  (arg4 : Memref sig .tc .vmem S1x128x256 .bf16) (harg4 : arg4.IsWhole)
  (arg5 : Memref sig .tc .vmem S1x256x256 .bf16) (harg5 : arg5.IsWhole)
  (arg6 : Memref sig .tc .vmem S1x128x256 .bf16) (harg6 : arg6.IsWhole)
  (arg7 : Memref sig .tc .vmem S1x1x256x128 .bf16) (harg7 : arg7.IsWhole)
  (arg8 : Memref sig .tc .vmem S1x2x256x128 .bf16) (harg8 : arg8.IsWhole)
  (arg9 : Memref sig .tc .vmem S1x1x256x128 .bf16) (harg9 : arg9.IsWhole)
  (arg10 : Memref sig .tc .vmem S1x512x256 .bf16) (harg10 : arg10.IsWhole)
  (arg11 : Memref sig .tc .vmem S1x256x512 .bf16) (harg11 : arg11.IsWhole)
  (arg12 : Memref sig .tc .vmem S1x384x512 .f32) (harg12 : arg12.IsWhole)
  (arg13 : Memref sig .tc .vmem S1x384x512 .f32) (harg13 : arg13.IsWhole)
  (arg14 : Memref sig .tc .vmem S1x256x1024 .f32) (harg14 : arg14.IsWhole)
  (arg15 : Memref sig .tc .vmem S1x1x1024 .f32) (harg15 : arg15.IsWhole)
  (arg16 : Memref sig .tc .vmem S1024x1024 .bf16) (harg16 : arg16.IsWhole)
  (arg18 : Memref sig .tc .vmem S2x1024x128 .f32)
  (x0 : Vec Ideal S16 .f32)
  (x1 : Vec Ideal S1x2x1024x128 .bf16)
  (x2 : Vec Ideal S1x128x256 .bf16)
  (x3 : Vec Ideal S1x256x256 .bf16)
  (x4 : Vec Ideal S1x128x256 .bf16)
  (x5 : Vec Ideal S1x1x256x128 .bf16)
  (x6 : Vec Ideal S1x2x256x128 .bf16)
  (x7 : Vec Ideal S1x1x256x128 .bf16)
  (x8 : Vec Ideal S1x512x256 .bf16)
  (x9 : Vec Ideal S1x256x512 .bf16)
  (x10 : Vec Ideal S1x384x512 .f32)
  (x11 : Vec Ideal S1x384x512 .f32)
  (x12 : Vec Ideal S1x256x1024 .f32)
  (x13 : Vec Ideal S1x1x1024 .f32)
  (x14 : Vec Ideal S1024x1024 .bf16)

/-- The four stored results of the first query block. -/
def firstWords : Fin 4 → FVec Ideal S64x512 .f32 := ![kernelRun0_A.sl.v181 (F := Ideal) c arg2 harg2 arg3 harg3 arg4 harg4 arg5 harg5 arg7 harg7 arg8 harg8 arg10 harg10 arg11 harg11 arg12 harg12 x0 x1 x2 x3 x5 x6 x8 x9 x10, kernelRun0_A.sl.v223 (F := Ideal) c arg2 harg2 arg3 harg3 arg4 harg4 arg5 harg5 arg7 harg7 arg8 harg8 arg10 harg10 arg11 harg11 arg12 harg12 x0 x1 x2 x3 x5 x6 x8 x9 x10, kernelRun0_A.sl.v265 (F := Ideal) c arg2 harg2 arg3 harg3 arg4 harg4 arg5 harg5 arg7 harg7 arg8 harg8 arg10 harg10 arg11 harg11 arg12 harg12 x0 x1 x2 x3 x5 x6 x8 x9 x10, kernelRun0_A.sl.v307 (F := Ideal) c arg2 harg2 arg3 harg3 arg4 harg4 arg5 harg5 arg7 harg7 arg8 harg8 arg10 harg10 arg11 harg11 arg12 harg12 x0 x1 x2 x3 x5 x6 x8 x9 x10]

/-- The four stored results of the second query block. -/
def secondWords : Fin 4 → FVec Ideal S64x512 .f32 := ![kernelRun0_A.sl.v506 (F := Ideal) c arg2 harg2 arg3 harg3 arg5 harg5 arg6 harg6 arg8 harg8 arg9 harg9 arg10 harg10 arg11 harg11 arg13 harg13 x0 x1 x3 x4 x6 x7 x8 x9 x11, kernelRun0_A.sl.v548 (F := Ideal) c arg2 harg2 arg3 harg3 arg5 harg5 arg6 harg6 arg8 harg8 arg9 harg9 arg10 harg10 arg11 harg11 arg13 harg13 x0 x1 x3 x4 x6 x7 x8 x9 x11, kernelRun0_A.sl.v590 (F := Ideal) c arg2 harg2 arg3 harg3 arg5 harg5 arg6 harg6 arg8 harg8 arg9 harg9 arg10 harg10 arg11 harg11 arg13 harg13 x0 x1 x3 x4 x6 x7 x8 x9 x11, kernelRun0_A.sl.v632 (F := Ideal) c arg2 harg2 arg3 harg3 arg5 harg5 arg6 harg6 arg8 harg8 arg9 harg9 arg10 harg10 arg11 harg11 arg13 harg13 x0 x1 x3 x4 x6 x7 x8 x9 x11]

/-- The four results of the first query block. -/
theorem first_all : firstWords c arg2 harg2 arg3 harg3 arg4 harg4 arg5 harg5 arg7 harg7 arg8 harg8 arg10 harg10 arg11 harg11 arg12 harg12 x0 x1 x2 x3 x5 x6 x8 x9 x10 = first x0 x1 x2 x3 x5 x6 x8 x9 x10 := by
  funext k
  fin_cases k
  · exact first_0 c arg2 harg2 arg3 harg3 arg4 harg4 arg5 harg5 arg7 harg7 arg8 harg8 arg10 harg10 arg11 harg11 arg12 harg12 x0 x1 x2 x3 x5 x6 x8 x9 x10
  · exact first_1 c arg2 harg2 arg3 harg3 arg4 harg4 arg5 harg5 arg7 harg7 arg8 harg8 arg10 harg10 arg11 harg11 arg12 harg12 x0 x1 x2 x3 x5 x6 x8 x9 x10
  · exact first_2 c arg2 harg2 arg3 harg3 arg4 harg4 arg5 harg5 arg7 harg7 arg8 harg8 arg10 harg10 arg11 harg11 arg12 harg12 x0 x1 x2 x3 x5 x6 x8 x9 x10
  · exact first_3 c arg2 harg2 arg3 harg3 arg4 harg4 arg5 harg5 arg7 harg7 arg8 harg8 arg10 harg10 arg11 harg11 arg12 harg12 x0 x1 x2 x3 x5 x6 x8 x9 x10

/-- The four results of the second query block. -/
theorem second_all : secondWords c arg2 harg2 arg3 harg3 arg5 harg5 arg6 harg6 arg8 harg8 arg9 harg9 arg10 harg10 arg11 harg11 arg13 harg13 x0 x1 x3 x4 x6 x7 x8 x9 x11 = second x0 x1 x3 x4 x6 x7 x8 x9 x11 := by
  funext k
  fin_cases k
  · exact second_0 c arg2 harg2 arg3 harg3 arg5 harg5 arg6 harg6 arg8 harg8 arg9 harg9 arg10 harg10 arg11 harg11 arg13 harg13 x0 x1 x3 x4 x6 x7 x8 x9 x11
  · exact second_1 c arg2 harg2 arg3 harg3 arg5 harg5 arg6 harg6 arg8 harg8 arg9 harg9 arg10 harg10 arg11 harg11 arg13 harg13 x0 x1 x3 x4 x6 x7 x8 x9 x11
  · exact second_2 c arg2 harg2 arg3 harg3 arg5 harg5 arg6 harg6 arg8 harg8 arg9 harg9 arg10 harg10 arg11 harg11 arg13 harg13 x0 x1 x3 x4 x6 x7 x8 x9 x11
  · exact second_3 c arg2 harg2 arg3 harg3 arg5 harg5 arg6 harg6 arg8 harg8 arg9 harg9 arg10 harg10 arg11 harg11 arg13 harg13 x0 x1 x3 x4 x6 x7 x8 x9 x11

/-- The pieces the first query block stores are blocks of the scratch. -/
theorem pieces_first (W1 : Fin 4 → FVec Ideal S64x512 .f32) :
    View.PiecesOf (Val := Elt Ideal) (e := .f32) (fun y : S2x1024x128.Idx => stage (first x0 x1 x2 x3 x5 x6 x8 x9 x10) W1 (y 0) (y 1) (y 2)) (kernelRun0_A.sl.HS0_16 (F := Ideal) c arg2 harg2 arg3 harg3 arg4 harg4 arg5 harg5 arg7 harg7 arg8 harg8 arg10 harg10 arg11 harg11 arg12 harg12 x0 x1 x2 x3 x5 x6 x8 x9 x10) := by
  rw [← first_all c arg2 harg2 arg3 harg3 arg4 harg4 arg5 harg5 arg7 harg7 arg8 harg8 arg10 harg10 arg11 harg11 arg12 harg12 x0 x1 x2 x3 x5 x6 x8 x9 x10]
  exact ⟨fun x => piece_stage (firstWords c arg2 harg2 arg3 harg3 arg4 harg4 arg5 harg5 arg7 harg7 arg8 harg8 arg10 harg10 arg11 harg11 arg12 harg12 x0 x1 x2 x3 x5 x6 x8 x9 x10) W1 0 3 3 ![0, 960, 0] rfl (by decide) x,
    fun x => piece_stage (firstWords c arg2 harg2 arg3 harg3 arg4 harg4 arg5 harg5 arg7 harg7 arg8 harg8 arg10 harg10 arg11 harg11 arg12 harg12 x0 x1 x2 x3 x5 x6 x8 x9 x10) W1 0 3 2 ![0, 896, 0] rfl (by decide) x,
    fun x => piece_stage (firstWords c arg2 harg2 arg3 harg3 arg4 harg4 arg5 harg5 arg7 harg7 arg8 harg8 arg10 harg10 arg11 harg11 arg12 harg12 x0 x1 x2 x3 x5 x6 x8 x9 x10) W1 0 3 1 ![0, 832, 0] rfl (by decide) x,
    fun x => piece_stage (firstWords c arg2 harg2 arg3 harg3 arg4 harg4 arg5 harg5 arg7 harg7 arg8 harg8 arg10 harg10 arg11 harg11 arg12 harg12 x0 x1 x2 x3 x5 x6 x8 x9 x10) W1 0 3 0 ![0, 768, 0] rfl (by decide) x,
    fun x => piece_stage (firstWords c arg2 harg2 arg3 harg3 arg4 harg4 arg5 harg5 arg7 harg7 arg8 harg8 arg10 harg10 arg11 harg11 arg12 harg12 x0 x1 x2 x3 x5 x6 x8 x9 x10) W1 0 2 3 ![0, 704, 0] rfl (by decide) x,
    fun x => piece_stage (firstWords c arg2 harg2 arg3 harg3 arg4 harg4 arg5 harg5 arg7 harg7 arg8 harg8 arg10 harg10 arg11 harg11 arg12 harg12 x0 x1 x2 x3 x5 x6 x8 x9 x10) W1 0 2 2 ![0, 640, 0] rfl (by decide) x,
    fun x => piece_stage (firstWords c arg2 harg2 arg3 harg3 arg4 harg4 arg5 harg5 arg7 harg7 arg8 harg8 arg10 harg10 arg11 harg11 arg12 harg12 x0 x1 x2 x3 x5 x6 x8 x9 x10) W1 0 2 1 ![0, 576, 0] rfl (by decide) x,
    fun x => piece_stage (firstWords c arg2 harg2 arg3 harg3 arg4 harg4 arg5 harg5 arg7 harg7 arg8 harg8 arg10 harg10 arg11 harg11 arg12 harg12 x0 x1 x2 x3 x5 x6 x8 x9 x10) W1 0 2 0 ![0, 512, 0] rfl (by decide) x,
    fun x => piece_stage (firstWords c arg2 harg2 arg3 harg3 arg4 harg4 arg5 harg5 arg7 harg7 arg8 harg8 arg10 harg10 arg11 harg11 arg12 harg12 x0 x1 x2 x3 x5 x6 x8 x9 x10) W1 0 1 3 ![0, 448, 0] rfl (by decide) x,
    fun x => piece_stage (firstWords c arg2 harg2 arg3 harg3 arg4 harg4 arg5 harg5 arg7 harg7 arg8 harg8 arg10 harg10 arg11 harg11 arg12 harg12 x0 x1 x2 x3 x5 x6 x8 x9 x10) W1 0 1 2 ![0, 384, 0] rfl (by decide) x,
    fun x => piece_stage (firstWords c arg2 harg2 arg3 harg3 arg4 harg4 arg5 harg5 arg7 harg7 arg8 harg8 arg10 harg10 arg11 harg11 arg12 harg12 x0 x1 x2 x3 x5 x6 x8 x9 x10) W1 0 1 1 ![0, 320, 0] rfl (by decide) x,
    fun x => piece_stage (firstWords c arg2 harg2 arg3 harg3 arg4 harg4 arg5 harg5 arg7 harg7 arg8 harg8 arg10 harg10 arg11 harg11 arg12 harg12 x0 x1 x2 x3 x5 x6 x8 x9 x10) W1 0 1 0 ![0, 256, 0] rfl (by decide) x,
    fun x => piece_stage (firstWords c arg2 harg2 arg3 harg3 arg4 harg4 arg5 harg5 arg7 harg7 arg8 harg8 arg10 harg10 arg11 harg11 arg12 harg12 x0 x1 x2 x3 x5 x6 x8 x9 x10) W1 0 0 3 ![0, 192, 0] rfl (by decide) x,
    fun x => piece_stage (firstWords c arg2 harg2 arg3 harg3 arg4 harg4 arg5 harg5 arg7 harg7 arg8 harg8 arg10 harg10 arg11 harg11 arg12 harg12 x0 x1 x2 x3 x5 x6 x8 x9 x10) W1 0 0 2 ![0, 128, 0] rfl (by decide) x,
    fun x => piece_stage (firstWords c arg2 harg2 arg3 harg3 arg4 harg4 arg5 harg5 arg7 harg7 arg8 harg8 arg10 harg10 arg11 harg11 arg12 harg12 x0 x1 x2 x3 x5 x6 x8 x9 x10) W1 0 0 1 ![0, 64, 0] rfl (by decide) x,
    fun x => piece_stage (firstWords c arg2 harg2 arg3 harg3 arg4 harg4 arg5 harg5 arg7 harg7 arg8 harg8 arg10 harg10 arg11 harg11 arg12 harg12 x0 x1 x2 x3 x5 x6 x8 x9 x10) W1 0 0 0 ![0, 0, 0] rfl (by decide) x,
    trivial⟩

/-- All the pieces stored are blocks of the scratch. -/
theorem pieces_all :
    View.PiecesOf (Val := Elt Ideal) (e := .f32) (fun y : S2x1024x128.Idx => stage (first x0 x1 x2 x3 x5 x6 x8 x9 x10) (second x0 x1 x3 x4 x6 x7 x8 x9 x11) (y 0) (y 1) (y 2)) (kernelRun0_A.sl.HS0_32 (F := Ideal) c arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11) := by
  have h := pieces_first c arg2 harg2 arg3 harg3 arg4 harg4 arg5 harg5 arg7 harg7 arg8 harg8 arg10 harg10 arg11 harg11 arg12 harg12 x0 x1 x2 x3 x5 x6 x8 x9 x10 (second x0 x1 x3 x4 x6 x7 x8 x9 x11)
  rw [← second_all c arg2 harg2 arg3 harg3 arg5 harg5 arg6 harg6 arg8 harg8 arg9 harg9 arg10 harg10 arg11 harg11 arg13 harg13 x0 x1 x3 x4 x6 x7 x8 x9 x11] at h ⊢
  exact ⟨fun x => piece_stage (first x0 x1 x2 x3 x5 x6 x8 x9 x10) (secondWords c arg2 harg2 arg3 harg3 arg5 harg5 arg6 harg6 arg8 harg8 arg9 harg9 arg10 harg10 arg11 harg11 arg13 harg13 x0 x1 x3 x4 x6 x7 x8 x9 x11) 1 3 3 ![1, 960, 0] rfl (by decide) x,
    fun x => piece_stage (first x0 x1 x2 x3 x5 x6 x8 x9 x10) (secondWords c arg2 harg2 arg3 harg3 arg5 harg5 arg6 harg6 arg8 harg8 arg9 harg9 arg10 harg10 arg11 harg11 arg13 harg13 x0 x1 x3 x4 x6 x7 x8 x9 x11) 1 3 2 ![1, 896, 0] rfl (by decide) x,
    fun x => piece_stage (first x0 x1 x2 x3 x5 x6 x8 x9 x10) (secondWords c arg2 harg2 arg3 harg3 arg5 harg5 arg6 harg6 arg8 harg8 arg9 harg9 arg10 harg10 arg11 harg11 arg13 harg13 x0 x1 x3 x4 x6 x7 x8 x9 x11) 1 3 1 ![1, 832, 0] rfl (by decide) x,
    fun x => piece_stage (first x0 x1 x2 x3 x5 x6 x8 x9 x10) (secondWords c arg2 harg2 arg3 harg3 arg5 harg5 arg6 harg6 arg8 harg8 arg9 harg9 arg10 harg10 arg11 harg11 arg13 harg13 x0 x1 x3 x4 x6 x7 x8 x9 x11) 1 3 0 ![1, 768, 0] rfl (by decide) x,
    fun x => piece_stage (first x0 x1 x2 x3 x5 x6 x8 x9 x10) (secondWords c arg2 harg2 arg3 harg3 arg5 harg5 arg6 harg6 arg8 harg8 arg9 harg9 arg10 harg10 arg11 harg11 arg13 harg13 x0 x1 x3 x4 x6 x7 x8 x9 x11) 1 2 3 ![1, 704, 0] rfl (by decide) x,
    fun x => piece_stage (first x0 x1 x2 x3 x5 x6 x8 x9 x10) (secondWords c arg2 harg2 arg3 harg3 arg5 harg5 arg6 harg6 arg8 harg8 arg9 harg9 arg10 harg10 arg11 harg11 arg13 harg13 x0 x1 x3 x4 x6 x7 x8 x9 x11) 1 2 2 ![1, 640, 0] rfl (by decide) x,
    fun x => piece_stage (first x0 x1 x2 x3 x5 x6 x8 x9 x10) (secondWords c arg2 harg2 arg3 harg3 arg5 harg5 arg6 harg6 arg8 harg8 arg9 harg9 arg10 harg10 arg11 harg11 arg13 harg13 x0 x1 x3 x4 x6 x7 x8 x9 x11) 1 2 1 ![1, 576, 0] rfl (by decide) x,
    fun x => piece_stage (first x0 x1 x2 x3 x5 x6 x8 x9 x10) (secondWords c arg2 harg2 arg3 harg3 arg5 harg5 arg6 harg6 arg8 harg8 arg9 harg9 arg10 harg10 arg11 harg11 arg13 harg13 x0 x1 x3 x4 x6 x7 x8 x9 x11) 1 2 0 ![1, 512, 0] rfl (by decide) x,
    fun x => piece_stage (first x0 x1 x2 x3 x5 x6 x8 x9 x10) (secondWords c arg2 harg2 arg3 harg3 arg5 harg5 arg6 harg6 arg8 harg8 arg9 harg9 arg10 harg10 arg11 harg11 arg13 harg13 x0 x1 x3 x4 x6 x7 x8 x9 x11) 1 1 3 ![1, 448, 0] rfl (by decide) x,
    fun x => piece_stage (first x0 x1 x2 x3 x5 x6 x8 x9 x10) (secondWords c arg2 harg2 arg3 harg3 arg5 harg5 arg6 harg6 arg8 harg8 arg9 harg9 arg10 harg10 arg11 harg11 arg13 harg13 x0 x1 x3 x4 x6 x7 x8 x9 x11) 1 1 2 ![1, 384, 0] rfl (by decide) x,
    fun x => piece_stage (first x0 x1 x2 x3 x5 x6 x8 x9 x10) (secondWords c arg2 harg2 arg3 harg3 arg5 harg5 arg6 harg6 arg8 harg8 arg9 harg9 arg10 harg10 arg11 harg11 arg13 harg13 x0 x1 x3 x4 x6 x7 x8 x9 x11) 1 1 1 ![1, 320, 0] rfl (by decide) x,
    fun x => piece_stage (first x0 x1 x2 x3 x5 x6 x8 x9 x10) (secondWords c arg2 harg2 arg3 harg3 arg5 harg5 arg6 harg6 arg8 harg8 arg9 harg9 arg10 harg10 arg11 harg11 arg13 harg13 x0 x1 x3 x4 x6 x7 x8 x9 x11) 1 1 0 ![1, 256, 0] rfl (by decide) x,
    fun x => piece_stage (first x0 x1 x2 x3 x5 x6 x8 x9 x10) (secondWords c arg2 harg2 arg3 harg3 arg5 harg5 arg6 harg6 arg8 harg8 arg9 harg9 arg10 harg10 arg11 harg11 arg13 harg13 x0 x1 x3 x4 x6 x7 x8 x9 x11) 1 0 3 ![1, 192, 0] rfl (by decide) x,
    fun x => piece_stage (first x0 x1 x2 x3 x5 x6 x8 x9 x10) (secondWords c arg2 harg2 arg3 harg3 arg5 harg5 arg6 harg6 arg8 harg8 arg9 harg9 arg10 harg10 arg11 harg11 arg13 harg13 x0 x1 x3 x4 x6 x7 x8 x9 x11) 1 0 2 ![1, 128, 0] rfl (by decide) x,
    fun x => piece_stage (first x0 x1 x2 x3 x5 x6 x8 x9 x10) (secondWords c arg2 harg2 arg3 harg3 arg5 harg5 arg6 harg6 arg8 harg8 arg9 harg9 arg10 harg10 arg11 harg11 arg13 harg13 x0 x1 x3 x4 x6 x7 x8 x9 x11) 1 0 1 ![1, 64, 0] rfl (by decide) x,
    fun x => piece_stage (first x0 x1 x2 x3 x5 x6 x8 x9 x10) (secondWords c arg2 harg2 arg3 harg3 arg5 harg5 arg6 harg6 arg8 harg8 arg9 harg9 arg10 harg10 arg11 harg11 arg13 harg13 x0 x1 x3 x4 x6 x7 x8 x9 x11) 1 0 0 ![1, 0, 0] rfl (by decide) x,
    h⟩

/-- The load of the scratch's first half reads the first query block's results. -/
theorem load_first : kernelRun0_A.sl.v324 (F := Ideal) c arg2 harg2 arg3 harg3 arg4 harg4 arg5 harg5 arg7 harg7 arg8 harg8 arg10 harg10 arg11 harg11 arg12 harg12 arg18 x0 x1 x2 x3 x5 x6 x8 x9 x10 =
    half (first x0 x1 x2 x3 x5 x6 x8 x9 x10) (second x0 x1 x3 x4 x6 x7 x8 x9 x11) 0 := by
  unfold kernelRun0_A.sl.v324
  rw [View.readCov_eq_canon']
  funext j
  refine (View.canon_apply_of_pieces (fun y : S2x1024x128.Idx => stage (first x0 x1 x2 x3 x5 x6 x8 x9 x10) (second x0 x1 x3 x4 x6 x7 x8 x9 x11) (y 0) (y 1) (y 2)) (kernelRun0_A.sl.HS0_16 (F := Ideal) c arg2 harg2 arg3 harg3 arg4 harg4 arg5 harg5 arg7 harg7 arg8 harg8 arg10 harg10 arg11 harg11 arg12 harg12 x0 x1 x2 x3 x5 x6 x8 x9 x10) (pieces_first c arg2 harg2 arg3 harg3 arg4 harg4 arg5 harg5 arg7 harg7 arg8 harg8 arg10 harg10 arg11 harg11 arg12 harg12 x0 x1 x2 x3 x5 x6 x8 x9 x10 _).mem _ ?_).trans ?_
  · have hv := Rect.idx_unit_val (s := S2x1024x128) ![0, 0, 0] S1x1024x128.size (by decide : ∀ a, ![0, 0, 0] a + S1x1024x128.size a ≤ S2x1024x128.size a) j
    generalize hy : ((Rect.unit (s := S2x1024x128) ![0, 0, 0] S1x1024x128.size (by decide)).toLoadRect.idx j) = y
    have h0 : (y 0).val = 0 := by rw [← hy]; exact (hv 0).trans (by have : (j 0).val < 1 := (j 0).isLt; show 0 + (j 0).val = 0; omega)
    have h1 : (y 1).val / 64 < 16 := by have : (y 1).val < 1024 := (y 1).isLt; omega
    unfold kernelRun0_A.sl.HS0_16
    interval_cases hk : (y 1).val / 64
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), row_block y h0 ![0, 0, 0] 0 rfl hk (by decide)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), row_block y h0 ![0, 64, 0] 1 rfl hk (by decide)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), row_block y h0 ![0, 128, 0] 2 rfl hk (by decide)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), row_block y h0 ![0, 192, 0] 3 rfl hk (by decide)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), row_block y h0 ![0, 256, 0] 4 rfl hk (by decide)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), row_block y h0 ![0, 320, 0] 5 rfl hk (by decide)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), row_block y h0 ![0, 384, 0] 6 rfl hk (by decide)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), row_block y h0 ![0, 448, 0] 7 rfl hk (by decide)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), row_block y h0 ![0, 512, 0] 8 rfl hk (by decide)⟩
    · exact ⟨_, List.mem_cons_of_mem _ (List.mem_cons_of_mem _ (List.mem_cons_of_mem _ (List.mem_cons_of_mem _ (List.mem_cons_of_mem _ (List.mem_cons_of_mem _ (List.mem_cons_self)))))), row_block y h0 ![0, 576, 0] 9 rfl hk (by decide)⟩
    · exact ⟨_, List.mem_cons_of_mem _ (List.mem_cons_of_mem _ (List.mem_cons_of_mem _ (List.mem_cons_of_mem _ (List.mem_cons_of_mem _ (List.mem_cons_self))))), row_block y h0 ![0, 640, 0] 10 rfl hk (by decide)⟩
    · exact ⟨_, List.mem_cons_of_mem _ (List.mem_cons_of_mem _ (List.mem_cons_of_mem _ (List.mem_cons_of_mem _ (List.mem_cons_self)))), row_block y h0 ![0, 704, 0] 11 rfl hk (by decide)⟩
    · exact ⟨_, List.mem_cons_of_mem _ (List.mem_cons_of_mem _ (List.mem_cons_of_mem _ (List.mem_cons_self))), row_block y h0 ![0, 768, 0] 12 rfl hk (by decide)⟩
    · exact ⟨_, List.mem_cons_of_mem _ (List.mem_cons_of_mem _ (List.mem_cons_self)), row_block y h0 ![0, 832, 0] 13 rfl hk (by decide)⟩
    · exact ⟨_, List.mem_cons_of_mem _ (List.mem_cons_self), row_block y h0 ![0, 896, 0] 14 rfl hk (by decide)⟩
    · exact ⟨_, List.mem_cons_self, row_block y h0 ![0, 960, 0] 15 rfl hk (by decide)⟩
  · exact congr (congrArg₂ (stage _ _) (Fin.ext (by have : (j 0).val < 1 := (j 0).isLt; show 0 + 1 * (j 0).val = 0; omega)) (Fin.ext (by show 0 + 1 * (j 1).val = (j 1).val; omega))) (Fin.ext (by show 0 + 1 * (j 2).val = (j 2).val; omega))

/-- The load of the scratch's second half reads the second query block's results. -/
theorem load_second : kernelRun0_A.sl.v649 (F := Ideal) c arg2 harg2 arg3 harg3 arg4 harg4 arg5 harg5 arg6 harg6 arg7 harg7 arg8 harg8 arg9 harg9 arg10 harg10 arg11 harg11 arg12 harg12 arg13 harg13 arg18 x0 x1 x2 x3 x4 x5 x6 x7 x8 x9 x10 x11 =
    half (first x0 x1 x2 x3 x5 x6 x8 x9 x10) (second x0 x1 x3 x4 x6 x7 x8 x9 x11) 1 := by
  unfold kernelRun0_A.sl.v649
  rw [View.readCov_eq_canon']
  funext j
  refine (View.canon_apply_of_pieces (fun y : S2x1024x128.Idx => stage (first x0 x1 x2 x3 x5 x6 x8 x9 x10) (second x0 x1 x3 x4 x6 x7 x8 x9 x11) (y 0) (y 1) (y 2)) (kernelRun0_A.sl.HS0_32 (F := Ideal) c arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11) (pieces_all c arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).mem _ ?_).trans ?_
  · refine View.cover_of_tiledL (kernelRun0_A.sl.HS0_32 (F := Ideal) c arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11) S1x64x128.size ?_ _
    rfl
  · exact congr (congrArg₂ (stage _ _) (Fin.ext (by have : (j 0).val < 1 := (j 0).isLt; show 1 + 1 * (j 0).val = 1; omega)) (Fin.ext (by show 0 + 1 * (j 1).val = (j 1).val; omega))) (Fin.ext (by show 0 + 1 * (j 2).val = (j 2).val; omega))

end Cert.KernelIdeal.Attn
-- ==== Proof.Attn.Block.lean ====
/- The kernel's output block at a grid point, in closed form. -/
module

public import proofs.«01_k».proof.Proof.Attn.Stage

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- The output block: the rows of `x` plus the gate times the projected attention. -/
def outBlock
  (x0 : Vec Ideal S16 .f32)
  (x1 : Vec Ideal S1x2x1024x128 .bf16)
  (x2 : Vec Ideal S1x128x256 .bf16)
  (x3 : Vec Ideal S1x256x256 .bf16)
  (x4 : Vec Ideal S1x128x256 .bf16)
  (x5 : Vec Ideal S1x1x256x128 .bf16)
  (x6 : Vec Ideal S1x2x256x128 .bf16)
  (x7 : Vec Ideal S1x1x256x128 .bf16)
  (x8 : Vec Ideal S1x512x256 .bf16)
  (x9 : Vec Ideal S1x256x512 .bf16)
  (x10 : Vec Ideal S1x384x512 .f32)
  (x11 : Vec Ideal S1x384x512 .f32)
  (x12 : Vec Ideal S1x256x1024 .f32)
  (x13 : Vec Ideal S1x1x1024 .f32)
  (x14 : Vec Ideal S1024x1024 .bf16)
    (y : S1x256x1024.Idx) : EReal :=
  x12 y + x13 (ix3 0 0 (y 2)) * ∑ j : Fin 1024, stage (first x0 x1 x2 x3 x5 x6 x8 x9 x10) (second x0 x1 x3 x4 x6 x7 x8 x9 x11)
    ⟨(y 1).val / 128, by have : (y 1).val < 256 := (y 1).isLt; omega⟩ j ⟨(y 1).val % 128, by omega⟩ * x14 (ix2 j (y 2))

/-- One output tile at an index. -/
theorem outTile_at (T : FVec Ideal S1x1024x128 .f32) (R : FVec Ideal S1x128x1024 .f32) (g : FVec Ideal S1x1x1024 .f32) (w : FVec Ideal S1024x1024 .bf16)
    (a : Fin 1) (r : Fin 128) (n : Fin 1024) :
    k0_pay1 (k0_pay112 T) (k0_pay113 R) (k0_pay114 g) w (ix3 a r n) = R (ix3 0 r n) + g (ix3 0 0 n) * ∑ j : Fin 1024, T (ix3 0 j r) * w (ix2 j n) := by
  pointwise [k0_pay1, k0_pay112, k0_pay113, k0_pay114]

section
variable
  (x0 : Vec Ideal S16 .f32)
  (x1 : Vec Ideal S1x2x1024x128 .bf16)
  (x2 : Vec Ideal S1x128x256 .bf16)
  (x3 : Vec Ideal S1x256x256 .bf16)
  (x4 : Vec Ideal S1x128x256 .bf16)
  (x5 : Vec Ideal S1x1x256x128 .bf16)
  (x6 : Vec Ideal S1x2x256x128 .bf16)
  (x7 : Vec Ideal S1x1x256x128 .bf16)
  (x8 : Vec Ideal S1x512x256 .bf16)
  (x9 : Vec Ideal S1x256x512 .bf16)
  (x10 : Vec Ideal S1x384x512 .f32)
  (x11 : Vec Ideal S1x384x512 .f32)
  (x12 : Vec Ideal S1x256x1024 .f32)
  (x13 : Vec Ideal S1x1x1024 .f32)
  (x14 : Vec Ideal S1024x1024 .bf16)

/-- An output tile is the block of the closed form it is stored to. -/
theorem outTile_block (o : Fin 2) (off : Fin 3 → ℕ) (e : off = ![0, 128 * o.val, 0]) (inb : ∀ a, off a + S1x128x1024.size a ≤ S1x256x1024.size a) (x : S1x128x1024.Idx) :
    k0_pay1 (k0_pay112 (half (first x0 x1 x2 x3 x5 x6 x8 x9 x10) (second x0 x1 x3 x4 x6 x7 x8 x9 x11) o)) (k0_pay113 (rowHalf x12 o)) (k0_pay114 x13) x14 x
      = outBlock x0 x1 x2 x3 x4 x5 x6 x7 x8 x9 x10 x11 x12 x13 x14 ((Rect.unit (s := S1x256x1024) off S1x128x1024.size inb).emb x) := by
  subst e
  obtain ⟨a, r, n, rfl⟩ : ∃ (a : Fin 1) (r : Fin 128) (n : Fin 1024), x = ix3 a r n := ⟨x 0, x 1, x 2, by blk_ext⟩
  have hv := Rect.idx_unit_val (s := S1x256x1024) ![0, 128 * o.val, 0] S1x128x1024.size inb (ix3 a r n)
  have hy : (Rect.unit (s := S1x256x1024) ![0, 128 * o.val, 0] S1x128x1024.size inb).emb (ix3 a r n) = ix3 0 ⟨128 * o.val + r.val, by omega⟩ n := by
    funext k
    apply Fin.ext
    refine (hv k).trans ?_
    fin_cases k
    · show 0 + a.val = 0; omega
    · rfl
    · exact Nat.zero_add _
  rw [hy, outTile_at]
  unfold outBlock rowHalf
  have h1 : (128 * o.val + r.val) / 128 = o.val := by omega
  have h2 : (128 * o.val + r.val) % 128 = r.val := by omega
  show x12 (ix3 0 ⟨128 * o.val + r.val, _⟩ n) + x13 (ix3 0 0 n) * ∑ j : Fin 1024, stage _ _ o j r * x14 (ix2 j n) =
    x12 (ix3 0 ⟨128 * o.val + r.val, _⟩ n) + x13 (ix3 0 0 n) * ∑ j : Fin 1024, stage _ _ ⟨(128 * o.val + r.val) / 128, _⟩ j ⟨(128 * o.val + r.val) % 128, _⟩ * x14 (ix2 j n)
  simp only [h1, h2, Fin.eta]

end

variable (m : (ℓ : Loc nD τ sig) → Buf (Elt Ideal) ℓ)

/-- What a grid point leaves in the output's buffer. -/
theorem outs_eq (c : Dev nD) (t : Fin cfg0.N) : outsAt0 (F := Ideal) m c t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by
  unfold outsAt0 out0_A_15
  rw [View.read_writes_junk_eq_canon]
  funext y
  refine View.canon_apply_of_pieces (outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) _ ?_ y (cover0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y)
  unfold kernelRun0_A
  dsimp only
  refine List.forall_mem_cons.mpr ⟨fun x => ?_, List.forall_mem_cons.mpr ⟨fun x => ?_, fun _ h => absurd h List.not_mem_nil⟩⟩
  · refine Eq.trans ?_ (outTile_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) 1 ![0, 128, 0] rfl (by decide) x)
    rw [← load_rowHalf (ms0_12 t) (hs0_12 t) (iblk m c 12 t) 1 ![0, 128, 0] rfl (by decide), ← load_second c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)]
    have e13 := load_whole (ms0_13 t) (hs0_13 t) (iblk m c 13 t) ![0, 0, 0] (by decide) (by decide)
    have e14 := load_whole (ms0_14 t) (hs0_14 t) (iblk m c 14 t) ![0, 0] (by decide) (by decide)
    exact congrFun (congrArg₂ (fun g w => k0_pay1 _ _ (k0_pay114 g) w) e13 e14) x
  · refine Eq.trans ?_ (outTile_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) 0 ![0, 0, 0] rfl (by decide) x)
    rw [← load_rowHalf (ms0_12 t) (hs0_12 t) (iblk m c 12 t) 0 ![0, 0, 0] rfl (by decide), ← load_first c (ms0_0 t) (hs0_0 t) (ms0_1 t) (hs0_1 t) (ms0_2 t) (hs0_2 t) (ms0_3 t) (hs0_3 t) (ms0_5 t) (hs0_5 t) (ms0_6 t) (hs0_6 t) (ms0_8 t) (hs0_8 t) (ms0_9 t) (hs0_9 t) (ms0_10 t) (hs0_10 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)]
    have e13 := load_whole (ms0_13 t) (hs0_13 t) (iblk m c 13 t) ![0, 0, 0] (by decide) (by decide)
    have e14 := load_whole (ms0_14 t) (hs0_14 t) (iblk m c 14 t) ![0, 0] (by decide) (by decide)
    exact congrFun (congrArg₂ (fun g w => k0_pay1 _ _ (k0_pay114 g) w) e13 e14) x

end Cert.KernelIdeal.Attn
-- ==== Proof.Attn.Host.lean ====
/- The arrays the host prepares for the attention call, element by element over the arguments, and the block of each
   that a grid point stages. -/
module

public import proofs.«01_k».proof.Proof.Attn.Group
public import proofs.«01_k».proof.Proof.Gen.KernelIdeal.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- The block each window stages at a grid point: the batch is `t / 16`, the pair of query blocks `t % 16`; the blocks
    before and after the pair stop at the ends of the sequence. -/
theorem idx : ∀ t : Fin cfg0.N, t.val < 128 ∧ win0_0.index t = ![0] ∧ win0_1.index t = ![t.val / 16, t.val % 16, 0, 0] ∧
    win0_2.index t = ![t.val / 16, 2 * (t.val % 16) - 1, 0] ∧ win0_3.index t = ![t.val / 16, t.val % 16, 0] ∧
    win0_4.index t = ![t.val / 16, min (2 * (t.val % 16) + 2) 31, 0] ∧
    win0_5.index t = ![t.val / 16, 2 * (t.val % 16) - 1, 0, 0] ∧ win0_6.index t = ![t.val / 16, t.val % 16, 0, 0] ∧
    win0_7.index t = ![t.val / 16, min (2 * (t.val % 16) + 2) 31, 0, 0] ∧
    win0_8.index t = ![t.val / 16, 0, 0] ∧ win0_9.index t = ![t.val / 16, 0, 0] ∧
    win0_10.index t = ![if t.val % 16 = 0 then 0 else 1, 0, 0] ∧ win0_11.index t = ![if t.val % 16 = 15 then 2 else 1, 0, 0] ∧
    win0_12.index t = ![t.val / 16, t.val % 16, 0] ∧ win0_13.index t = ![t.val / 16, 0, 0] ∧ win0_14.index t = ![0, 0] ∧
    win0_15.index t = ![t.val / 16, t.val % 16, 0] :=
  (by decide +kernel : ∀ t : Fin grid0.N, _)

variable (m : (ℓ : Loc nD τ sig) → Buf (Elt Ideal) ℓ)

/-- An element of the queries, from the argument. -/
def query (c : Dev nD) (b : Fin 8) (t : Fin 4096) (h : Fin 16) (e : Fin 64) : EReal := m ((c : Thread nD τ).loc main_arg3) (ix4 b t h e)

/-- The queries, blocked and transposed, in units of log 2. -/
theorem queries_at (c : Dev nD) (b : Fin 8) (n : Fin 32) (r : Fin 1024) (k : Fin 128) : (V m c main_v6 : FVec Ideal S8x32x1024x128 .bf16) (ix4 b n r k) = query m c b ⟨n.val * 128 + k.val, by omega⟩ ⟨r.val / 64, by omega⟩ ⟨r.val % 64, by omega⟩ *
      Ideal.div (Ideal.ofBits .f32 0x3E000000#32) (Ideal.log (Ideal.ofBits .f32 0x40000000#32)) := by
  simp only [V, hostOps0, hostOps0_1, hostOps0_2, hostOps0_3, hostOps0_4, List.flatten_cons, List.flatten_nil, List.append_nil, List.cons_append, List.nil_append]
  entry_read
  pointwise [query]

/-- The keys, the heads side by side. -/
theorem keys_at (c : Dev nD) (b : Fin 8) (j : Fin 4096) (e : Fin 256) : (V m c main_v8 : FVec Ideal S8x4096x256 .bf16) (ix3 b j e) = (m ((c : Thread nD τ).loc main_arg4) : FVec Ideal S8x4096x4x64 .f32) (ix4 b j ⟨e.val / 64, by omega⟩ ⟨e.val % 64, by omega⟩) := by
  simp only [V, hostOps0, hostOps0_1, hostOps0_2, hostOps0_3, hostOps0_4, List.flatten_cons, List.flatten_nil, List.append_nil, List.cons_append, List.nil_append]
  entry_read
  pointwise

/-- The values, blocked and transposed. -/
theorem values_at (c : Dev nD) (b : Fin 8) (n : Fin 32) (e : Fin 256) (k : Fin 128) : (V m c main_v11 : FVec Ideal S8x32x256x128 .bf16) (ix4 b n e k) = (m ((c : Thread nD τ).loc main_arg5) : FVec Ideal S8x4096x4x64 .f32) (ix4 b ⟨n.val * 128 + k.val, by omega⟩ ⟨e.val / 64, by omega⟩ ⟨e.val % 64, by omega⟩) := by
  simp only [V, hostOps0, hostOps0_1, hostOps0_2, hostOps0_3, hostOps0_4, List.flatten_cons, List.flatten_nil, List.append_nil, List.cons_append, List.nil_append]
  entry_read
  pointwise

/-- The keys of the context, the heads side by side. -/
theorem cacheKeys_at (c : Dev nD) (b : Fin 8) (j : Fin 512) (e : Fin 256) : (V m c main_v13 : FVec Ideal S8x512x256 .bf16) (ix3 b j e) = (m ((c : Thread nD τ).loc main_arg7) : FVec Ideal S8x512x4x64 .f32) (ix4 b j ⟨e.val / 64, by omega⟩ ⟨e.val % 64, by omega⟩) := by
  simp only [V, hostOps0, hostOps0_1, hostOps0_2, hostOps0_3, hostOps0_4, List.flatten_cons, List.flatten_nil, List.append_nil, List.cons_append, List.nil_append]
  entry_read
  pointwise

/-- The values of the context, transposed. -/
theorem cacheValues_at (c : Dev nD) (b : Fin 8) (e : Fin 256) (j : Fin 512) : (V m c main_v16 : FVec Ideal S8x256x512 .bf16) (ix3 b e j) = (m ((c : Thread nD τ).loc main_arg8) : FVec Ideal S8x512x4x64 .f32) (ix4 b j ⟨e.val / 64, by omega⟩ ⟨e.val % 64, by omega⟩) := by
  simp only [V, hostOps0, hostOps0_1, hostOps0_2, hostOps0_3, hostOps0_4, List.flatten_cons, List.flatten_nil, List.append_nil, List.cons_append, List.nil_append]
  entry_read
  pointwise

/-- The output projection. -/
theorem outWeights_at (c : Dev nD) (j d : Fin 1024) : (V m c main_v17 : FVec Ideal S1024x1024 .bf16) (ix2 j d) = (m ((c : Thread nD τ).loc main_arg2) : FVec Ideal S1024x1024 .f32) (ix2 j d) := by
  simp only [V, hostOps0, hostOps0_1, hostOps0_2, hostOps0_3, hostOps0_4, List.flatten_cons, List.flatten_nil, List.append_nil, List.cons_append, List.nil_append]
  entry_read
  pointwise

/-- The scalar 128 the position of a query in its block is taken by (1 in place of a zero divisor). -/
def period : IVec S_ 32 :=
  select (cmpi .eq (constantI S_ 32 128#32) (constantI S_ 32 0#32)) (constantI S_ 32 1#32) (constantI S_ 32 128#32)

/-- The truncated remainder of a column by the block's length. -/
def colRem : IVec S3x384x512 32 :=
  Host.remsi (iotaInDim S3x384x512 32 2) (broadcastInDim S3x384x512 ![] bcast_S_S3x384x512 period)

/-- The query's position in its block. -/
def colPos : IVec S3x384x512 32 :=
  select (andi (cmpi .ne (cmpi .slt colRem (broadcastInDim S3x384x512 ![] bcast_S_S3x384x512 (constantI S_ 32 0#32)))
      (broadcastInDim S3x384x512 ![] bcast_S_S3x384x512 (cmpi .slt period (constantI S_ 32 0#32))))
    (cmpi .ne colRem (broadcastInDim S3x384x512 ![] bcast_S_S3x384x512 (constantI S_ 32 0#32))))
    (addi colRem (broadcastInDim S3x384x512 ![] bcast_S_S3x384x512 period)) colRem

/-- The table of the band as the host computes it. -/
def table : FVec Ideal S3x384x512 .f32 :=
  select (andi (andi (cmpi .sle (absi (subi (subi (iotaInDim S3x384x512 32 1) (broadcastInDim S3x384x512 ![] bcast_S_S3x384x512 (constantI S_ 32 128#32))) colPos))
          (broadcastInDim S3x384x512 ![] bcast_S_S3x384x512 (constantI S_ 32 128#32)))
        (ori (cmpi .ne (iotaInDim S3x384x512 32 0) (broadcastInDim S3x384x512 ![] bcast_S_S3x384x512 (constantI S_ 32 0#32)))
          (cmpi .sge (iotaInDim S3x384x512 32 1) (broadcastInDim S3x384x512 ![] bcast_S_S3x384x512 (constantI S_ 32 128#32)))))
      (ori (cmpi .ne (iotaInDim S3x384x512 32 0) (broadcastInDim S3x384x512 ![] bcast_S_S3x384x512 (constantI S_ 32 2#32)))
        (cmpi .slt (iotaInDim S3x384x512 32 1) (broadcastInDim S3x384x512 ![] bcast_S_S3x384x512 (constantI S_ 32 256#32)))))
    (broadcastInDim S3x384x512 ![] bcast_S_S3x384x512 (constant S_ .f32 0x00000000#32))
    (broadcastInDim S3x384x512 ![] bcast_S_S3x384x512 (constant S_ .f32 0xFF800000#32))

/-- The host's table array holds that table. -/
theorem table_eq (c : Dev nD) : (V m c main_v41 : FVec Ideal S3x384x512 .f32) = table := by
  simp only [V, hostOps0, hostOps0_1, hostOps0_2, hostOps0_3, hostOps0_4, List.flatten_cons, List.flatten_nil, List.append_nil, List.cons_append, List.nil_append]
  entry_read
  simp only [StableHlo.TRef.ofBuf_toBuf]
  rfl

/-- A column's remainder is the query's position in its block. -/
theorem colPos_at (w : Fin 3) (s : Fin 384) (k : Fin 512) : colPos (ix3 w s k) = BitVec.ofNat 32 (k.val % 128) := by
  pointwise [colPos, colRem, period]
  revert k
  decide +kernel

/-- The distance of a key and a query, as an offset from 255. -/
theorem dist_at (s : Fin 384) (q : Fin 128) :
    IntOp.subi (IntOp.subi (BitVec.ofNat 32 s.val) 128#32) (BitVec.ofNat 32 q.val) = BitVec.ofNat 32 (s.val + 127 - q.val) - 255#32 := by
  show BitVec.ofNat 32 s.val - 128#32 - BitVec.ofNat 32 q.val = _
  apply BitVec.eq_of_toNat_eq
  simp only [BitVec.toNat_sub, BitVec.toNat_ofNat]
  omega

/-- Whether an offset is within the window. -/
theorem window_at : ∀ d : Fin 511, IntOp.cmpi CmpIPredicate.sle (IntOp.absi (BitVec.ofNat 32 d.val - 255#32)) 128#32 =
    if 127 ≤ d.val ∧ d.val ≤ 383 then 1#1 else 0#1 := by
  decide +kernel

/-- Whether a key is within the window of a query: the key at place `s` of the three blocks, the query at place `q` of
    the middle one. -/
theorem near_at (s : Fin 384) (q : Fin 128) :
    IntOp.cmpi CmpIPredicate.sle (IntOp.absi (IntOp.subi (IntOp.subi (BitVec.ofNat 32 s.val) 128#32) (BitVec.ofNat 32 q.val))) 128#32 =
      if q.val ≤ s.val ∧ s.val ≤ q.val + 256 then 1#1 else 0#1 := by
  rw [dist_at, window_at ⟨s.val + 127 - q.val, by omega⟩]
  exact if_congr (by show 127 ≤ s.val + 127 - q.val ∧ s.val + 127 - q.val ≤ 383 ↔ _; omega) rfl rfl

/-- The ends of the sequence, in the table. -/
theorem ends_at : ∀ (w : Fin 3) (s : Fin 384),
    IntOp.andi (IntOp.ori (IntOp.cmpi CmpIPredicate.ne (BitVec.ofNat 32 w.val) 0#32) (IntOp.cmpi CmpIPredicate.sge (BitVec.ofNat 32 s.val) 128#32))
        (IntOp.ori (IntOp.cmpi CmpIPredicate.ne (BitVec.ofNat 32 w.val) 2#32) (IntOp.cmpi CmpIPredicate.slt (BitVec.ofNat 32 s.val) 256#32)) =
      if (w.val ≠ 0 ∨ 128 ≤ s.val) ∧ (w.val ≠ 2 ∨ s.val < 256) then 1#1 else 0#1 := by
  decide +kernel

/-- An element of the table: zero for an allowed pair, minus infinity else. -/
theorem table_at (w : Fin 3) (s : Fin 384) (k : Fin 512) : table (ix3 w s k) =
    if (k.val % 128 ≤ s.val ∧ s.val ≤ k.val % 128 + 256) ∧ (w.val ≠ 0 ∨ 128 ≤ s.val) ∧ (w.val ≠ 2 ∨ s.val < 256) then (0 : EReal) else ⊥ := by
  pointwise [table]
  rw [colPos_at, near_at s ⟨k.val % 128, by omega⟩, show ∀ a b c : BitVec 1, IntOp.andi (IntOp.andi a b) c = IntOp.andi a (IntOp.andi b c) from by decide, ends_at,
    ofBits_neg_inf]
  by_cases h1 : k.val % 128 ≤ s.val ∧ s.val ≤ k.val % 128 + 256 <;>
    by_cases h2 : (w.val ≠ 0 ∨ 128 ≤ s.val) ∧ (w.val ≠ 2 ∨ s.val < 256)
  · rw [if_pos h1, if_pos h2, if_pos ⟨h1, h2⟩]; rfl
  · rw [if_pos h1, if_neg h2, if_neg fun h => h2 h.2]; rfl
  · rw [if_neg h1, if_pos h2, if_neg fun h => h1 h.1]; rfl
  · rw [if_neg h1, if_neg h2, if_neg fun h => h1 h.1]; rfl
end Cert.KernelIdeal.Attn
-- ==== Proof.Attn.Mix.lean ====
/- Attention of one query over a band of keys, a context and a sink: base two over the window against base e over all keys. -/
module

public import Idealize.ShloMosaic.Lib.Pointwise

@[expose] public section

noncomputable section

open Idealize.ShloMosaic

namespace Attn

/-- The largest of the sink, the window's scores and the context's scores. -/
def top {n k : ℕ} (sk : EReal) (w : Fin n → EReal) (c : Fin k → EReal) : EReal :=
  max (max sk (Finset.univ.fold max ⊥ w)) (Finset.univ.fold max ⊥ c)

/-- Base-two softmax with a sink, applied to values: window first, then context. -/
def mixTwo {n k : ℕ} (sk : EReal) (w : Fin n → EReal) (c : Fin k → EReal) (v : Fin n → EReal) (u : Fin k → EReal) : EReal :=
  Ideal.div ((∑ s, v s * Ideal.exp2 (w s - top sk w c)) + ∑ s, u s * Ideal.exp2 (c s - top sk w c))
    (Ideal.exp2 (sk - top sk w c) + ((∑ s, Ideal.exp2 (w s - top sk w c)) + ∑ s, Ideal.exp2 (c s - top sk w c)))

/-- The same softmax with the natural exponential. -/
def mixE {n k : ℕ} (sk : EReal) (w : Fin n → EReal) (c : Fin k → EReal) (v : Fin n → EReal) (u : Fin k → EReal) : EReal :=
  Ideal.div ((∑ s, v s * Ideal.exp (w s - top sk w c)) + ∑ s, u s * Ideal.exp (c s - top sk w c))
    (Ideal.exp (sk - top sk w c) + (∑ s, Ideal.exp (w s - top sk w c)) + ∑ s, Ideal.exp (c s - top sk w c))

/-- The reciprocal of the natural logarithm of two. -/
def L : EReal := (((Real.log 2)⁻¹ : ℝ) : EReal)

/-- The logarithm of two is positive. -/
theorem log_two_pos : (0 : ℝ) < Real.log 2 := Real.log_pos (by norm_num)

/-- So is its reciprocal. -/
theorem L_real_pos : (0 : ℝ) < (Real.log 2)⁻¹ := inv_pos.mpr log_two_pos

/-- The factor is not negative. -/
theorem L_nonneg : 0 ≤ L := by unfold L; exact_mod_cast L_real_pos.le

/-- The factor is finite. -/
theorem L_ne_top : L ≠ ⊤ := EReal.coe_ne_top _

/-- Minus infinity scaled is minus infinity. -/
theorem bot_mul_L : (⊥ : EReal) * L = ⊥ := EReal.bot_mul_coe_of_pos L_real_pos

/-- A sum times a finite non-negative factor, term by term. -/
theorem sum_mul_of {ι : Type} (A : Finset ι) (f : ι → EReal) (a : EReal) (h0 : 0 ≤ a) (ht : a ≠ ⊤) : (∑ i ∈ A, f i) * a = ∑ i ∈ A, f i * a := by
  classical
  induction A using Finset.induction_on with
  | empty => simp
  | insert i A hi ih => rw [Finset.sum_insert hi, Finset.sum_insert hi, EReal.right_distrib_of_nonneg_of_ne_top h0 ht, ih]

/-- The exponential base two of a scaled difference is the natural exponential of the difference. -/
theorem exp2_sub (x y : EReal) : Ideal.exp2 (x * L - y * L) = Ideal.exp (x - y) := by
  have h : x * L - y * L = (x - y) * L := by
    rw [sub_eq_add_neg, sub_eq_add_neg, EReal.right_distrib_of_nonneg_of_ne_top L_nonneg L_ne_top, EReal.neg_mul]
  rw [h]
  generalize x - y = z
  induction z using EReal.rec with
  | bot => rw [bot_mul_L, Ideal.exp2_bot, Ideal.exp_bot]
  | top => rw [show (⊤ : EReal) * L = ⊤ from EReal.top_mul_coe_of_pos L_real_pos, Ideal.exp2_top, Ideal.exp_top]
  | coe r =>
    unfold L
    rw [← EReal.coe_mul, Ideal.exp2_coe, Ideal.exp_coe]
    congr 1
    change (2 : ℝ) ^ (r * (Real.log 2)⁻¹) = _
    rw [Real.rpow_def_of_pos (by norm_num)]
    congr 1
    field_simp [log_two_pos.ne']

/-- Scaling by the positive factor passes through a maximum. -/
theorem max_mul_L (x y : EReal) : max x y * L = max (x * L) (y * L) :=
  (Monotone.map_max (f := fun z : EReal => z * L) fun _ _ h => mul_le_mul_of_nonneg_right h L_nonneg)

/-- A maximum folded from minus infinity is a supremum. -/
theorem fold_eq_sup {ι : Type} (A : Finset ι) (f : ι → EReal) : A.fold max ⊥ f = A.sup f := rfl

/-- Scaling passes through the maximum of a family. -/
theorem sup_mul_L {ι : Type} (A : Finset ι) (f : ι → EReal) : A.sup f * L = A.sup fun i => f i * L := by
  classical
  induction A using Finset.induction_on with
  | empty => simpa using bot_mul_L
  | insert i A hi ih => rw [Finset.sup_insert, Finset.sup_insert, ← ih]; exact max_mul_L _ _

section Band

variable {n N k : ℕ} (A : Finset (Fin n)) (f : Fin n → Fin N)

/-- Terms vanishing off the window's allowed keys: the sum over all keys is the sum over the allowed ones. -/
theorem sum_band (hf : Set.InjOn f A) (g : Fin N → EReal) (g' : Fin n → EReal) (h0 : ∀ j, (∀ s ∈ A, f s ≠ j) → g j = 0)
    (h0' : ∀ s ∉ A, g' s = 0) (h : ∀ s ∈ A, g' s = g (f s)) : ∑ s, g' s = ∑ j, g j := by
  classical
  rw [← Finset.sum_subset (Finset.subset_univ A) fun s _ hs => h0' s hs, Finset.sum_congr rfl h, ← Finset.sum_image (f := g) hf]
  exact Finset.sum_subset (Finset.subset_univ _) fun j _ hj => h0 j fun s hs e => hj (Finset.mem_image.mpr ⟨s, hs, e⟩)

/-- The maximum over all keys is the maximum over the allowed ones. -/
theorem sup_band (r : Fin N → EReal) (w : Fin n → EReal) (h0 : ∀ j, (∀ s ∈ A, f s ≠ j) → r j = ⊥)
    (h0' : ∀ s ∉ A, w s = ⊥) (h : ∀ s ∈ A, w s = r (f s) * L) : Finset.univ.sup w = Finset.univ.sup r * L := by
  rw [sup_mul_L]
  apply le_antisymm
  · refine Finset.sup_le fun s _ => ?_
    by_cases hs : s ∈ A
    · rw [h s hs]; exact Finset.le_sup (f := fun i => r i * L) (Finset.mem_univ (f s))
    · rw [h0' s hs]; exact bot_le
  · refine Finset.sup_le fun j _ => ?_
    by_cases hj : ∀ s ∈ A, f s ≠ j
    · rw [h0 j hj, bot_mul_L]; exact bot_le
    · push Not at hj
      obtain ⟨s, hs, rfl⟩ := hj
      rw [← h s hs]; exact Finset.le_sup (Finset.mem_univ s)

/-- The window in base two, its scores scaled, is the band over all keys with the natural exponential. -/
theorem mixTwo_eq_mixE (hf : Set.InjOn f A) (sk : EReal) (w v : Fin n → EReal) (r V : Fin N → EReal) (c u : Fin k → EReal)
    (h0 : ∀ j, (∀ s ∈ A, f s ≠ j) → r j = ⊥) (h0' : ∀ s ∉ A, w s = ⊥) (h : ∀ s ∈ A, w s = r (f s) * L) (hv : ∀ s ∈ A, v s = V (f s)) :
    mixTwo (sk * L) w (fun s => c s * L) v u = mixE sk r c V u := by
  have hm : top (sk * L) w (fun s => c s * L) = top sk r c * L := by
    unfold top
    rw [max_mul_L, max_mul_L]
    simp only [fold_eq_sup]
    rw [sup_band A f r w h0 h0' h, sup_mul_L _ c]
  have zE : ∀ m : EReal, Ideal.exp (⊥ - m) = 0 := fun m => by rw [EReal.bot_sub]; rfl
  have z2 : ∀ m : EReal, Ideal.exp2 (⊥ - m) = 0 := fun m => by rw [EReal.bot_sub]; rfl
  unfold mixTwo mixE
  rw [hm]
  generalize top sk r c = m
  have e1 : (∑ s, Ideal.exp2 (w s - m * L)) = ∑ j, Ideal.exp (r j - m) :=
    sum_band A f hf _ _ (fun j hj => by rw [h0 j hj, zE]) (fun s hs => by rw [h0' s hs, z2]) fun s hs => by rw [h s hs, exp2_sub]
  have e2 : (∑ s, v s * Ideal.exp2 (w s - m * L)) = ∑ j, V j * Ideal.exp (r j - m) :=
    sum_band A f hf _ _ (fun j hj => by rw [h0 j hj, zE, mul_zero]) (fun s hs => by rw [h0' s hs, z2, mul_zero])
      fun s hs => by rw [h s hs, hv s hs, exp2_sub]
  simp only [exp2_sub, e1, e2, add_assoc]

end Band

end Attn
-- ==== Proof.Attn.Tile.lean ====
/- The kernel's tiles at an index, and the two query blocks' results as softmaxes over the window. -/
module

public import proofs.«01_k».proof.Proof.Attn.Words
public import proofs.«01_k».proof.Proof.Attn.Mix

@[expose] public section

set_option maxRecDepth 16384

noncomputable section

open Idealize.ShloMosaic Idealize.ShloMosaic.TcCoe Idealize.SL.Sem

namespace Cert.KernelIdeal.Attn

open Cert.KernelIdeal Cert.KernelIdeal.Gen

/-- The window's keys at a row: the tile the row falls in. -/
theorem keys3_at (k0 k1 k2 : FVec Ideal S1x128x256 .bf16) (s : Fin 384) (e : Fin 256) :
    keys3 k0 k1 k2 (ix2 s e) = if h : s.val < 128 then k0 (ix3 0 ⟨s.val, h⟩ e)
      else if h' : s.val - 128 < 128 then k1 (ix3 0 ⟨s.val - 128, h'⟩ e) else k2 (ix3 0 ⟨s.val - 128 - 128, by omega⟩ e) := by
  pointwise! [keys3]

/-- The window's values at a column: the tile the column falls in. -/
theorem vals3_at (v0 v1 v2 : FVec Ideal S1x1x256x128 .bf16) (e : Fin 256) (s : Fin 384) :
    vals3 v0 v1 v2 (ix2 e s) = if h : s.val < 128 then v0 (ix4 0 0 e ⟨s.val, h⟩)
      else if h' : s.val - 128 < 128 then v1 (ix4 0 0 e ⟨s.val - 128, h'⟩) else v2 (ix4 0 0 e ⟨s.val - 128 - 128, by omega⟩) := by
  pointwise! [vals3]

/-- The group's queries at a lane and a column. -/
theorem queries4_at (x : FVec Ideal S1x2x1024x128 .bf16) (qb : Fin 2) (kh : Fin 4) (e : Fin 64) (c : Fin 512) :
    queries4 (headQ x qb ⟨4 * kh.val, by omega⟩) (headQ x qb ⟨4 * kh.val + 1, by omega⟩) (headQ x qb ⟨4 * kh.val + 2, by omega⟩) (headQ x qb ⟨4 * kh.val + 3, by omega⟩) (ix2 e c)
      = x (ix4 0 qb ⟨64 * (4 * kh.val + c.val / 128) + e.val, by omega⟩ ⟨c.val % 128, by omega⟩) := by
  pointwise! [queries4, k0_pay13]
  unfold headQ
  split_ifs <;> refine congrArg x ?_ <;> blk_ext

/-- The group's sinks at a column. -/
theorem sinks4_at (x : FVec Ideal S16 .f32) (kh : Fin 4) (c : Fin 512) :
    sinks4 (x (ix1 ⟨4 * kh.val, by omega⟩)) (x (ix1 ⟨4 * kh.val + 1, by omega⟩)) (x (ix1 ⟨4 * kh.val + 2, by omega⟩)) (x (ix1 ⟨4 * kh.val + 3, by omega⟩)) (ix2 0 c)
      = x (ix1 ⟨4 * kh.val + c.val / 128, by omega⟩) * Attn.L := by
  have hL : (Named.named κ "log2e" 0x3FB8AA3B#32 : Ideal .f32) = Attn.L := IdealRules.named_const.ideal_named_scalar _ _ _ _ rfl
  pointwise! [sinks4, k0_pay14]
  rw [hL]
  split_ifs <;> congr 2 <;> blk_ext

/-- A window score of a group at a key and a column. -/
theorem tileWin_at (kh : Fin 4) (k0 k1 k2 : FVec Ideal S1x128x256 .bf16) (b : FVec Ideal S1x384x512 .f32) (q0 q1 q2 q3 : FVec Ideal S1x1x64x128 .bf16)
    (s : Fin 384) (c : Fin 512) : tileWin kh k0 k1 k2 b q0 q1 q2 q3 (ix2 s c) =
      (∑ e : Fin 64, keys3 k0 k1 k2 (ix2 s ⟨64 * kh.val + e.val, by omega⟩) * queries4 q0 q1 q2 q3 (ix2 e c)) + b (ix3 0 s c) := by
  rw [tileWin, winScores_at]
  pointwise!

/-- A context score of a group at a key and a column. -/
theorem tileCtx_at (kh : Fin 4) (ck : FVec Ideal S1x512x256 .bf16) (q0 q1 q2 q3 : FVec Ideal S1x1x64x128 .bf16)
    (s : Fin 512) (c : Fin 512) : tileCtx kh ck q0 q1 q2 q3 (ix2 s c) =
      ∑ e : Fin 64, ck (ix3 0 s ⟨64 * kh.val + e.val, by omega⟩) * queries4 q0 q1 q2 q3 (ix2 e c) := by
  rw [tileCtx, ctxScores_at]
  pointwise!

/-- A group's result at a lane and a column: the softmax with a sink in base two. -/
theorem tileOut_at (kh : Fin 4) (k0 k1 k2 : FVec Ideal S1x128x256 .bf16) (v0 v1 v2 : FVec Ideal S1x1x256x128 .bf16) (b : FVec Ideal S1x384x512 .f32)
    (ck : FVec Ideal S1x512x256 .bf16) (cv : FVec Ideal S1x256x512 .bf16) (q0 q1 q2 q3 : FVec Ideal S1x1x64x128 .bf16) (s0 s1 s2 s3 : EReal) (e : Fin 64) (c : Fin 512) :
    tileOut kh k0 k1 k2 v0 v1 v2 b ck cv q0 q1 q2 q3 s0 s1 s2 s3 (ix2 e c) =
      Attn.mixTwo (sinks4 s0 s1 s2 s3 (ix2 0 c)) (fun s => tileWin kh k0 k1 k2 b q0 q1 q2 q3 (ix2 s c)) (fun s => tileCtx kh ck q0 q1 q2 q3 (ix2 s c))
        (fun s => vals3 v0 v1 v2 (ix2 ⟨64 * kh.val + e.val, by omega⟩ s)) (fun s => cv (ix3 0 ⟨64 * kh.val + e.val, by omega⟩ s)) := by
  rw [tileOut, groupOut_at, colMax_at]
  pointwise!

end Cert.KernelIdeal.Attn
-- ==== Proof.Attn.RefAt.lean ====
/- What the reference computes at an index: the softmax with a sink over all keys and the context, then the output projection. -/
module

public import proofs.«01_k».proof.Proof.Gen.ReferenceIdeal.Read
public import proofs.«01_k».proof.Proof.Attn.Mix
public import Idealize.ShloMosaic.Lib.Pointwise

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Read

/-- A maximum over the last of five axes is a fold over that axis. -/
theorem max_last {a b c d n : ℕ} (x : FVec Ideal ⟨5, ![a, b, c, d, n]⟩ .f32) (init : FVec Ideal ⟨0, ![]⟩ .f32)
    (h : (⟨5, ![a, b, c, d, n]⟩ : Shape).ReducesTo [4] ⟨4, ![a, b, c, d]⟩) (h0 : 0 < (⟨0, ![]⟩ : Shape).numel)
    (i : Fin a) (j : Fin b) (k : Fin c) (l : Fin d) :
    Host.reduce (FloatOps.maximumf (F := Ideal) (φ := .f32)) x init h h0 (ix4 i j k l) =
    Finset.univ.fold max (init (Shape.Idx.first h0)) fun s : Fin n => x (ix5 i j k l s) := by
  pointwise

/-- The distance test on small distances, of either sign. -/
theorem small_dist : ∀ k : Fin 4096, IntOp.cmpi .sle (IntOp.absi (BitVec.ofNat 32 k.val)) 128#32 = BitVec.ofBool (k.val ≤ 128) ∧
    IntOp.cmpi .sle (IntOp.absi (0#32 - BitVec.ofNat 32 k.val)) 128#32 = BitVec.ofBool (k.val ≤ 128) := by decide +kernel

/-- The reference's distance test between positions. -/
theorem near_iff (s t : Fin 4096) : IntOp.cmpi .sle (IntOp.absi (IntOp.subi (BitVec.ofNat 32 s.val) (BitVec.ofNat 32 t.val))) 128#32
    = BitVec.ofBool (s.val ≤ t.val + 128 ∧ t.val ≤ s.val + 128) := by
  have hs := s.isLt
  have ht := t.isLt
  rcases Nat.le_total t.val s.val with h | h
  · have e : IntOp.subi (BitVec.ofNat 32 s.val) (BitVec.ofNat 32 t.val) = BitVec.ofNat 32 (s.val - t.val) := by
      unfold IntOp.subi; bv_omega
    rw [e, (small_dist ⟨s.val - t.val, by omega⟩).1]
    congr 2
    simp only [eq_iff_iff]
    omega
  · have e : IntOp.subi (BitVec.ofNat 32 s.val) (BitVec.ofNat 32 t.val) = 0#32 - BitVec.ofNat 32 (t.val - s.val) := by
      unfold IntOp.subi; bv_omega
    rw [e, (small_dist ⟨t.val - s.val, by omega⟩).2]
    congr 2
    simp only [eq_iff_iff]
    omega

/-- The pattern of minus infinity is the bottom element. -/
theorem ofBits_neg_inf : Ideal.ofBits .f32 0xFF800000#32 = ⊥ := by simp [Ideal.ofBits, Ideal.ieee]

variable (x0 : FVec Ideal S8x4096x1024 .f32) (x1 : FVec Ideal S8x1x1024 .f32) (x2 : FVec Ideal S1024x1024 .f32)
  (x3 : FVec Ideal S8x4096x16x64 .f32) (x4 x5 : FVec Ideal S8x4096x4x64 .f32) (x6 : FVec Ideal S16 .f32)
  (x7 x8 : FVec Ideal S8x512x4x64 .f32)

/-- The scaled product of key `s` with query `t` of head `4 * kh + g`. -/
def dotK (b : Fin 8) (kh g : Fin 4) (t s : Fin 4096) : EReal :=
  (∑ e : Fin 64, x4 (ix4 b s kh e) * x3 (ix4 b t ⟨kh.val * 4 + g.val, by omega⟩ e)) * Ideal.ofBits .f32 0x3E000000#32

/-- The masked score of key `s` with query `t`. -/
def score (b : Fin 8) (kh g : Fin 4) (t s : Fin 4096) : EReal :=
  if s.val ≤ t.val + 128 ∧ t.val ≤ s.val + 128 then dotK x3 x4 b kh g t s else ⊥

/-- The scaled product of context key `s` with query `t`. -/
def ctxScore (b : Fin 8) (kh g : Fin 4) (t : Fin 4096) (s : Fin 512) : EReal :=
  (∑ e : Fin 64, x7 (ix4 b s kh e) * x3 (ix4 b t ⟨kh.val * 4 + g.val, by omega⟩ e)) * Ideal.ofBits .f32 0x3E000000#32

/-- The reference's scores at an index. -/
theorem scores_at (b : Fin 8) (kh g : Fin 4) (t s : Fin 4096) :
    val_main_v14 (F := Ideal) x3 x4 (ix5 b kh g t s) = score x3 x4 b kh g t s := by
  pointwise [val_main_v14, val_main_v13, val_main_v12, val_main_v11, val_main_v10, val_main_v0, val_main_cst, val_main_cst_0, val_main_call0_v0, val_main_call0_v1, val_main_call0_v2,
    val_main_v9, val_main_v8, val_main_v7, val_main_v6, val_main_v5, val_main_v4, val_main_v3, val_main_v2, val_main_v1, val_main_c]
  rw [near_iff]
  unfold score dotK Scalar.select
  by_cases h : s.val ≤ t.val + 128 ∧ t.val ≤ s.val + 128
  · rw [if_pos h, if_pos (by simp [h])]
  · rw [if_neg h, if_neg (by simp [h])]
    exact ofBits_neg_inf

/-- The reference's context scores at an index. -/
theorem ctxScores_at (b : Fin 8) (kh g : Fin 4) (t : Fin 4096) (s : Fin 512) :
    val_main_v18 (F := Ideal) x3 x7 (ix5 b kh g t s) = ctxScore x3 x7 b kh g t s := by
  pointwise [val_main_v18, val_main_v17, val_main_v16, val_main_v15, val_main_v0, val_main_cst_1]
  rfl

/-- The reference's maximum at an index. -/
theorem top_at (b : Fin 8) (kh g : Fin 4) (t : Fin 4096) :
    val_main_v24 (F := Ideal) x3 x4 x6 x7 (ix4 b kh g t) =
      Attn.top (x6 (ix1 ⟨kh.val * 4 + g.val, by omega⟩)) (score x3 x4 b kh g t) (ctxScore x3 x7 b kh g t) := by
  have e20 : val_main_v20 (F := Ideal) x3 x4 (ix4 b kh g t) = Finset.univ.fold max ⊥ (score x3 x4 b kh g t) := by
    refine (max_last (val_main_v14 (F := Ideal) x3 x4) _ _ _ b kh g t).trans ?_
    exact congrArg₂ (fun (i : EReal) f => Finset.univ.fold max i f) ofBits_neg_inf (funext fun s => scores_at x3 x4 b kh g t s)
  have e23 : val_main_v23 (F := Ideal) x3 x7 (ix4 b kh g t) = Finset.univ.fold max ⊥ (ctxScore x3 x7 b kh g t) := by
    refine (max_last (val_main_v18 (F := Ideal) x3 x7) _ _ _ b kh g t).trans ?_
    exact congrArg₂ (fun (i : EReal) f => Finset.univ.fold max i f) ofBits_neg_inf (funext fun s => ctxScores_at x3 x7 b kh g t s)
  have e21 : val_main_v21 (F := Ideal) x6 (ix4 b kh g t) = x6 (ix1 ⟨kh.val * 4 + g.val, by omega⟩) := by
    pointwise [val_main_v21, val_main_v19]
  rw [val_main_v24_apply, val_main_v22_apply, e20, e21, e23]
  rfl

/-- The reference's attention at an index: head `j / 64`, lane `j % 64`. -/
theorem mix_at (b : Fin 8) (t : Fin 4096) (j : Fin 1024) :
    val_main_v49 (F := Ideal) x3 x4 x5 x6 x7 x8 (ix3 b t j) =
      Attn.mixE (x6 (ix1 ⟨j.val / 256 * 4 + j.val / 64 % 4, by omega⟩))
        (score x3 x4 b ⟨j.val / 256, by omega⟩ ⟨j.val / 64 % 4, by omega⟩ t) (ctxScore x3 x7 b ⟨j.val / 256, by omega⟩ ⟨j.val / 64 % 4, by omega⟩ t)
        (fun s => x5 (ix4 b s ⟨j.val / 256, by omega⟩ ⟨j.val % 64, by omega⟩)) (fun s => x8 (ix4 b s ⟨j.val / 256, by omega⟩ ⟨j.val % 64, by omega⟩)) := by
  pointwise [val_main_v49, val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v31, val_main_v30, val_main_v29,
    val_main_v28, val_main_v27, val_main_v26, val_main_v25, val_main_v19, val_main_cst_4, val_main_cst_5]
  simp only [scores_at, ctxScores_at, top_at]
  unfold Attn.mixE
  rfl

/-- The reference's result at an index. -/
theorem result_at (b : Fin 8) (t : Fin 4096) (d : Fin 1024) :
    val_main_v53 (F := Ideal) x0 x1 x2 x3 x4 x5 x6 x7 x8 (ix3 b t d) =
      x0 (ix3 b t d) + x1 (ix3 b 0 d) * ∑ j : Fin 1024, val_main_v49 (F := Ideal) x3 x4 x5 x6 x7 x8 (ix3 b t j) * x2 (ix2 j d) := by
  pointwise [val_main_v53, val_main_v52, val_main_v51, val_main_v50]

end Cert.ReferenceIdeal.Attn
-- ==== Proof.Attn.Band.lean ====
/- One query block's tile against the reference's dense attention: the window's keys are the keys the mask allows. -/
module

public import proofs.«01_k».proof.Proof.Attn.Tile
public import proofs.«01_k».proof.Proof.Attn.RefAt

@[expose] public section

set_option maxRecDepth 16384

noncomputable section

open Idealize.ShloMosaic Idealize.ShloMosaic.TcCoe Idealize.SL.Sem

namespace Cert.KernelIdeal.Attn

open Cert.KernelIdeal Cert.KernelIdeal.Gen

/-- The scale of the scores. -/
theorem ofBits_eighth : Ideal.ofBits .f32 0x3E000000#32 = ((1 / 8 : ℝ) : EReal) := by
  simp [Ideal.ofBits, Ideal.ieee]; norm_num; rw [← EReal.coe_mul]; congr 1; norm_num

/-- The scale is not negative. -/
theorem eighth_nonneg : (0 : EReal) ≤ Ideal.ofBits .f32 0x3E000000#32 := by
  rw [ofBits_eighth]; exact_mod_cast (by norm_num : (0 : ℝ) ≤ 1 / 8)

/-- The queries' factor: the scale in units of log 2. -/
theorem scale_eq : Ideal.div (Ideal.ofBits .f32 0x3E000000#32) (Ideal.log (Ideal.ofBits .f32 0x40000000#32)) = Ideal.ofBits .f32 0x3E000000#32 * Attn.L := by
  have h2 : Ideal.ofBits .f32 0x40000000#32 = ((2 : ℝ) : EReal) := by simp [Ideal.ofBits, Ideal.ieee]; norm_num; rw [← EReal.coe_mul]; congr 1; norm_num
  have hl : Ideal.log ((2 : ℝ) : EReal) = ((Real.log 2 : ℝ) : EReal) := by
    show (if (2 : ℝ) ≤ 0 then (⊥ : EReal) else (Real.log 2 : EReal)) = _
    rw [if_neg (by norm_num)]
  rw [h2, hl]
  unfold Ideal.div
  rw [if_neg (by exact_mod_cast Attn.log_two_pos.ne'), Attn.L, EReal.coe_inv]

/-- The factor is not negative. -/
theorem factor_nonneg : (0 : EReal) ≤ Ideal.ofBits .f32 0x3E000000#32 * Attn.L := mul_nonneg eighth_nonneg Attn.L_nonneg

/-- The factor is finite. -/
theorem factor_ne_top : Ideal.ofBits .f32 0x3E000000#32 * Attn.L ≠ ⊤ := by
  rw [ofBits_eighth, Attn.L, ← EReal.coe_mul]; exact EReal.coe_ne_top _

/-- A product of keys with scaled queries is the scaled product. -/
theorem dot_scaled {n : ℕ} (a q : Fin n → EReal) : (∑ e, a e * (q e * (Ideal.ofBits .f32 0x3E000000#32 * Attn.L))) =
    (∑ e, a e * q e) * Ideal.ofBits .f32 0x3E000000#32 * Attn.L := by
  rw [mul_assoc, Attn.sum_mul_of _ _ _ factor_nonneg factor_ne_top]
  exact Finset.sum_congr rfl fun e _ => (mul_assoc _ _ _).symm

/-- A place of the window of query block `N` that lies in the sequence and is near place `q` of the block. -/
def Allowed (N : ℕ) (q : ℕ) (s : ℕ) : Prop := (q ≤ s ∧ s ≤ q + 256) ∧ (N ≠ 0 ∨ 128 ≤ s) ∧ (N ≠ 31 ∨ s < 256)

instance (N q s : ℕ) : Decidable (Allowed N q s) := by unfold Allowed; infer_instance

/-- The key at a place of the window of query block `N`. -/
def place (N : Fin 32) (s : Fin 384) : Fin 4096 := ⟨(N.val * 128 + s.val - 128) % 4096, Nat.mod_lt _ (by norm_num)⟩

/-- A place in the sequence needs no wrapping. -/
theorem place_val (N : Fin 32) (s : Fin 384) (h : (N.val ≠ 0 ∨ 128 ≤ s.val) ∧ (N.val ≠ 31 ∨ s.val < 256)) :
    (place N s).val = N.val * 128 + s.val - 128 := by
  show (N.val * 128 + s.val - 128) % 4096 = _
  omega

variable
  (x3 : FVec Ideal Cert.ReferenceIdeal.S8x4096x16x64 .f32) (x4 x5 : FVec Ideal Cert.ReferenceIdeal.S8x4096x4x64 .f32) (x6 : FVec Ideal Cert.ReferenceIdeal.S16 .f32)
  (x7 x8 : FVec Ideal Cert.ReferenceIdeal.S8x512x4x64 .f32)

/-- A query block's tile is the reference's attention at those queries. -/
theorem tile_mix (b : Fin 8) (N : Fin 32) (qb : Fin 2) (kh : Fin 4)
    (xs : FVec Ideal S16 .f32) (xq : FVec Ideal S1x2x1024x128 .bf16) (k0 k1 k2 : FVec Ideal S1x128x256 .bf16) (v0 v1 v2 : FVec Ideal S1x1x256x128 .bf16)
    (bias : FVec Ideal S1x384x512 .f32) (ck : FVec Ideal S1x512x256 .bf16) (cv : FVec Ideal S1x256x512 .bf16)
    (hs : ∀ h : Fin 16, xs (ix1 h) = x6 (ix1 h))
    (hq : ∀ (r : Fin 1024) (k : Fin 128), xq (ix4 0 qb r k) =
      (x3 (ix4 b ⟨N.val * 128 + k.val, by omega⟩ ⟨r.val / 64, by omega⟩ ⟨r.val % 64, by omega⟩) : EReal) * (Ideal.ofBits .f32 0x3E000000#32 * Attn.L))
    (hk : ∀ (s : Fin 384) (e : Fin 256), (N.val ≠ 0 ∨ 128 ≤ s.val) ∧ (N.val ≠ 31 ∨ s.val < 256) →
      keys3 k0 k1 k2 (ix2 s e) = x4 (ix4 b (place N s) ⟨e.val / 64, by omega⟩ ⟨e.val % 64, by omega⟩))
    (hv : ∀ (s : Fin 384) (e : Fin 256), (N.val ≠ 0 ∨ 128 ≤ s.val) ∧ (N.val ≠ 31 ∨ s.val < 256) →
      vals3 v0 v1 v2 (ix2 e s) = x5 (ix4 b (place N s) ⟨e.val / 64, by omega⟩ ⟨e.val % 64, by omega⟩))
    (hb : ∀ (s : Fin 384) (k : Fin 512), bias (ix3 0 s k) = if Allowed N.val (k.val % 128) s.val then (0 : EReal) else ⊥)
    (hck : ∀ (s : Fin 512) (e : Fin 256), ck (ix3 0 s e) = x7 (ix4 b s ⟨e.val / 64, by omega⟩ ⟨e.val % 64, by omega⟩))
    (hcv : ∀ (s : Fin 512) (e : Fin 256), cv (ix3 0 e s) = x8 (ix4 b s ⟨e.val / 64, by omega⟩ ⟨e.val % 64, by omega⟩))
    (e : Fin 64) (c : Fin 512) (g : Fin 4) (hg : g.val = c.val / 128) (t : Fin 4096) (ht : t.val = N.val * 128 + c.val % 128) (hd : Fin 16) (hhd : hd.val = kh.val * 4 + g.val) :
    tileOut kh k0 k1 k2 v0 v1 v2 bias ck cv (headQ xq qb ⟨4 * kh.val, by omega⟩) (headQ xq qb ⟨4 * kh.val + 1, by omega⟩) (headQ xq qb ⟨4 * kh.val + 2, by omega⟩) (headQ xq qb ⟨4 * kh.val + 3, by omega⟩)
      (xs (ix1 ⟨4 * kh.val, by omega⟩)) (xs (ix1 ⟨4 * kh.val + 1, by omega⟩)) (xs (ix1 ⟨4 * kh.val + 2, by omega⟩)) (xs (ix1 ⟨4 * kh.val + 3, by omega⟩)) (ix2 e c) =
    Attn.mixE (x6 (ix1 hd)) (Cert.ReferenceIdeal.Attn.score x3 x4 b kh g t) (Cert.ReferenceIdeal.Attn.ctxScore x3 x7 b kh g t)
      (fun s => x5 (ix4 b s kh e)) (fun s => x8 (ix4 b s kh e)) := by
  have hN := N.isLt
  have hc := c.isLt
  have hsk : sinks4 (xs (ix1 ⟨4 * kh.val, by omega⟩)) (xs (ix1 ⟨4 * kh.val + 1, by omega⟩)) (xs (ix1 ⟨4 * kh.val + 2, by omega⟩)) (xs (ix1 ⟨4 * kh.val + 3, by omega⟩)) (ix2 0 c)
      = (x6 (ix1 hd) : EReal) * Attn.L := by
    rw [sinks4_at, hs]
    have : (⟨4 * kh.val + c.val / 128, by omega⟩ : Fin 16) = hd := Fin.ext (by show 4 * kh.val + c.val / 128 = hd.val; omega)
    rw [this]
  have hqs : ∀ e' : Fin 64, queries4 (headQ xq qb ⟨4 * kh.val, by omega⟩) (headQ xq qb ⟨4 * kh.val + 1, by omega⟩) (headQ xq qb ⟨4 * kh.val + 2, by omega⟩) (headQ xq qb ⟨4 * kh.val + 3, by omega⟩) (ix2 e' c)
      = (x3 (ix4 b t ⟨kh.val * 4 + g.val, by omega⟩ e') : EReal) * (Ideal.ofBits .f32 0x3E000000#32 * Attn.L) := by
    intro e'
    rw [queries4_at, hq]
    refine congrArg (fun i => (x3 i : EReal) * (Ideal.ofBits .f32 0x3E000000#32 * Attn.L)) ?_
    have h1 : (⟨N.val * 128 + c.val % 128, by omega⟩ : Fin 4096) = t := Fin.ext ht.symm
    have h2 : (⟨(64 * (4 * kh.val + c.val / 128) + e'.val) / 64, by omega⟩ : Fin 16) = ⟨kh.val * 4 + g.val, by omega⟩ := Fin.ext (by show (64 * (4 * kh.val + c.val / 128) + e'.val) / 64 = kh.val * 4 + g.val; omega)
    have h3 : (⟨(64 * (4 * kh.val + c.val / 128) + e'.val) % 64, by omega⟩ : Fin 64) = e' := Fin.ext (by show (64 * (4 * kh.val + c.val / 128) + e'.val) % 64 = e'.val; omega)
    exact congr (congrArg₂ (ix4 b) h1 h2) h3
  have hlane : ∀ e' : Fin 64, (⟨(64 * kh.val + e'.val) / 64, by omega⟩ : Fin 4) = kh := fun e' => Fin.ext (by show (64 * kh.val + e'.val) / 64 = kh.val; omega)
  have hlane' : ∀ e' : Fin 64, (⟨(64 * kh.val + e'.val) % 64, by omega⟩ : Fin 64) = e' := fun e' => Fin.ext (by show (64 * kh.val + e'.val) % 64 = e'.val; omega)
  rw [tileOut_at, hsk]
  have hctx : (fun s => tileCtx kh ck (headQ xq qb ⟨4 * kh.val, by omega⟩) (headQ xq qb ⟨4 * kh.val + 1, by omega⟩) (headQ xq qb ⟨4 * kh.val + 2, by omega⟩) (headQ xq qb ⟨4 * kh.val + 3, by omega⟩) (ix2 s c))
      = fun s => Cert.ReferenceIdeal.Attn.ctxScore x3 x7 b kh g t s * Attn.L := by
    funext s
    rw [tileCtx_at]
    simp only [hqs, hck]
    rw [dot_scaled]
    simp only [hlane, hlane']
    rfl
  have hcvs : (fun s => cv (ix3 0 ⟨64 * kh.val + e.val, by omega⟩ s)) = fun s => x8 (ix4 b s kh e) := by
    funext s
    rw [hcv]
    simp only [hlane, hlane']
  rw [hctx, hcvs]
  refine Attn.mixTwo_eq_mixE (Finset.univ.filter fun s : Fin 384 => Allowed N.val (c.val % 128) s.val) (place N) ?_ _ _ _ _ _ _ _ ?_ ?_ ?_ ?_
  · intro s hs s' hs' h
    simp only [Finset.coe_filter, Finset.mem_univ, true_and, Set.mem_setOf_eq] at hs hs'
    have := congrArg Fin.val h
    rw [place_val N s hs.2, place_val N s' hs'.2] at this
    unfold Allowed at hs hs'
    exact Fin.ext (by omega)
  · intro j hj
    unfold Cert.ReferenceIdeal.Attn.score
    refine if_neg fun hn => ?_
    have hj4 := j.isLt
    have hall : Allowed N.val (c.val % 128) (j.val + 128 - N.val * 128) := by unfold Allowed; omega
    have hlt : j.val + 128 - N.val * 128 < 384 := by omega
    refine hj ⟨j.val + 128 - N.val * 128, hlt⟩ (by simpa using hall) (Fin.ext ?_)
    rw [place_val N _ hall.2]
    show N.val * 128 + (j.val + 128 - N.val * 128) - 128 = j.val
    omega
  · intro s hs
    rw [tileWin_at, hb, if_neg (by simpa using hs)]
    exact EReal.add_bot _
  · intro s hs
    have hs' : Allowed N.val (c.val % 128) s.val := by simpa using hs
    rw [tileWin_at, hb, if_pos hs', add_zero]
    simp only [hqs, hk _ _ hs'.2]
    rw [dot_scaled]
    simp only [hlane, hlane']
    unfold Cert.ReferenceIdeal.Attn.score
    rw [if_pos (by rw [place_val N s hs'.2]; unfold Allowed at hs'; omega)]
    rfl
  · intro s hs
    have hs' : Allowed N.val (c.val % 128) s.val := by simpa using hs
    rw [hv _ _ hs'.2]
    simp only [hlane, hlane']

end Cert.KernelIdeal.Attn
-- ==== Proof.Attn.Blocks.lean ====
/- The blocks a grid point stages, element by element over the arguments. -/
module

public import proofs.«01_k».proof.Proof.Attn.Host
public import proofs.«01_k».proof.Proof.Attn.Band

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

variable (m : (ℓ : Loc nD τ sig) → Buf (Elt Ideal) ℓ)

/-- A grid point's batch. -/
def batch (t : Fin cfg0.N) : Fin 8 := ⟨t.val / 16, by have := (idx t).1; omega⟩

/-- A grid point's pair of query blocks. -/
def pair (t : Fin cfg0.N) : Fin 16 := ⟨t.val % 16, by omega⟩

/-- The sinks. -/
theorem block0 (c : Dev nD) (t : Fin cfg0.N) (h : Fin 16) : (iblk m c 0 t : FVec Ideal S16 .f32) (ix1 h) = (V m c main_arg6 : FVec Ideal S16 .f32) (ix1 h) := by
  obtain ⟨ht, i0, i1, i2, i3, i4, i5, i6, i7, i8, i9, i10, i11, i12, i13, i14, i15⟩ := idx t
  blk_simp [iblk, i0]
  blk_ext [i0, batch, pair]

/-- The queries of the pair of blocks. -/
theorem block1 (c : Dev nD) (t : Fin cfg0.N) (o : Fin 2) (r : Fin 1024) (k : Fin 128) : (iblk m c 1 t : FVec Ideal S1x2x1024x128 .bf16) (ix4 0 o r k) = (V m c main_v6 : FVec Ideal S8x32x1024x128 .bf16) (ix4 (batch t) ⟨2 * (pair t).val + o.val, by omega⟩ r k) := by
  obtain ⟨ht, i0, i1, i2, i3, i4, i5, i6, i7, i8, i9, i10, i11, i12, i13, i14, i15⟩ := idx t
  blk_simp [iblk, i1]
  blk_ext [i1, batch, pair]

/-- The keys before the pair. -/
theorem block2 (c : Dev nD) (t : Fin cfg0.N) (r : Fin 128) (e : Fin 256) : (iblk m c 2 t : FVec Ideal S1x128x256 .bf16) (ix3 0 r e) = (V m c main_v8 : FVec Ideal S8x4096x256 .bf16) (ix3 (batch t) ⟨(2 * (pair t).val - 1) * 128 + r.val, by omega⟩ e) := by
  obtain ⟨ht, i0, i1, i2, i3, i4, i5, i6, i7, i8, i9, i10, i11, i12, i13, i14, i15⟩ := idx t
  blk_simp [iblk, i2]
  blk_ext [i2, batch, pair]

/-- The keys of the pair. -/
theorem block3 (c : Dev nD) (t : Fin cfg0.N) (r : Fin 256) (e : Fin 256) : (iblk m c 3 t : FVec Ideal S1x256x256 .bf16) (ix3 0 r e) = (V m c main_v8 : FVec Ideal S8x4096x256 .bf16) (ix3 (batch t) ⟨(pair t).val * 256 + r.val, by omega⟩ e) := by
  obtain ⟨ht, i0, i1, i2, i3, i4, i5, i6, i7, i8, i9, i10, i11, i12, i13, i14, i15⟩ := idx t
  blk_simp [iblk, i3]
  blk_ext [i3, batch, pair]

/-- The keys after the pair. -/
theorem block4 (c : Dev nD) (t : Fin cfg0.N) (r : Fin 128) (e : Fin 256) : (iblk m c 4 t : FVec Ideal S1x128x256 .bf16) (ix3 0 r e) = (V m c main_v8 : FVec Ideal S8x4096x256 .bf16) (ix3 (batch t) ⟨min (2 * (pair t).val + 2) 31 * 128 + r.val, by omega⟩ e) := by
  obtain ⟨ht, i0, i1, i2, i3, i4, i5, i6, i7, i8, i9, i10, i11, i12, i13, i14, i15⟩ := idx t
  blk_simp [iblk, i4]
  blk_ext [i4, batch, pair]

/-- The values before the pair. -/
theorem block5 (c : Dev nD) (t : Fin cfg0.N) (e : Fin 256) (r : Fin 128) : (iblk m c 5 t : FVec Ideal S1x1x256x128 .bf16) (ix4 0 0 e r) = (V m c main_v11 : FVec Ideal S8x32x256x128 .bf16) (ix4 (batch t) ⟨2 * (pair t).val - 1, by omega⟩ e r) := by
  obtain ⟨ht, i0, i1, i2, i3, i4, i5, i6, i7, i8, i9, i10, i11, i12, i13, i14, i15⟩ := idx t
  blk_simp [iblk, i5]
  blk_ext [i5, batch, pair]

/-- The values of the pair. -/
theorem block6 (c : Dev nD) (t : Fin cfg0.N) (o : Fin 2) (e : Fin 256) (r : Fin 128) : (iblk m c 6 t : FVec Ideal S1x2x256x128 .bf16) (ix4 0 o e r) = (V m c main_v11 : FVec Ideal S8x32x256x128 .bf16) (ix4 (batch t) ⟨2 * (pair t).val + o.val, by omega⟩ e r) := by
  obtain ⟨ht, i0, i1, i2, i3, i4, i5, i6, i7, i8, i9, i10, i11, i12, i13, i14, i15⟩ := idx t
  blk_simp [iblk, i6]
  blk_ext [i6, batch, pair]

/-- The values after the pair. -/
theorem block7 (c : Dev nD) (t : Fin cfg0.N) (e : Fin 256) (r : Fin 128) : (iblk m c 7 t : FVec Ideal S1x1x256x128 .bf16) (ix4 0 0 e r) = (V m c main_v11 : FVec Ideal S8x32x256x128 .bf16) (ix4 (batch t) ⟨min (2 * (pair t).val + 2) 31, by omega⟩ e r) := by
  obtain ⟨ht, i0, i1, i2, i3, i4, i5, i6, i7, i8, i9, i10, i11, i12, i13, i14, i15⟩ := idx t
  blk_simp [iblk, i7]
  blk_ext [i7, batch, pair]

/-- The keys of the context. -/
theorem block8 (c : Dev nD) (t : Fin cfg0.N) (j : Fin 512) (e : Fin 256) : (iblk m c 8 t : FVec Ideal S1x512x256 .bf16) (ix3 0 j e) = (V m c main_v13 : FVec Ideal S8x512x256 .bf16) (ix3 (batch t) j e) := by
  obtain ⟨ht, i0, i1, i2, i3, i4, i5, i6, i7, i8, i9, i10, i11, i12, i13, i14, i15⟩ := idx t
  blk_simp [iblk, i8]
  blk_ext [i8, batch, pair]

/-- The values of the context. -/
theorem block9 (c : Dev nD) (t : Fin cfg0.N) (e : Fin 256) (j : Fin 512) : (iblk m c 9 t : FVec Ideal S1x256x512 .bf16) (ix3 0 e j) = (V m c main_v16 : FVec Ideal S8x256x512 .bf16) (ix3 (batch t) e j) := by
  obtain ⟨ht, i0, i1, i2, i3, i4, i5, i6, i7, i8, i9, i10, i11, i12, i13, i14, i15⟩ := idx t
  blk_simp [iblk, i9]
  blk_ext [i9, batch, pair]

/-- The table for the first block of the pair. -/
theorem block10 (c : Dev nD) (t : Fin cfg0.N) (s : Fin 384) (k : Fin 512) : (iblk m c 10 t : FVec Ideal S1x384x512 .f32) (ix3 0 s k) = (V m c main_v41 : FVec Ideal S3x384x512 .f32) (ix3 ⟨if (pair t).val = 0 then 0 else 1, by split <;> omega⟩ s k) := by
  obtain ⟨ht, i0, i1, i2, i3, i4, i5, i6, i7, i8, i9, i10, i11, i12, i13, i14, i15⟩ := idx t
  blk_simp [iblk, i10]
  blk_ext [i10, batch, pair]
  exact Nat.add_zero _

/-- The table for the second block of the pair. -/
theorem block11 (c : Dev nD) (t : Fin cfg0.N) (s : Fin 384) (k : Fin 512) : (iblk m c 11 t : FVec Ideal S1x384x512 .f32) (ix3 0 s k) = (V m c main_v41 : FVec Ideal S3x384x512 .f32) (ix3 ⟨if (pair t).val = 15 then 2 else 1, by split <;> omega⟩ s k) := by
  obtain ⟨ht, i0, i1, i2, i3, i4, i5, i6, i7, i8, i9, i10, i11, i12, i13, i14, i15⟩ := idx t
  blk_simp [iblk, i11]
  blk_ext [i11, batch, pair]
  exact Nat.add_zero _

/-- The rows the result is added to. -/
theorem block12 (c : Dev nD) (t : Fin cfg0.N) (r : Fin 256) (d : Fin 1024) : (iblk m c 12 t : FVec Ideal S1x256x1024 .f32) (ix3 0 r d) = (V m c main_arg0 : FVec Ideal S8x4096x1024 .f32) (ix3 (batch t) ⟨(pair t).val * 256 + r.val, by omega⟩ d) := by
  obtain ⟨ht, i0, i1, i2, i3, i4, i5, i6, i7, i8, i9, i10, i11, i12, i13, i14, i15⟩ := idx t
  blk_simp [iblk, i12]
  blk_ext [i12, batch, pair]

/-- The gate. -/
theorem block13 (c : Dev nD) (t : Fin cfg0.N) (d : Fin 1024) : (iblk m c 13 t : FVec Ideal S1x1x1024 .f32) (ix3 0 0 d) = (V m c main_arg1 : FVec Ideal S8x1x1024 .f32) (ix3 (batch t) 0 d) := by
  obtain ⟨ht, i0, i1, i2, i3, i4, i5, i6, i7, i8, i9, i10, i11, i12, i13, i14, i15⟩ := idx t
  blk_simp [iblk, i13]
  blk_ext [i13, batch, pair]

/-- The output projection. -/
theorem block14 (c : Dev nD) (t : Fin cfg0.N) (j d : Fin 1024) : (iblk m c 14 t : FVec Ideal S1024x1024 .bf16) (ix2 j d) = (V m c main_v17 : FVec Ideal S1024x1024 .bf16) (ix2 j d) := by
  obtain ⟨ht, i0, i1, i2, i3, i4, i5, i6, i7, i8, i9, i10, i11, i12, i13, i14, i15⟩ := idx t
  blk_simp [iblk, i14]
  blk_ext [i14, batch, pair]

end Cert.KernelIdeal.Attn
-- ==== Proof.Attn.Final.lean ====
/- The array the kernel writes is the reference's result. -/
module

public import proofs.«01_k».proof.Proof.Attn.Block
public import proofs.«01_k».proof.Proof.Attn.Blocks

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

variable (m : (ℓ : Loc nD τ sig) → Buf (Elt Ideal) ℓ)

/-- A half of the pair's keys at a row. -/
theorem keyHalf_at (x : FVec Ideal S1x256x256 .bf16) (o : Fin 2) (r : Fin 128) (e : Fin 256) : keyHalf x o (ix3 0 r e) = x (ix3 0 ⟨128 * o.val + r.val, by omega⟩ e) := rfl

/-- A half of the pair's values at a row. -/
theorem valHalf_at (x : FVec Ideal S1x2x256x128 .bf16) (o : Fin 2) (e : Fin 256) (r : Fin 128) : valHalf x o (ix4 0 0 e r) = x (ix4 0 o e r) := rfl

/-- The first query block of a pair. -/
def even (t : Fin cfg0.N) : Fin 32 := ⟨2 * (pair t).val, by omega⟩

/-- The second query block of a pair. -/
def odd (t : Fin cfg0.N) : Fin 32 := ⟨2 * (pair t).val + 1, by omega⟩

/-- The first block's window of keys. -/
theorem keys_even (c : Dev nD) (t : Fin cfg0.N) (s : Fin 384) (e : Fin 256) (h : ((even t).val ≠ 0 ∨ 128 ≤ s.val) ∧ ((even t).val ≠ 31 ∨ s.val < 256)) :
    keys3 (iblk m c 2 t) (keyHalf (iblk m c 3 t) 0) (keyHalf (iblk m c 3 t) 1) (ix2 s e) =
      (m ((c : Thread nD τ).loc main_arg4) : FVec Ideal S8x4096x4x64 .f32) (ix4 (batch t) (place (even t) s) ⟨e.val / 64, by omega⟩ ⟨e.val % 64, by omega⟩) := by
  have hp := place_val (even t) s h
  have he : (even t).val = 2 * (pair t).val := rfl
  rw [keys3_at]
  split_ifs with h1 h2
  · rw [block2, keys_at]
    exact congrArg (fun i => (m ((c : Thread nD τ).loc main_arg4) : FVec Ideal S8x4096x4x64 .f32) (ix4 (batch t) i ⟨e.val / 64, by omega⟩ ⟨e.val % 64, by omega⟩))
      (Fin.ext (by show (2 * (pair t).val - 1) * 128 + s.val = _; omega))
  · rw [keyHalf_at, block3, keys_at]
    exact congrArg (fun i => (m ((c : Thread nD τ).loc main_arg4) : FVec Ideal S8x4096x4x64 .f32) (ix4 (batch t) i ⟨e.val / 64, by omega⟩ ⟨e.val % 64, by omega⟩))
      (Fin.ext (by show (pair t).val * 256 + (128 * 0 + (s.val - 128)) = _; omega))
  · rw [keyHalf_at, block3, keys_at]
    exact congrArg (fun i => (m ((c : Thread nD τ).loc main_arg4) : FVec Ideal S8x4096x4x64 .f32) (ix4 (batch t) i ⟨e.val / 64, by omega⟩ ⟨e.val % 64, by omega⟩))
      (Fin.ext (by show (pair t).val * 256 + (128 * 1 + (s.val - 128 - 128)) = _; omega))

/-- The second block's window of keys. -/
theorem keys_odd (c : Dev nD) (t : Fin cfg0.N) (s : Fin 384) (e : Fin 256) (h : ((odd t).val ≠ 0 ∨ 128 ≤ s.val) ∧ ((odd t).val ≠ 31 ∨ s.val < 256)) :
    keys3 (keyHalf (iblk m c 3 t) 0) (keyHalf (iblk m c 3 t) 1) (iblk m c 4 t) (ix2 s e) =
      (m ((c : Thread nD τ).loc main_arg4) : FVec Ideal S8x4096x4x64 .f32) (ix4 (batch t) (place (odd t) s) ⟨e.val / 64, by omega⟩ ⟨e.val % 64, by omega⟩) := by
  have hp := place_val (odd t) s h
  have he : (odd t).val = 2 * (pair t).val + 1 := rfl
  have hn := (pair t).isLt
  rw [keys3_at]
  split_ifs with h1 h2
  · rw [keyHalf_at, block3, keys_at]
    exact congrArg (fun i => (m ((c : Thread nD τ).loc main_arg4) : FVec Ideal S8x4096x4x64 .f32) (ix4 (batch t) i ⟨e.val / 64, by omega⟩ ⟨e.val % 64, by omega⟩))
      (Fin.ext (by show (pair t).val * 256 + (128 * 0 + s.val) = _; omega))
  · rw [keyHalf_at, block3, keys_at]
    exact congrArg (fun i => (m ((c : Thread nD τ).loc main_arg4) : FVec Ideal S8x4096x4x64 .f32) (ix4 (batch t) i ⟨e.val / 64, by omega⟩ ⟨e.val % 64, by omega⟩))
      (Fin.ext (by show (pair t).val * 256 + (128 * 1 + (s.val - 128)) = _; omega))
  · rw [block4, keys_at]
    exact congrArg (fun i => (m ((c : Thread nD τ).loc main_arg4) : FVec Ideal S8x4096x4x64 .f32) (ix4 (batch t) i ⟨e.val / 64, by omega⟩ ⟨e.val % 64, by omega⟩))
      (Fin.ext (by show min (2 * (pair t).val + 2) 31 * 128 + (s.val - 128 - 128) = _; omega))

/-- The first block's window of values. -/
theorem vals_even (c : Dev nD) (t : Fin cfg0.N) (s : Fin 384) (e : Fin 256) (h : ((even t).val ≠ 0 ∨ 128 ≤ s.val) ∧ ((even t).val ≠ 31 ∨ s.val < 256)) :
    vals3 (iblk m c 5 t) (valHalf (iblk m c 6 t) 0) (valHalf (iblk m c 6 t) 1) (ix2 e s) =
      (m ((c : Thread nD τ).loc main_arg5) : FVec Ideal S8x4096x4x64 .f32) (ix4 (batch t) (place (even t) s) ⟨e.val / 64, by omega⟩ ⟨e.val % 64, by omega⟩) := by
  have hp := place_val (even t) s h
  have he : (even t).val = 2 * (pair t).val := rfl
  rw [vals3_at]
  split_ifs with h1 h2
  · rw [block5, values_at]
    exact congrArg (fun i => (m ((c : Thread nD τ).loc main_arg5) : FVec Ideal S8x4096x4x64 .f32) (ix4 (batch t) i ⟨e.val / 64, by omega⟩ ⟨e.val % 64, by omega⟩))
      (Fin.ext (by show (2 * (pair t).val - 1) * 128 + s.val = _; omega))
  · rw [valHalf_at, block6, values_at]
    exact congrArg (fun i => (m ((c : Thread nD τ).loc main_arg5) : FVec Ideal S8x4096x4x64 .f32) (ix4 (batch t) i ⟨e.val / 64, by omega⟩ ⟨e.val % 64, by omega⟩))
      (Fin.ext (by show (2 * (pair t).val + 0) * 128 + (s.val - 128) = _; omega))
  · rw [valHalf_at, block6, values_at]
    exact congrArg (fun i => (m ((c : Thread nD τ).loc main_arg5) : FVec Ideal S8x4096x4x64 .f32) (ix4 (batch t) i ⟨e.val / 64, by omega⟩ ⟨e.val % 64, by omega⟩))
      (Fin.ext (by show (2 * (pair t).val + 1) * 128 + (s.val - 128 - 128) = _; omega))

/-- The second block's window of values. -/
theorem vals_odd (c : Dev nD) (t : Fin cfg0.N) (s : Fin 384) (e : Fin 256) (h : ((odd t).val ≠ 0 ∨ 128 ≤ s.val) ∧ ((odd t).val ≠ 31 ∨ s.val < 256)) :
    vals3 (valHalf (iblk m c 6 t) 0) (valHalf (iblk m c 6 t) 1) (iblk m c 7 t) (ix2 e s) =
      (m ((c : Thread nD τ).loc main_arg5) : FVec Ideal S8x4096x4x64 .f32) (ix4 (batch t) (place (odd t) s) ⟨e.val / 64, by omega⟩ ⟨e.val % 64, by omega⟩) := by
  have hp := place_val (odd t) s h
  have he : (odd t).val = 2 * (pair t).val + 1 := rfl
  have hn := (pair t).isLt
  rw [vals3_at]
  split_ifs with h1 h2
  · rw [valHalf_at, block6, values_at]
    exact congrArg (fun i => (m ((c : Thread nD τ).loc main_arg5) : FVec Ideal S8x4096x4x64 .f32) (ix4 (batch t) i ⟨e.val / 64, by omega⟩ ⟨e.val % 64, by omega⟩))
      (Fin.ext (by show (2 * (pair t).val + 0) * 128 + s.val = _; omega))
  · rw [valHalf_at, block6, values_at]
    exact congrArg (fun i => (m ((c : Thread nD τ).loc main_arg5) : FVec Ideal S8x4096x4x64 .f32) (ix4 (batch t) i ⟨e.val / 64, by omega⟩ ⟨e.val % 64, by omega⟩))
      (Fin.ext (by show (2 * (pair t).val + 1) * 128 + (s.val - 128) = _; omega))
  · rw [block7, values_at]
    exact congrArg (fun i => (m ((c : Thread nD τ).loc main_arg5) : FVec Ideal S8x4096x4x64 .f32) (ix4 (batch t) i ⟨e.val / 64, by omega⟩ ⟨e.val % 64, by omega⟩))
      (Fin.ext (by show min (2 * (pair t).val + 2) 31 * 128 + (s.val - 128 - 128) = _; omega))

/-- The first block's table. -/
theorem bias_even (c : Dev nD) (t : Fin cfg0.N) (s : Fin 384) (k : Fin 512) :
    (iblk m c 10 t : FVec Ideal S1x384x512 .f32) (ix3 0 s k) = if Allowed (even t).val (k.val % 128) s.val then (0 : EReal) else ⊥ := by
  have he : (even t).val = 2 * (pair t).val := rfl
  rw [block10, table_eq, table_at]
  refine if_congr ?_ rfl rfl
  unfold Allowed
  rw [he]
  show _ ∧ ((if (pair t).val = 0 then 0 else 1) ≠ 0 ∨ _) ∧ ((if (pair t).val = 0 then 0 else 1) ≠ 2 ∨ _) ↔ _
  split <;> omega

/-- The second block's table. -/
theorem bias_odd (c : Dev nD) (t : Fin cfg0.N) (s : Fin 384) (k : Fin 512) :
    (iblk m c 11 t : FVec Ideal S1x384x512 .f32) (ix3 0 s k) = if Allowed (odd t).val (k.val % 128) s.val then (0 : EReal) else ⊥ := by
  have he : (odd t).val = 2 * (pair t).val + 1 := rfl
  rw [block11, table_eq, table_at]
  refine if_congr ?_ rfl rfl
  unfold Allowed
  rw [he]
  show _ ∧ ((if (pair t).val = 15 then 2 else 1) ≠ 0 ∨ _) ∧ ((if (pair t).val = 15 then 2 else 1) ≠ 2 ∨ _) ↔ _
  split <;> omega

/-- The context's keys. -/
theorem ctx_keys (c : Dev nD) (t : Fin cfg0.N) (s : Fin 512) (e : Fin 256) : (iblk m c 8 t : FVec Ideal S1x512x256 .bf16) (ix3 0 s e) =
    (m ((c : Thread nD τ).loc main_arg7) : FVec Ideal S8x512x4x64 .f32) (ix4 (batch t) s ⟨e.val / 64, by omega⟩ ⟨e.val % 64, by omega⟩) := by
  rw [block8, cacheKeys_at]

/-- The context's values. -/
theorem ctx_vals (c : Dev nD) (t : Fin cfg0.N) (s : Fin 512) (e : Fin 256) : (iblk m c 9 t : FVec Ideal S1x256x512 .bf16) (ix3 0 e s) =
    (m ((c : Thread nD τ).loc main_arg8) : FVec Ideal S8x512x4x64 .f32) (ix4 (batch t) s ⟨e.val / 64, by omega⟩ ⟨e.val % 64, by omega⟩) := by
  rw [block9, cacheValues_at]

/-- The sinks. -/
theorem sinks (c : Dev nD) (t : Fin cfg0.N) (h : Fin 16) : (iblk m c 0 t : FVec Ideal S16 .f32) (ix1 h) = (m ((c : Thread nD τ).loc main_arg6) : FVec Ideal S16 .f32) (ix1 h) := by
  rw [block0, V_main_arg6]

/-- The queries of either block of a pair. -/
theorem queries (c : Dev nD) (t : Fin cfg0.N) (o : Fin 2) (N : Fin 32) (hN : N.val = 2 * (pair t).val + o.val) (r : Fin 1024) (k : Fin 128) :
    (iblk m c 1 t : FVec Ideal S1x2x1024x128 .bf16) (ix4 0 o r k) =
      query m c (batch t) ⟨N.val * 128 + k.val, by omega⟩ ⟨r.val / 64, by omega⟩ ⟨r.val % 64, by omega⟩ * (Ideal.ofBits .f32 0x3E000000#32 * Attn.L) := by
  rw [block1, queries_at, scale_eq]
  exact congrArg (fun i => query m c (batch t) i ⟨r.val / 64, by omega⟩ ⟨r.val % 64, by omega⟩ * (Ideal.ofBits .f32 0x3E000000#32 * Attn.L))
    (Fin.ext (by show (2 * (pair t).val + o.val) * 128 + k.val = N.val * 128 + k.val; omega))

/-- The staged attention at a row of the pair is the reference's. -/
theorem stage_eq (c : Dev nD) (t : Fin cfg0.N) (r : Fin 256) (j : Fin 1024) :
    stage (first (iblk m c 0 t) (iblk m c 1 t) (iblk m c 2 t) (iblk m c 3 t) (iblk m c 5 t) (iblk m c 6 t) (iblk m c 8 t) (iblk m c 9 t) (iblk m c 10 t))
      (second (iblk m c 0 t) (iblk m c 1 t) (iblk m c 3 t) (iblk m c 4 t) (iblk m c 6 t) (iblk m c 7 t) (iblk m c 8 t) (iblk m c 9 t) (iblk m c 11 t))
      ⟨r.val / 128, by omega⟩ j ⟨r.val % 128, by omega⟩ =
    Cert.ReferenceIdeal.Read.val_main_v49 (F := Ideal) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (ix3 (batch t) ⟨(pair t).val * 256 + r.val, by omega⟩ j) := by
  have hj := j.isLt
  refine Eq.trans ?_ (Cert.ReferenceIdeal.Attn.mix_at (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (batch t) ⟨(pair t).val * 256 + r.val, by omega⟩ j).symm
  unfold stage
  by_cases h : r.val < 128
  · rw [if_pos (Fin.ext (by show r.val / 128 = 0; omega))]
    exact tile_mix (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (batch t) (even t) 0 ⟨j.val / 256, by omega⟩
      _ _ _ _ _ _ _ _ _ _ _ (sinks m c t) (queries m c t 0 (even t) rfl) (keys_even m c t) (vals_even m c t) (bias_even m c t) (ctx_keys m c t) (ctx_vals m c t)
      _ _ _ (by show j.val / 64 % 4 = (j.val / 64 % 4 * 128 + r.val % 128) / 128; omega) _
      (by show (pair t).val * 256 + r.val = 2 * (pair t).val * 128 + (j.val / 64 % 4 * 128 + r.val % 128) % 128; omega) _ rfl
  · rw [if_neg (fun e => by have := congrArg Fin.val e; have : r.val / 128 = 0 := this; omega)]
    exact tile_mix (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (batch t) (odd t) 1 ⟨j.val / 256, by omega⟩
      _ _ _ _ _ _ _ _ _ _ _ (sinks m c t) (queries m c t 1 (odd t) rfl) (keys_odd m c t) (vals_odd m c t) (bias_odd m c t) (ctx_keys m c t) (ctx_vals m c t)
      _ _ _ (by show j.val / 64 % 4 = (j.val / 64 % 4 * 128 + r.val % 128) / 128; omega) _
      (by show (pair t).val * 256 + r.val = (2 * (pair t).val + 1) * 128 + (j.val / 64 % 4 * 128 + r.val % 128) % 128; omega) _ rfl

/-- A block's element is the reference's at that row and lane. -/
theorem block_eq (c : Dev nD) (t : Fin cfg0.N) (r : Fin 256) (d : Fin 1024) :
    outBlock (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t) (ix3 0 r d) =
    Cert.ReferenceIdeal.Read.val_main_v53 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (ix3 (batch t) ⟨(pair t).val * 256 + r.val, by omega⟩ d) := by
  refine Eq.trans ?_ (Cert.ReferenceIdeal.Attn.result_at _ _ _ _ _ _ _ _ _ _ _ _).symm
  have e0 := (block12 m c t r d).trans (congrFun (V_main_arg0 m c) _)
  have e1 := (block13 m c t d).trans (congrFun (V_main_arg1 m c) _)
  refine congrArg₂ (fun a b : EReal => a + b) e0 (congrArg₂ (fun a b : EReal => a * b) e1 (Finset.sum_congr rfl fun j _ => ?_))
  exact congrArg₂ (fun a b : EReal => a * b) (stage_eq m c t r j) ((block14 m c t j d).trans (outWeights_at m c j d))

/-- Where a block's element lies in the result. -/
theorem place15 (t : Fin cfg0.N) (r : Fin 256) (d : Fin 1024) :
    (win0_15.blk t).view.emb (ix3 (0 : Fin 1) r d) = ix3 (batch t) (⟨(pair t).val * 256 + r.val, by omega⟩ : Fin 4096) d := by
  obtain ⟨ht, i0, i1, i2, i3, i4, i5, i6, i7, i8, i9, i10, i11, i12, i13, i14, i15⟩ := idx t
  blk_ext [i15, batch, pair]

/-- A block's element is the reference's at its place in the result. -/
theorem point_eq (c : Dev nD) (t : Fin cfg0.N) (y : S1x256x1024.Idx) :
    outBlock (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t) y =
    Cert.ReferenceIdeal.Read.val_main_v53 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) ((win0_15.blk t).view.emb y) := by
  idx_vars y
  obtain rfl : y0 = 0 := Subsingleton.elim _ _
  exact (block_eq m c t y1 y2).trans (congrArg _ (place15 t y1 y2).symm)

/-- The array the kernel writes writes is the reference's result. -/
theorem final (c : Dev nD) : (dats m 0 c).arrAt 15 (cfgs 0).N =
    Cert.ReferenceIdeal.Read.val_main_v53 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  refine (dats m 0 c).arrAt_eq_of_covers 15 _ (by decide +kernel) fun t _ y => ?_
  blk_simp
  rw [after0_15, outs_eq]
  exact point_eq m c t y

end Cert.KernelIdeal.Attn
-- ==== Proof.Ffn.Pure.lean ====
/- The feed-forward part's mathematics: modulated norm of a row, up-projection of a row, convolution of three rows, gated product. -/
module

public import Idealize.ShloMosaic.Lib.Pointwise

@[expose] public section

noncomputable section

open Idealize.ShloMosaic

namespace Ffn

/-- The modulated norm of a row: weight `g`, scale `sc`, shift `sh`. -/
def normRow (x g sc sh : Fin 1024 → EReal) (k : Fin 1024) : EReal :=
  x k * Ideal.rsqrt (Ideal.div (∑ j, x j * x j) (Ideal.ofBits .f32 0x44800000#32) + Ideal.ofBits .f32 0x358637BD#32) * (g k * (1 + sc k)) + sh k

/-- One hidden column at a row. -/
def proj (h w : Fin 1024 → EReal) : EReal := ∑ k, h k * w k

/-- Three taps and a bias. -/
def taps (p q r c0 c1 c2 b : EReal) : EReal := p * c0 + q * c1 + r * c2 + b

/-- The gated product. -/
def gate (a v : EReal) : EReal := a * Ideal.div 1 (1 + Ideal.exp (-a)) * v

/-- A hidden column of a sequence with a row of zeros above and one below. -/
def padded (h : Fin 4096 → Fin 1024 → EReal) (w : Fin 1024 → EReal) (t : ℕ) : EReal :=
  if e : 1 ≤ t ∧ t < 4097 then proj (h ⟨t - 1, by omega⟩) w else 0

/-- A row of zeros projects to zero. -/
theorem proj_zero (h w : Fin 1024 → EReal) : proj (fun k => h k * 0) w = 0 := by
  unfold proj
  simp only [mul_zero, zero_mul, Finset.sum_const_zero]

/-- A row times one projects to the row's projection. -/
theorem proj_one (h w : Fin 1024 → EReal) : proj (fun k => h k * 1) w = proj h w := by
  unfold proj
  simp only [mul_one]

end Ffn
-- ==== Proof.Ffn.Chunk.lean ====
/- One chunk of the feed-forward part's hidden columns: up-projection, convolution along rows, gated product. -/
module

public import proofs.«01_k».proof.Proof.Gen.Kernel2Ideal.Skeleton
public import proofs.«01_k».proof.Proof.Ffn.Pure

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen

/-- Three tiles of 176 rows, one below the other. -/
def stack3 (a b c : FVec Ideal S176x256 .f32) : FVec Ideal S528x256 .f32 :=
  concatenate S528x256 0 [⟨S176x256, a⟩, ⟨S176x256, b⟩, ⟨S176x256, c⟩] concatenates_S176x256_S176x256_S176x256_S528x256_d0

/-- One tile's up-projection. -/
def upTile (w : FVec Ideal S1024x256 .bf16) (h : FVec Ideal S176x1024 .bf16) : FVec Ideal S176x256 .f32 :=
  matmul dot_S176x1024_S1024x256_S176x256_1_0_0_1_n_n none h (shapeCast S1024x256 w shapeCasts_S1024x256_S1024x256) (constant S176x256 .f32 0x00000000#32)

/-- The up-projection of the 528 rows, in three tiles of 176. -/
def upProj (w : FVec Ideal S1024x256 .bf16) (h0 h1 h2 : FVec Ideal S176x1024 .bf16) : FVec Ideal S528x256 .f32 :=
  stack3 (upTile w h0) (upTile w h1) (upTile w h2)

/-- The tile's own 512 rows. -/
def own (u : FVec Ideal S528x256 .f32) : FVec Ideal S512x256 .f32 :=
  extractStridedSlice S512x256 ![0, 0] u slices_S528x256_o0_0_S512x256

/-- Each row's predecessor; before the first row stands row 519. -/
def shiftDown (u : FVec Ideal S528x256 .f32) : FVec Ideal S512x256 .f32 :=
  concatenate S512x256 0
    [⟨S8x256, select (cmpi .eq (iota .tc S8x256 32 [0] iota_S8x256_d0_w32) (broadcast S8x256 0#32))
        (broadcastTo S8x256 (shapeCast S1x256 (extractStridedSlice S1x256 ![519, 0] u slices_S528x256_o519_0_S1x256) shapeCasts_S1x256_S1x256) broadcasts_S1x256_S8x256)
        (extractStridedSlice S8x256 ![0, 0] (dynamicRotate 0 1#32 none (own u) rotates_S512x256_d0) slices_S512x256_o0_0_S8x256)⟩,
     ⟨S504x256, extractStridedSlice S504x256 ![8, 0] (dynamicRotate 0 1#32 none (own u) rotates_S512x256_d0) slices_S512x256_o8_0_S504x256⟩]
    concatenates_S8x256_S504x256_S512x256_d0

/-- Each row's successor; after the last row stands row 520. -/
def shiftUp (u : FVec Ideal S528x256 .f32) : FVec Ideal S512x256 .f32 :=
  concatenate S512x256 0
    [⟨S504x256, extractStridedSlice S504x256 ![0, 0] (dynamicRotate 0 511#32 none (own u) rotates_S512x256_d0) slices_S512x256_o0_0_S504x256⟩,
     ⟨S8x256, select (cmpi .eq (iota .tc S8x256 32 [0] iota_S8x256_d0_w32) (broadcast S8x256 7#32))
        (broadcastTo S8x256 (shapeCast S1x256 (extractStridedSlice S1x256 ![520, 0] u slices_S528x256_o520_0_S1x256) shapeCasts_S1x256_S1x256) broadcasts_S1x256_S8x256)
        (extractStridedSlice S8x256 ![504, 0] (dynamicRotate 0 511#32 none (own u) rotates_S512x256_d0) slices_S512x256_o504_0_S8x256)⟩]
    concatenates_S504x256_S8x256_S512x256_d0

/-- The convolution of three rows with a bias. -/
def conv (u : FVec Ideal S528x256 .f32) (cw : FVec Ideal S3x256 .f32) (cb : FVec Ideal S1x256 .f32) : FVec Ideal S512x256 .f32 :=
  addf (addf (addf
      (mulf (shiftDown u) (broadcastTo S512x256 (extractStridedSlice S1x256 ![0, 0] cw slices_S3x256_o0_0_S1x256) broadcasts_S1x256_S512x256))
      (mulf (own u) (broadcastTo S512x256 (extractStridedSlice S1x256 ![1, 0] cw slices_S3x256_o1_0_S1x256) broadcasts_S1x256_S512x256)))
      (mulf (shiftUp u) (broadcastTo S512x256 (extractStridedSlice S1x256 ![2, 0] cw slices_S3x256_o2_0_S1x256) broadcasts_S1x256_S512x256)))
    (broadcastTo S512x256 (shapeCast S1x256 cb shapeCasts_S1x256_S1x256) broadcasts_S1x256_S512x256)

/-- The gated product of a chunk. -/
def gated (a b : FVec Ideal S512x256 .f32) : FVec Ideal S512x256 .bf16 :=
  shapeCast S512x256 (truncf .bf16 (mulf (mulf a (divf (broadcast S512x256 (Scalar.ofBits .f32 0x3F800000#32))
    (addf (broadcast S512x256 (Scalar.ofBits .f32 0x3F800000#32)) (exp (subf (broadcast S512x256 (Scalar.ofBits .f32 0x00000000#32)) a))))) b) bitsLt_bf16_f32)
    shapeCasts_S512x256_S512x256

/-- One chunk: the gate's columns and the value's columns. -/
def chunk (h0 h1 h2 : FVec Ideal S176x1024 .bf16) (wg wv : FVec Ideal S1024x256 .bf16) (cg cv : FVec Ideal S3x256 .f32) (bg bv : FVec Ideal S1x256 .f32) :
    FVec Ideal S512x256 .bf16 :=
  gated (conv (upProj wg h0 h1 h2) cg bg) (conv (upProj wv h0 h1 h2) cv bv)

/-- One tile's up-projection at an index. -/
theorem upTile_at (w : FVec Ideal S1024x256 .bf16) (h : FVec Ideal S176x1024 .bf16) (r : Fin 176) (n : Fin 256) :
    upTile w h (ix2 r n) = ∑ k : Fin 1024, h (ix2 r k) * w (ix2 k n) := by
  pointwise! [upTile]

/-- The stack at a row: the tile the row falls in. -/
theorem stack3_at (a b c : FVec Ideal S176x256 .f32) (r : Fin 528) (n : Fin 256) :
    stack3 a b c (ix2 r n) = if h : r.val < 176 then a (ix2 ⟨r.val, h⟩ n)
      else if h' : r.val - 176 < 176 then b (ix2 ⟨r.val - 176, h'⟩ n) else c (ix2 ⟨r.val - 176 - 176, by omega⟩ n) := by
  pointwise! [stack3]

/-- The up-projection at a row and a column, for the hidden rows the three tiles hold. -/
theorem upProj_at (w : FVec Ideal S1024x256 .bf16) (h0 h1 h2 : FVec Ideal S176x1024 .bf16) (hid : Fin 528 → Fin 1024 → EReal)
    (e0 : ∀ r k, h0 (ix2 r k) = hid ⟨r.val, by omega⟩ k) (e1 : ∀ r k, h1 (ix2 r k) = hid ⟨176 + r.val, by omega⟩ k)
    (e2 : ∀ r k, h2 (ix2 r k) = hid ⟨352 + r.val, by omega⟩ k) (r : Fin 528) (n : Fin 256) :
    upProj w h0 h1 h2 (ix2 r n) = ∑ k : Fin 1024, hid r k * w (ix2 k n) := by
  rw [upProj, stack3_at]
  split_ifs with h h' <;> rw [upTile_at] <;> refine Finset.sum_congr rfl fun k _ => ?_
  · rw [e0]
  · rw [e1]; exact congrArg (fun r => hid r k * w (ix2 k n)) (Fin.ext (by show 176 + (r.val - 176) = _; omega))
  · rw [e2]; exact congrArg (fun r => hid r k * w (ix2 k n)) (Fin.ext (by show 352 + (r.val - 176 - 176) = _; omega))

/-- The tile's own rows at an index. -/
theorem own_at (u : FVec Ideal S528x256 .f32) (r : Fin 512) (n : Fin 256) : own u (ix2 r n) = u (ix2 ⟨r.val, by omega⟩ n) := by
  pointwise! [own]

/-- A choice by a row's number among eight. -/
theorem select_row {α : Type} (k : Fin 8) (r : ℕ) (hr : r < 8) (a b : α) :
    Scalar.select (IntOp.cmpi CmpIPredicate.eq (BitVec.ofNat 32 r) (BitVec.ofNat 32 k.val)) a b = if r = k.val then a else b := by
  fin_cases k <;> interval_cases r <;> rfl

/-- The predecessor at a row. -/
theorem shiftDown_at (u : FVec Ideal S528x256 .f32) (r : Fin 512) (n : Fin 256) :
    shiftDown u (ix2 r n) = if h : r.val = 0 then u (ix2 519 n) else u (ix2 ⟨r.val - 1, by omega⟩ n) := by
  pointwise! [shiftDown, own]
  by_cases h8 : r.val < 8
  · refine (dif_pos h8).trans ((select_row 0 r.val h8 _ _).trans ?_)
    by_cases h : r.val = 0
    · exact (if_pos h).trans (by rw [dif_pos h])
    · refine (if_neg h).trans (Eq.trans ?_ (dif_neg h).symm)
      exact congrArg (fun r => u (ix2 r n)) (Fin.ext (by show (r.val + 512 - 1) % 512 = r.val - 1; omega))
  · refine (dif_neg h8).trans (Eq.trans ?_ (dif_neg (by omega)).symm)
    exact congrArg (fun r => u (ix2 r n)) (Fin.ext (by show (8 + (r.val - 8) + 512 - 1) % 512 = r.val - 1; omega))

/-- The successor at a row. -/
theorem shiftUp_at (u : FVec Ideal S528x256 .f32) (r : Fin 512) (n : Fin 256) :
    shiftUp u (ix2 r n) = if h : r.val = 511 then u (ix2 520 n) else u (ix2 ⟨r.val + 1, by omega⟩ n) := by
  pointwise! [shiftUp, own]
  by_cases h8 : r.val < 504
  · refine (dif_pos h8).trans (Eq.trans ?_ (dif_neg (by omega)).symm)
    exact congrArg (fun r => u (ix2 r n)) (Fin.ext (by show (r.val + 512 - 511) % 512 = r.val + 1; omega))
  · refine (dif_neg h8).trans ((select_row 7 (r.val - 504) (by omega) _ _).trans ?_)
    by_cases h : r.val = 511
    · exact (if_pos (by show r.val - 504 = 7; omega)).trans (by rw [dif_pos h])
    · refine (if_neg (by show ¬ r.val - 504 = 7; omega)).trans (Eq.trans ?_ (dif_neg h).symm)
      exact congrArg (fun r => u (ix2 r n)) (Fin.ext (by show (504 + (r.val - 504) + 512 - 511) % 512 = r.val + 1; omega))

/-- The convolution at a row, for a column `U` of the 528 rows. -/
theorem conv_at (u : FVec Ideal S528x256 .f32) (cw : FVec Ideal S3x256 .f32) (cb : FVec Ideal S1x256 .f32) (r : Fin 512) (n : Fin 256) :
    conv u cw cb (ix2 r n) = Ffn.taps (if h : r.val = 0 then u (ix2 519 n) else u (ix2 ⟨r.val - 1, by omega⟩ n)) (u (ix2 ⟨r.val, by omega⟩ n))
      (if h : r.val = 511 then u (ix2 520 n) else u (ix2 ⟨r.val + 1, by omega⟩ n)) (cw (ix2 0 n)) (cw (ix2 1 n)) (cw (ix2 2 n)) (cb (ix2 0 n)) := by
  rw [← shiftDown_at, ← shiftUp_at, ← own_at u r n]
  pointwise! [conv]

/-- The gated product at an index. -/
theorem gated_at (a b : FVec Ideal S512x256 .f32) (i : S512x256.Idx) : gated a b i = Ffn.gate (a i) (b i) := by
  idx_vars i
  pointwise! [gated]
  unfold Ffn.gate
  rw [zero_sub]

/-- A column of a chunk's convolution, for the hidden rows `hid`. -/
def column (hid : Fin 528 → Fin 1024 → EReal) (w : Fin 1024 → EReal) (c : Fin 3 → EReal) (b : EReal) (r : Fin 512) : EReal :=
  Ffn.taps (if h : r.val = 0 then Ffn.proj (hid 519) w else Ffn.proj (hid ⟨r.val - 1, by omega⟩) w) (Ffn.proj (hid ⟨r.val, by omega⟩) w)
    (if h : r.val = 511 then Ffn.proj (hid 520) w else Ffn.proj (hid ⟨r.val + 1, by omega⟩) w) (c 0) (c 1) (c 2) b

/-- A chunk at an index. -/
theorem chunk_at (h0 h1 h2 : FVec Ideal S176x1024 .bf16) (wg wv : FVec Ideal S1024x256 .bf16) (cg cv : FVec Ideal S3x256 .f32) (bg bv : FVec Ideal S1x256 .f32)
    (hid : Fin 528 → Fin 1024 → EReal)
    (e0 : ∀ r k, h0 (ix2 r k) = hid ⟨r.val, by omega⟩ k) (e1 : ∀ r k, h1 (ix2 r k) = hid ⟨176 + r.val, by omega⟩ k)
    (e2 : ∀ r k, h2 (ix2 r k) = hid ⟨352 + r.val, by omega⟩ k) (r : Fin 512) (n : Fin 256) :
    chunk h0 h1 h2 wg wv cg cv bg bv (ix2 r n) =
      Ffn.gate (column hid (fun k => wg (ix2 k n)) (fun k => cg (ix2 k n)) (bg (ix2 0 n)) r) (column hid (fun k => wv (ix2 k n)) (fun k => cv (ix2 k n)) (bv (ix2 0 n)) r) := by
  rw [chunk, gated_at, conv_at, conv_at]
  simp only [upProj_at _ h0 h1 h2 hid e0 e1 e2]
  rfl

/-- A tile of 128 rows' modulated norm at an index. -/
theorem norm_at (g : FVec Ideal S1x1024 .f32) (sc sh : FVec Ideal S1x1x1024 .f32) (x : FVec Ideal S1x128x1024 .f32) (r : Fin 128) (k : Fin 1024) :
    k0_pay4 (F := Ideal) g sc sh x (ix2 r k) = Ffn.normRow (fun j => x (ix3 0 r j)) (fun j => g (ix2 0 j)) (fun j => sc (ix3 0 0 j)) (fun j => sh (ix3 0 0 j)) k := by
  pointwise! [k0_pay4, k0_pay2, k0_pay3]

/-- One where a block has a predecessor, else zero. -/
def hasPrev (i : BitVec 32) : EReal := (FloatOps.sitofp .f32 (Scalar.extui (Scalar.cmpi .sgt i 0#32) : BitVec 32) : Ideal .f32)

/-- One where a block has a successor, else zero. -/
def hasNext (i : BitVec 32) : EReal := (FloatOps.sitofp .f32 (Scalar.extui (Scalar.cmpi .slt i 7#32) : BitVec 32) : Ideal .f32)

/-- The two tiles of 8 rows beside the block. -/
def halo (i : BitVec 32) (g : FVec Ideal S1x1024 .f32) (sc sh : FVec Ideal S1x1x1024 .f32) (p q : FVec Ideal S1x8x1024 .f32) : FVec Ideal S16x1024 .bf16 :=
  k0_pay16 i (k0_pay2 g sc) (k0_pay3 sh) (k0_pay13 i (k0_pay2 g sc) (k0_pay3 sh) p) (k0_pay14 q) (k0_pay15 q)

/-- The halo at an index. -/
theorem halo_at (i : BitVec 32) (g : FVec Ideal S1x1024 .f32) (sc sh : FVec Ideal S1x1x1024 .f32) (p q : FVec Ideal S1x8x1024 .f32) (r : Fin 16) (k : Fin 1024) :
    halo i g sc sh p q (ix2 r k) =
      if h : r.val < 8 then Ffn.normRow (fun j => p (ix3 0 ⟨r.val, h⟩ j)) (fun j => g (ix2 0 j)) (fun j => sc (ix3 0 0 j)) (fun j => sh (ix3 0 0 j)) k * hasPrev i
      else Ffn.normRow (fun j => q (ix3 0 ⟨r.val - 8, by omega⟩ j)) (fun j => g (ix2 0 j)) (fun j => sc (ix3 0 0 j)) (fun j => sh (ix3 0 0 j)) k * hasNext i := by
  pointwise! [halo, k0_pay16, k0_pay15, k0_pay14, k0_pay13, k0_pay2, k0_pay3]

/-- The output at an index. -/
theorem out_at (x : FVec Ideal S1x512x1024 .f32) (gt : FVec Ideal S1x1x1024 .f32) (a : FVec Ideal S512x2816 .bf16) (w : FVec Ideal S2816x1024 .bf16)
    (z : Fin 1) (r : Fin 512) (d : Fin 1024) :
    k0_pay1 (k0_pay130 x) gt a w (ix3 z r d) = x (ix3 0 r d) + gt (ix3 0 0 d) * ∑ j : Fin 2816, a (ix2 r j) * w (ix2 j d) := by
  pointwise! [k0_pay1, k0_pay130]

end Cert.Kernel2Ideal.Ffn
-- ==== Proof.Ffn.Stage.lean ====
/- What a grid point of the feed-forward part leaves in its two scratch buffers, in closed form. -/
module

public import proofs.«01_k».proof.Proof.Ffn.Chunk
public import proofs.«01_k».proof.Proof.Gen.Kernel2Ideal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen

/-- A whole-block load reads the block. -/
theorem load_whole {sp : Space} {S : Shape} {φ : EltTy} (a : Memref sig .tc sp S φ) (h : a.IsWhole) (x : Vec Ideal S φ)
    (off : Fin S.rank → ℕ) (e : ∀ k, off k = 0) (inb : ∀ k, off k + S.size k ≤ S.size k) :
    View.readAt (Elt Ideal) a.view (Rect.unit (s := S) off S.size inb).toLoadRect (h.unread x) = x := by
  rw [View.readAt_eq_ld, h.read_unread]
  exact View.ld_unit_lit inb x e

/-- A load of 128 rows of the block. -/
theorem load_rows (a : Memref sig .tc .vmem S1x512x1024 .f32) (h : a.IsWhole) (x : Vec Ideal S1x512x1024 .f32) (o : Fin 4) (off : Fin 3 → ℕ) (e : off = ![0, 128 * o.val, 0])
    (inb : ∀ k, off k + S1x128x1024.size k ≤ S1x512x1024.size k) :
    View.readAt (Elt Ideal) a.view (Rect.unit (s := S1x512x1024) off S1x128x1024.size inb).toLoadRect (h.unread x)
      = fun j : S1x128x1024.Idx => x (ix3 0 ⟨128 * o.val + (j 1).val, by have : (j 1).val < 128 := (j 1).isLt; omega⟩ (j 2)) := by
  subst e
  rw [View.readAt_eq_ld, h.read_unread]
  funext j
  refine View.ld_unit_apply_of x _ _ inb j _ fun a => ?_
  idx_bounds_all
  fin_cases a <;> simp <;> omega

/-- A load of 256 columns of a matrix. -/
theorem load_cols {φ : EltTy} {M N : ℕ} (a : Memref sig .tc .vmem ⟨2, ![M, N]⟩ φ) (h : a.IsWhole) (x : Vec Ideal ⟨2, ![M, N]⟩ φ) (o : ℕ) (off : Fin 2 → ℕ) (e : off = ![0, o])
    (ho : o + 256 ≤ N) (inb : ∀ k, off k + (⟨2, ![M, 256]⟩ : Shape).size k ≤ (⟨2, ![M, N]⟩ : Shape).size k) :
    View.readAt (Elt Ideal) a.view (Rect.unit (s := ⟨2, ![M, N]⟩) off (⟨2, ![M, 256]⟩ : Shape).size inb).toLoadRect (h.unread x)
      = fun j : (⟨2, ![M, 256]⟩ : Shape).Idx => x (ix2 (j 0) ⟨o + (j 1).val, by have : (j 1).val < 256 := (j 1).isLt; omega⟩) := by
  subst e
  rw [View.readAt_eq_ld, h.read_unread]
  funext j
  refine View.ld_unit_apply_of x _ _ inb j _ fun a => ?_
  fin_cases a
  · show (j 0).val = 0 + (j 0).val; omega
  · rfl

/-- The hidden rows of a block: its own 512, then the eight before, then the eight after. -/
def hidK (i : BitVec 32) (x0 : FVec Ideal S1x512x1024 .f32) (x1 x2 : FVec Ideal S1x8x1024 .f32) (x3 : FVec Ideal S1x1024 .f32) (x4 x5 : FVec Ideal S1x1x1024 .f32)
    (r : Fin 528) (k : Fin 1024) : EReal :=
  if h : r.val < 512 then Ffn.normRow (fun j => x0 (ix3 0 ⟨r.val, h⟩ j)) (fun j => x3 (ix2 0 j)) (fun j => x5 (ix3 0 0 j)) (fun j => x4 (ix3 0 0 j)) k
  else if h' : r.val - 512 < 8 then Ffn.normRow (fun j => x1 (ix3 0 ⟨r.val - 512, h'⟩ j)) (fun j => x3 (ix2 0 j)) (fun j => x5 (ix3 0 0 j)) (fun j => x4 (ix3 0 0 j)) k * hasPrev i
  else Ffn.normRow (fun j => x2 (ix3 0 ⟨r.val - 512 - 8, by omega⟩ j)) (fun j => x3 (ix2 0 j)) (fun j => x5 (ix3 0 0 j)) (fun j => x4 (ix3 0 0 j)) k * hasNext i

/-- The gated products of a block. -/
def stageA (i : BitVec 32) (x0 : FVec Ideal S1x512x1024 .f32) (x1 x2 : FVec Ideal S1x8x1024 .f32) (x3 : FVec Ideal S1x1024 .f32) (x4 x5 : FVec Ideal S1x1x1024 .f32)
    (x7 : FVec Ideal S1024x5632 .bf16) (x8 : FVec Ideal S3x5632 .f32) (x9 : FVec Ideal S1x5632 .f32) (r : Fin 512) (n : Fin 2816) : EReal :=
  Ffn.gate (column (hidK i x0 x1 x2 x3 x4 x5) (fun k => x7 (ix2 k ⟨n.val, by omega⟩)) (fun k => x8 (ix2 k ⟨n.val, by omega⟩)) (x9 (ix2 0 ⟨n.val, by omega⟩)) r)
    (column (hidK i x0 x1 x2 x3 x4 x5) (fun k => x7 (ix2 k ⟨2816 + n.val, by omega⟩)) (fun k => x8 (ix2 k ⟨2816 + n.val, by omega⟩)) (x9 (ix2 0 ⟨2816 + n.val, by omega⟩)) r)

/-- A tile of the block's own rows, at an index. -/
theorem own_entry (i : BitVec 32) (x0 : FVec Ideal S1x512x1024 .f32) (x1 x2 : FVec Ideal S1x8x1024 .f32) (x3 : FVec Ideal S1x1024 .f32) (x4 x5 : FVec Ideal S1x1x1024 .f32)
    (o : Fin 4) (r : Fin 128) (k : Fin 1024) (R : Fin 528) (K : Fin 1024) (hR : R.val = 128 * o.val + r.val) (hK : K.val = k.val) :
    k0_pay4 (F := Ideal) x3 x5 x4 (fun j : S1x128x1024.Idx => x0 (ix3 0 ⟨128 * o.val + (j 1).val, by have : (j 1).val < 128 := (j 1).isLt; omega⟩ (j 2))) (ix2 r k)
      = hidK i x0 x1 x2 x3 x4 x5 R K := by
  obtain rfl : K = k := Fin.ext hK
  obtain rfl : R = ⟨128 * o.val + r.val, by clear hR; omega⟩ := Fin.ext hR
  rw [norm_at, hidK, dif_pos (show 128 * o.val + r.val < 512 by omega)]
  rfl

/-- The halo, at an index. -/
theorem halo_entry (i : BitVec 32) (x0 : FVec Ideal S1x512x1024 .f32) (x1 x2 : FVec Ideal S1x8x1024 .f32) (x3 : FVec Ideal S1x1024 .f32) (x4 x5 : FVec Ideal S1x1x1024 .f32)
    (r : Fin 16) (k : Fin 1024) (R : Fin 528) (K : Fin 1024) (hR : R.val = 512 + r.val) (hK : K.val = k.val) :
    halo i x3 x5 x4 x1 x2 (ix2 r k) = hidK i x0 x1 x2 x3 x4 x5 R K := by
  obtain rfl : K = k := Fin.ext hK
  obtain rfl : R = ⟨512 + r.val, by clear hR; omega⟩ := Fin.ext hR
  rw [halo_at, hidK, dif_neg (show ¬ 512 + r.val < 512 by omega)]
  have e : 512 + r.val - 512 = r.val := by omega
  by_cases h : r.val < 8
  · rw [dif_pos h, dif_pos (show 512 + r.val - 512 < 8 by omega)]
    simp only [e]
  · rw [dif_neg h, dif_neg (show ¬ 512 + r.val - 512 < 8 by omega)]
    simp only [e]

/-- The gated products depend only on the place. -/
theorem stageA_entry (i : BitVec 32) (x0 : FVec Ideal S1x512x1024 .f32) (x1 x2 : FVec Ideal S1x8x1024 .f32) (x3 : FVec Ideal S1x1024 .f32) (x4 x5 : FVec Ideal S1x1x1024 .f32)
    (x7 : FVec Ideal S1024x5632 .bf16) (x8 : FVec Ideal S3x5632 .f32) (x9 : FVec Ideal S1x5632 .f32) (j : Fin 11) (r : Fin 512) (n : Fin 256)
    (R : Fin 512) (N : Fin 2816) (hR : R.val = r.val) (hN : N.val = 256 * j.val + n.val) :
    Ffn.gate (column (hidK i x0 x1 x2 x3 x4 x5) (fun k => x7 (ix2 k ⟨256 * j.val + n.val, by omega⟩)) (fun k => x8 (ix2 k ⟨256 * j.val + n.val, by omega⟩)) (x9 (ix2 0 ⟨256 * j.val + n.val, by omega⟩)) r)
      (column (hidK i x0 x1 x2 x3 x4 x5) (fun k => x7 (ix2 k ⟨2816 + 256 * j.val + n.val, by omega⟩)) (fun k => x8 (ix2 k ⟨2816 + 256 * j.val + n.val, by omega⟩)) (x9 (ix2 0 ⟨2816 + 256 * j.val + n.val, by omega⟩)) r)
      = stageA i x0 x1 x2 x3 x4 x5 x7 x8 x9 R N := by
  obtain rfl : R = r := Fin.ext hR
  obtain rfl : N = ⟨256 * j.val + n.val, by clear hN; omega⟩ := Fin.ext hN
  simp only [stageA, Nat.add_assoc]

variable (c : Dev nD) (i : grid0.Coords)
  (arg2 : Memref sig .tc .vmem S1x512x1024 .f32) (harg2 : arg2.IsWhole)
  (arg3 : Memref sig .tc .vmem S1x8x1024 .f32) (harg3 : arg3.IsWhole)
  (arg4 : Memref sig .tc .vmem S1x8x1024 .f32) (harg4 : arg4.IsWhole)
  (arg5 : Memref sig .tc .vmem S1x1024 .f32) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1024x5632 .bf16) (harg9 : arg9.IsWhole)
  (arg10 : Memref sig .tc .vmem S3x5632 .f32) (harg10 : arg10.IsWhole)
  (arg11 : Memref sig .tc .vmem S1x5632 .f32) (harg11 : arg11.IsWhole)
  (arg12 : Memref sig .tc .vmem S2816x1024 .bf16) (harg12 : arg12.IsWhole)
  (arg13 : Memref sig .tc .vmem S1x512x1024 .f32) (harg13 : arg13.IsWhole)
  (arg14 : Memref sig .tc .vmem S528x1024 .bf16) (arg15 : Memref sig .tc .vmem S512x2816 .bf16)
  (x0 : Vec Ideal S1x512x1024 .f32)
  (x1 : Vec Ideal S1x8x1024 .f32)
  (x2 : Vec Ideal S1x8x1024 .f32)
  (x3 : Vec Ideal S1x1024 .f32)
  (x4 : Vec Ideal S1x1x1024 .f32)
  (x5 : Vec Ideal S1x1x1024 .f32)
  (x6 : Vec Ideal S1x1x1024 .f32)
  (x7 : Vec Ideal S1024x5632 .bf16)
  (x8 : Vec Ideal S3x5632 .f32)
  (x9 : Vec Ideal S1x5632 .f32)
  (x10 : Vec Ideal S2816x1024 .bf16)

/-- A stored tile of 128 rows holds the hidden rows at its place. -/
theorem norm_piece (o : Fin 4) (off' : Fin 3 → ℕ) (e' : off' = ![0, 128 * o.val, 0]) (inb' : ∀ k, off' k + S1x128x1024.size k ≤ S1x512x1024.size k)
    (off : Fin 2 → ℕ) (e : off = ![128 * o.val, 0]) (inb : ∀ k, off k + S128x1024.size k ≤ S528x1024.size k) (x : S128x1024.Idx) :
    k0_pay4 (View.readAt (Elt Ideal) arg5.view (Rect.unit ![0, 0] S1x1024.size (by decide)).toLoadRect (harg5.unread x3)) (View.readAt (Elt Ideal) arg7.view (Rect.unit ![0, 0, 0] S1x1x1024.size (by decide)).toLoadRect (harg7.unread x5))
      (View.readAt (Elt Ideal) arg6.view (Rect.unit ![0, 0, 0] S1x1x1024.size (by decide)).toLoadRect (harg6.unread x4))
      (View.readAt (Elt Ideal) arg2.view (Rect.unit (s := S1x512x1024) off' S1x128x1024.size inb').toLoadRect (harg2.unread x0)) x
      = (fun y : S528x1024.Idx => hidK (BitVec.ofNat 32 (i 1).val) x0 x1 x2 x3 x4 x5 (y 0) (y 1)) ((Rect.unit (s := S528x1024) off S128x1024.size inb).emb x) := by
  rw [load_whole arg5 harg5 x3 _ (by decide), load_whole arg6 harg6 x4 _ (by decide), load_whole arg7 harg7 x5 _ (by decide), load_rows arg2 harg2 x0 o off' e' inb']
  subst e
  have hv := Rect.idx_unit_val (s := S528x1024) ![128 * o.val, 0] S128x1024.size inb x
  obtain ⟨r, k, rfl⟩ : ∃ (r : Fin 128) (k : Fin 1024), x = ix2 r k := ⟨x 0, x 1, by blk_ext⟩
  exact own_entry (BitVec.ofNat 32 (i 1).val) x0 x1 x2 x3 x4 x5 o r k _ _ (hv 0) ((hv 1).trans (Nat.zero_add _))

/-- The stored halo holds the hidden rows at its place. -/
theorem halo_piece (off : Fin 2 → ℕ) (e : off = ![512, 0]) (inb : ∀ k, off k + S16x1024.size k ≤ S528x1024.size k) (x : S16x1024.Idx) :
    halo (BitVec.ofNat 32 (i 1).val) (View.readAt (Elt Ideal) arg5.view (Rect.unit ![0, 0] S1x1024.size (by decide)).toLoadRect (harg5.unread x3)) (View.readAt (Elt Ideal) arg7.view (Rect.unit ![0, 0, 0] S1x1x1024.size (by decide)).toLoadRect (harg7.unread x5))
      (View.readAt (Elt Ideal) arg6.view (Rect.unit ![0, 0, 0] S1x1x1024.size (by decide)).toLoadRect (harg6.unread x4)) (View.readAt (Elt Ideal) arg3.view (Rect.unit ![0, 0, 0] S1x8x1024.size (by decide)).toLoadRect (harg3.unread x1))
      (View.readAt (Elt Ideal) arg4.view (Rect.unit ![0, 0, 0] S1x8x1024.size (by decide)).toLoadRect (harg4.unread x2)) x
      = (fun y : S528x1024.Idx => hidK (BitVec.ofNat 32 (i 1).val) x0 x1 x2 x3 x4 x5 (y 0) (y 1)) ((Rect.unit (s := S528x1024) off S16x1024.size inb).emb x) := by
  rw [load_whole arg5 harg5 x3 _ (by decide), load_whole arg6 harg6 x4 _ (by decide), load_whole arg7 harg7 x5 _ (by decide), load_whole arg3 harg3 x1 _ (by decide), load_whole arg4 harg4 x2 _ (by decide)]
  subst e
  have hv := Rect.idx_unit_val (s := S528x1024) ![512, 0] S16x1024.size inb x
  obtain ⟨r, k, rfl⟩ : ∃ (r : Fin 16) (k : Fin 1024), x = ix2 r k := ⟨x 0, x 1, by blk_ext⟩
  exact halo_entry (BitVec.ofNat 32 (i 1).val) x0 x1 x2 x3 x4 x5 r k _ _ (hv 0) ((hv 1).trans (Nat.zero_add _))

/-- The pieces stored to the first scratch are blocks of the hidden rows. -/
theorem pieces_hid : View.PiecesOf (Val := Elt Ideal) (e := .bf16) (fun y : S528x1024.Idx => hidK (BitVec.ofNat 32 (i 1).val) x0 x1 x2 x3 x4 x5 (y 0) (y 1)) (kernelRun0_A.sl.HS0_5 (F := Ideal) c i arg2 harg2 arg3 harg3 arg4 harg4 arg5 harg5 arg6 harg6 arg7 harg7 x0 x1 x2 x3 x4 x5) :=
  ⟨fun x => halo_piece i arg3 harg3 arg4 harg4 arg5 harg5 arg6 harg6 arg7 harg7 x0 x1 x2 x3 x4 x5 ![512, 0] rfl (by decide) x,
    fun x => norm_piece i arg2 harg2 arg5 harg5 arg6 harg6 arg7 harg7 x0 x1 x2 x3 x4 x5 3 ![0, 384, 0] rfl (by decide) ![384, 0] rfl (by decide) x,
    fun x => norm_piece i arg2 harg2 arg5 harg5 arg6 harg6 arg7 harg7 x0 x1 x2 x3 x4 x5 2 ![0, 256, 0] rfl (by decide) ![256, 0] rfl (by decide) x,
    fun x => norm_piece i arg2 harg2 arg5 harg5 arg6 harg6 arg7 harg7 x0 x1 x2 x3 x4 x5 1 ![0, 128, 0] rfl (by decide) ![128, 0] rfl (by decide) x,
    fun x => norm_piece i arg2 harg2 arg5 harg5 arg6 harg6 arg7 harg7 x0 x1 x2 x3 x4 x5 0 ![0, 0, 0] rfl (by decide) ![0, 0] rfl (by decide) x,
    trivial⟩

/-- A row of the scratch lies in the tile that holds it. -/
theorem row_in (y : S528x1024.Idx) (R o : ℕ) (h : o ≤ (y 0).val ∧ (y 0).val < o + R) (off : Fin 2 → ℕ) (e : off = ![o, 0])
    (inb : ∀ k, off k + (⟨2, ![R, 1024]⟩ : Shape).size k ≤ S528x1024.size k) : y ∈ (Rect.unit (s := S528x1024) off (⟨2, ![R, 1024]⟩ : Shape).size inb).set := by
  subst e
  have h1 : (y 1).val < 1024 := (y 1).isLt
  refine Rect.mem_set_unit.mpr fun a => ?_
  fin_cases a
  · exact h
  · show 0 ≤ (y 1).val ∧ (y 1).val < 0 + 1024; omega

/-- The five stored tiles cover the first scratch. -/
theorem cover_hid (y : S528x1024.Idx) : ∃ pc ∈ (kernelRun0_A.sl.HS0_5 (F := Ideal) c i arg2 harg2 arg3 harg3 arg4 harg4 arg5 harg5 arg6 harg6 arg7 harg7 x0 x1 x2 x3 x4 x5), y ∈ pc.1.set := by
  have h0 : (y 0).val < 528 := (y 0).isLt
  unfold kernelRun0_A.sl.HS0_5
  by_cases h1 : (y 0).val < 128
  · exact ⟨_, List.mem_cons_of_mem _ (List.mem_cons_of_mem _ (List.mem_cons_of_mem _ (List.mem_cons_of_mem _ List.mem_cons_self))), row_in y 128 0 (by omega) ![0, 0] rfl (by decide)⟩
  by_cases h2 : (y 0).val < 256
  · exact ⟨_, List.mem_cons_of_mem _ (List.mem_cons_of_mem _ (List.mem_cons_of_mem _ List.mem_cons_self)), row_in y 128 128 (by omega) ![128, 0] rfl (by decide)⟩
  by_cases h3 : (y 0).val < 384
  · exact ⟨_, List.mem_cons_of_mem _ (List.mem_cons_of_mem _ List.mem_cons_self), row_in y 128 256 (by omega) ![256, 0] rfl (by decide)⟩
  by_cases h4 : (y 0).val < 512
  · exact ⟨_, List.mem_cons_of_mem _ List.mem_cons_self, row_in y 128 384 (by omega) ![384, 0] rfl (by decide)⟩
  · exact ⟨_, List.mem_cons_self, row_in y 16 512 (by omega) ![512, 0] rfl (by decide)⟩

/-- A load of 176 rows of the first scratch reads the hidden rows. -/
theorem load_hid (o : ℕ) (off : Fin 2 → ℕ) (e : off = ![o, 0]) (ho : o + 176 ≤ 528) (inb : ∀ k, off k + S176x1024.size k ≤ S528x1024.size k) (r : Fin 176) (k : Fin 1024) :
    arg14.view.readCov (Val := Elt Ideal) (kernelRun0_A.sl.HS0_5 (F := Ideal) c i arg2 harg2 arg3 harg3 arg4 harg4 arg5 harg5 arg6 harg6 arg7 harg7 x0 x1 x2 x3 x4 x5) (Rect.unit (s := S528x1024) off S176x1024.size inb).toLoadRect (ix2 r k) = hidK (BitVec.ofNat 32 (i 1).val) x0 x1 x2 x3 x4 x5 ⟨o + r.val, by omega⟩ k := by
  subst e
  rw [View.readCov_eq_canon']
  refine (View.canon_apply_of_pieces (fun y : S528x1024.Idx => hidK (BitVec.ofNat 32 (i 1).val) x0 x1 x2 x3 x4 x5 (y 0) (y 1)) (kernelRun0_A.sl.HS0_5 (F := Ideal) c i arg2 harg2 arg3 harg3 arg4 harg4 arg5 harg5 arg6 harg6 arg7 harg7 x0 x1 x2 x3 x4 x5) (pieces_hid c i arg2 harg2 arg3 harg3 arg4 harg4 arg5 harg5 arg6 harg6 arg7 harg7 x0 x1 x2 x3 x4 x5).mem _ (cover_hid c i arg2 harg2 arg3 harg3 arg4 harg4 arg5 harg5 arg6 harg6 arg7 harg7 x0 x1 x2 x3 x4 x5 _)).trans ?_
  have hv := Rect.idx_unit_val (s := S528x1024) ![o, 0] S176x1024.size inb (ix2 r k)
  exact congrArg₂ (hidK (BitVec.ofNat 32 (i 1).val) x0 x1 x2 x3 x4 x5) (Fin.ext (hv 0)) (Fin.ext ((hv 1).trans (Nat.zero_add _)))

/-- The first load of hidden rows. -/
theorem load_138 (r : Fin 176) (k : Fin 1024) : (kernelRun0_A.sl.v138 (F := Ideal) c i arg2 harg2 arg3 harg3 arg4 harg4 arg5 harg5 arg6 harg6 arg7 harg7 arg14 x0 x1 x2 x3 x4 x5) (ix2 r k) = hidK (BitVec.ofNat 32 (i 1).val) x0 x1 x2 x3 x4 x5 ⟨r.val, by omega⟩ k := by
  unfold kernelRun0_A.sl.v138
  exact (load_hid c i arg2 harg2 arg3 harg3 arg4 harg4 arg5 harg5 arg6 harg6 arg7 harg7 arg14 x0 x1 x2 x3 x4 x5 0 ![0, 0] rfl (by decide) (by decide) r k).trans (congrArg (fun r => hidK (BitVec.ofNat 32 (i 1).val) x0 x1 x2 x3 x4 x5 r k) (Fin.ext (Nat.zero_add _)))

/-- The second load of hidden rows. -/
theorem load_140 (r : Fin 176) (k : Fin 1024) : (kernelRun0_A.sl.v140 (F := Ideal) c i arg2 harg2 arg3 harg3 arg4 harg4 arg5 harg5 arg6 harg6 arg7 harg7 arg14 x0 x1 x2 x3 x4 x5) (ix2 r k) = hidK (BitVec.ofNat 32 (i 1).val) x0 x1 x2 x3 x4 x5 ⟨176 + r.val, by omega⟩ k := by
  unfold kernelRun0_A.sl.v140
  exact load_hid c i arg2 harg2 arg3 harg3 arg4 harg4 arg5 harg5 arg6 harg6 arg7 harg7 arg14 x0 x1 x2 x3 x4 x5 176 ![176, 0] rfl (by decide) (by decide) r k

/-- The third load of hidden rows. -/
theorem load_142 (r : Fin 176) (k : Fin 1024) : (kernelRun0_A.sl.v142 (F := Ideal) c i arg2 harg2 arg3 harg3 arg4 harg4 arg5 harg5 arg6 harg6 arg7 harg7 arg14 x0 x1 x2 x3 x4 x5) (ix2 r k) = hidK (BitVec.ofNat 32 (i 1).val) x0 x1 x2 x3 x4 x5 ⟨352 + r.val, by omega⟩ k := by
  unfold kernelRun0_A.sl.v142
  exact load_hid c i arg2 harg2 arg3 harg3 arg4 harg4 arg5 harg5 arg6 harg6 arg7 harg7 arg14 x0 x1 x2 x3 x4 x5 352 ![352, 0] rfl (by decide) (by decide) r k

/-- A stored chunk holds the gated products at its place. -/
theorem chunk_piece (b : BitVec 32) (h0 h1 h2 : FVec Ideal S176x1024 .bf16)
    (e0 : ∀ r k, h0 (ix2 r k) = hidK b x0 x1 x2 x3 x4 x5 ⟨r.val, by omega⟩ k) (e1 : ∀ r k, h1 (ix2 r k) = hidK b x0 x1 x2 x3 x4 x5 ⟨176 + r.val, by omega⟩ k)
    (e2 : ∀ r k, h2 (ix2 r k) = hidK b x0 x1 x2 x3 x4 x5 ⟨352 + r.val, by omega⟩ k)
    (j : Fin 11) (og ov : Fin 2 → ℕ) (eg : og = ![0, 256 * j.val]) (ev : ov = ![0, 2816 + 256 * j.val])
    (i9 : ∀ k, og k + S1024x256.size k ≤ S1024x5632.size k) (i10 : ∀ k, og k + S3x256.size k ≤ S3x5632.size k) (i11 : ∀ k, og k + S1x256.size k ≤ S1x5632.size k)
    (j9 : ∀ k, ov k + S1024x256.size k ≤ S1024x5632.size k) (j10 : ∀ k, ov k + S3x256.size k ≤ S3x5632.size k) (j11 : ∀ k, ov k + S1x256.size k ≤ S1x5632.size k)
    (inb : ∀ k, og k + S512x256.size k ≤ S512x2816.size k) (x : S512x256.Idx) :
    chunk h0 h1 h2
      (View.readAt (Elt Ideal) arg9.view (Rect.unit (s := S1024x5632) og S1024x256.size i9).toLoadRect (harg9.unread x7))
      (View.readAt (Elt Ideal) arg9.view (Rect.unit (s := S1024x5632) ov S1024x256.size j9).toLoadRect (harg9.unread x7))
      (View.readAt (Elt Ideal) arg10.view (Rect.unit (s := S3x5632) og S3x256.size i10).toLoadRect (harg10.unread x8))
      (View.readAt (Elt Ideal) arg10.view (Rect.unit (s := S3x5632) ov S3x256.size j10).toLoadRect (harg10.unread x8))
      (View.readAt (Elt Ideal) arg11.view (Rect.unit (s := S1x5632) og S1x256.size i11).toLoadRect (harg11.unread x9))
      (View.readAt (Elt Ideal) arg11.view (Rect.unit (s := S1x5632) ov S1x256.size j11).toLoadRect (harg11.unread x9)) x
      = (fun y : S512x2816.Idx => stageA b x0 x1 x2 x3 x4 x5 x7 x8 x9 (y 0) (y 1)) ((Rect.unit (s := S512x2816) og S512x256.size inb).emb x) := by
  have hj := j.isLt
  have l9 := load_cols arg9 harg9 x7 (256 * j.val) og eg (by omega) i9
  have m9 := load_cols arg9 harg9 x7 (2816 + 256 * j.val) ov ev (by omega) j9
  have l10 := load_cols arg10 harg10 x8 (256 * j.val) og eg (by omega) i10
  have m10 := load_cols arg10 harg10 x8 (2816 + 256 * j.val) ov ev (by omega) j10
  have l11 := load_cols arg11 harg11 x9 (256 * j.val) og eg (by omega) i11
  have m11 := load_cols arg11 harg11 x9 (2816 + 256 * j.val) ov ev (by omega) j11
  have hv := Rect.idx_unit_val (s := S512x2816) og S512x256.size inb x
  obtain ⟨r, n, rfl⟩ : ∃ (r : Fin 512) (n : Fin 256), x = ix2 r n := ⟨x 0, x 1, by blk_ext⟩
  refine (chunk_at _ _ _ _ _ _ _ _ _ (hidK b x0 x1 x2 x3 x4 x5) e0 e1 e2 r n).trans ?_
  refine Eq.trans ?_ (stageA_entry b x0 x1 x2 x3 x4 x5 x7 x8 x9 j r n _ _ ((hv 0).trans (by subst eg; exact Nat.zero_add _)) ((hv 1).trans (by subst eg; rfl)))
  exact congrArg₂ Ffn.gate
    (congr (congr (congrArg₂ (column (hidK b x0 x1 x2 x3 x4 x5)) (funext fun k => congrFun l9 (ix2 k n)) (funext fun k => congrFun l10 (ix2 k n))) (congrFun l11 (ix2 0 n))) rfl)
    (congr (congr (congrArg₂ (column (hidK b x0 x1 x2 x3 x4 x5)) (funext fun k => congrFun m9 (ix2 k n)) (funext fun k => congrFun m10 (ix2 k n))) (congrFun m11 (ix2 0 n))) rfl)

end Cert.Kernel2Ideal.Ffn
-- ==== Proof.Ffn.Gated.lean ====
/- The gated products in the second scratch buffer, in closed form. -/
module

public import proofs.«01_k».proof.Proof.Ffn.Stage

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen

variable (c : Dev nD) (i : grid0.Coords)
  (arg2 : Memref sig .tc .vmem S1x512x1024 .f32) (harg2 : arg2.IsWhole)
  (arg3 : Memref sig .tc .vmem S1x8x1024 .f32) (harg3 : arg3.IsWhole)
  (arg4 : Memref sig .tc .vmem S1x8x1024 .f32) (harg4 : arg4.IsWhole)
  (arg5 : Memref sig .tc .vmem S1x1024 .f32) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1024x5632 .bf16) (harg9 : arg9.IsWhole)
  (arg10 : Memref sig .tc .vmem S3x5632 .f32) (harg10 : arg10.IsWhole)
  (arg11 : Memref sig .tc .vmem S1x5632 .f32) (harg11 : arg11.IsWhole)
  (arg12 : Memref sig .tc .vmem S2816x1024 .bf16) (harg12 : arg12.IsWhole)
  (arg13 : Memref sig .tc .vmem S1x512x1024 .f32) (harg13 : arg13.IsWhole)
  (arg14 : Memref sig .tc .vmem S528x1024 .bf16) (arg15 : Memref sig .tc .vmem S512x2816 .bf16)
  (x0 : Vec Ideal S1x512x1024 .f32)
  (x1 : Vec Ideal S1x8x1024 .f32)
  (x2 : Vec Ideal S1x8x1024 .f32)
  (x3 : Vec Ideal S1x1024 .f32)
  (x4 : Vec Ideal S1x1x1024 .f32)
  (x5 : Vec Ideal S1x1x1024 .f32)
  (x6 : Vec Ideal S1x1x1024 .f32)
  (x7 : Vec Ideal S1024x5632 .bf16)
  (x8 : Vec Ideal S3x5632 .f32)
  (x9 : Vec Ideal S1x5632 .f32)
  (x10 : Vec Ideal S2816x1024 .bf16)

/-- The pieces stored to the second scratch are blocks of the gated products. -/
theorem pieces_gated : ∀ pc ∈ (kernelRun0_A.sl.HS1_11 (F := Ideal) c i arg2 harg2 arg3 harg3 arg4 harg4 arg5 harg5 arg6 harg6 arg7 harg7 arg9 harg9 arg10 harg10 arg11 harg11 arg14 x0 x1 x2 x3 x4 x5 x7 x8 x9), ∀ x, pc.2 x = (fun y : S512x2816.Idx => stageA (BitVec.ofNat 32 (i 1).val) x0 x1 x2 x3 x4 x5 x7 x8 x9 (y 0) (y 1)) (pc.1.emb x) := by
  have P := chunk_piece arg9 harg9 arg10 harg10 arg11 harg11 x0 x1 x2 x3 x4 x5 x7 x8 x9 (BitVec.ofNat 32 (i 1).val) (kernelRun0_A.sl.v138 (F := Ideal) c i arg2 harg2 arg3 harg3 arg4 harg4 arg5 harg5 arg6 harg6 arg7 harg7 arg14 x0 x1 x2 x3 x4 x5)
    (kernelRun0_A.sl.v140 (F := Ideal) c i arg2 harg2 arg3 harg3 arg4 harg4 arg5 harg5 arg6 harg6 arg7 harg7 arg14 x0 x1 x2 x3 x4 x5)
    (kernelRun0_A.sl.v142 (F := Ideal) c i arg2 harg2 arg3 harg3 arg4 harg4 arg5 harg5 arg6 harg6 arg7 harg7 arg14 x0 x1 x2 x3 x4 x5)
    (load_138 c i arg2 harg2 arg3 harg3 arg4 harg4 arg5 harg5 arg6 harg6 arg7 harg7 arg14 x0 x1 x2 x3 x4 x5) (load_140 c i arg2 harg2 arg3 harg3 arg4 harg4 arg5 harg5 arg6 harg6 arg7 harg7 arg14 x0 x1 x2 x3 x4 x5) (load_142 c i arg2 harg2 arg3 harg3 arg4 harg4 arg5 harg5 arg6 harg6 arg7 harg7 arg14 x0 x1 x2 x3 x4 x5)
  unfold kernelRun0_A.sl.HS1_11
  refine List.forall_mem_cons.mpr ⟨fun x => Eq.trans ?_ (P 10 ![0, 2560] ![0, 5376] rfl rfl (by decide) (by decide) (by decide) (by decide) (by decide) (by decide) (by decide) x), ?_⟩
  · rfl
  refine List.forall_mem_cons.mpr ⟨fun x => Eq.trans ?_ (P 9 ![0, 2304] ![0, 5120] rfl rfl (by decide) (by decide) (by decide) (by decide) (by decide) (by decide) (by decide) x), ?_⟩
  · rfl
  refine List.forall_mem_cons.mpr ⟨fun x => Eq.trans ?_ (P 8 ![0, 2048] ![0, 4864] rfl rfl (by decide) (by decide) (by decide) (by decide) (by decide) (by decide) (by decide) x), ?_⟩
  · rfl
  refine List.forall_mem_cons.mpr ⟨fun x => Eq.trans ?_ (P 7 ![0, 1792] ![0, 4608] rfl rfl (by decide) (by decide) (by decide) (by decide) (by decide) (by decide) (by decide) x), ?_⟩
  · rfl
  refine List.forall_mem_cons.mpr ⟨fun x => Eq.trans ?_ (P 6 ![0, 1536] ![0, 4352] rfl rfl (by decide) (by decide) (by decide) (by decide) (by decide) (by decide) (by decide) x), ?_⟩
  · rfl
  refine List.forall_mem_cons.mpr ⟨fun x => Eq.trans ?_ (P 5 ![0, 1280] ![0, 4096] rfl rfl (by decide) (by decide) (by decide) (by decide) (by decide) (by decide) (by decide) x), ?_⟩
  · rfl
  refine List.forall_mem_cons.mpr ⟨fun x => Eq.trans ?_ (P 4 ![0, 1024] ![0, 3840] rfl rfl (by decide) (by decide) (by decide) (by decide) (by decide) (by decide) (by decide) x), ?_⟩
  · rfl
  refine List.forall_mem_cons.mpr ⟨fun x => Eq.trans ?_ (P 3 ![0, 768] ![0, 3584] rfl rfl (by decide) (by decide) (by decide) (by decide) (by decide) (by decide) (by decide) x), ?_⟩
  · rfl
  refine List.forall_mem_cons.mpr ⟨fun x => Eq.trans ?_ (P 2 ![0, 512] ![0, 3328] rfl rfl (by decide) (by decide) (by decide) (by decide) (by decide) (by decide) (by decide) x), ?_⟩
  · rfl
  refine List.forall_mem_cons.mpr ⟨fun x => Eq.trans ?_ (P 1 ![0, 256] ![0, 3072] rfl rfl (by decide) (by decide) (by decide) (by decide) (by decide) (by decide) (by decide) x), ?_⟩
  · rfl
  refine List.forall_mem_cons.mpr ⟨fun x => Eq.trans ?_ (P 0 ![0, 0] ![0, 2816] rfl rfl (by decide) (by decide) (by decide) (by decide) (by decide) (by decide) (by decide) x), ?_⟩
  · rfl
  exact fun _ h => absurd h List.not_mem_nil

/-- The load of the second scratch reads the gated products. -/
theorem load_gated (r : Fin 512) (n : Fin 2816) :
    kernelRun0_A.sl.v1339 (F := Ideal) c i arg2 harg2 arg3 harg3 arg4 harg4 arg5 harg5 arg6 harg6 arg7 harg7 arg9 harg9 arg10 harg10 arg11 harg11 arg14 arg15 x0 x1 x2 x3 x4 x5 x7 x8 x9 (ix2 r n) = stageA (BitVec.ofNat 32 (i 1).val) x0 x1 x2 x3 x4 x5 x7 x8 x9 r n := by
  unfold kernelRun0_A.sl.v1339
  rw [View.readCov_eq_canon']
  refine (View.canon_apply_of_pieces (fun y : S512x2816.Idx => stageA (BitVec.ofNat 32 (i 1).val) x0 x1 x2 x3 x4 x5 x7 x8 x9 (y 0) (y 1)) (kernelRun0_A.sl.HS1_11 (F := Ideal) c i arg2 harg2 arg3 harg3 arg4 harg4 arg5 harg5 arg6 harg6 arg7 harg7 arg9 harg9 arg10 harg10 arg11 harg11 arg14 x0 x1 x2 x3 x4 x5 x7 x8 x9) (pieces_gated c i arg2 harg2 arg3 harg3 arg4 harg4 arg5 harg5 arg6 harg6 arg7 harg7 arg9 harg9 arg10 harg10 arg11 harg11 arg14 x0 x1 x2 x3 x4 x5 x7 x8 x9) _ ?_).trans ?_
  · refine View.cover_of_tiledL (kernelRun0_A.sl.HS1_11 (F := Ideal) c i arg2 harg2 arg3 harg3 arg4 harg4 arg5 harg5 arg6 harg6 arg7 harg7 arg9 harg9 arg10 harg10 arg11 harg11 arg14 x0 x1 x2 x3 x4 x5 x7 x8 x9) S512x256.size ?_ _
    rfl
  · have hv := Rect.idx_unit_val (s := S512x2816) ![0, 0] ![512, 2816] (by decide) (ix2 r n)
    exact congrArg₂ (stageA (BitVec.ofNat 32 (i 1).val) x0 x1 x2 x3 x4 x5 x7 x8 x9) (Fin.ext ((hv 0).trans (Nat.zero_add _))) (Fin.ext ((hv 1).trans (Nat.zero_add _)))

end Cert.Kernel2Ideal.Ffn
-- ==== Proof.Ffn.Block.lean ====
/- The feed-forward kernel's output block at a grid point, in closed form. -/
module

public import proofs.«01_k».proof.Proof.Ffn.Gated

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

/-- The output block: the rows of `x` plus the gate times the down-projected products. -/
def outBlock (i : BitVec 32)
    (x0 : Vec Ideal S1x512x1024 .f32)
    (x1 : Vec Ideal S1x8x1024 .f32)
    (x2 : Vec Ideal S1x8x1024 .f32)
    (x3 : Vec Ideal S1x1024 .f32)
    (x4 : Vec Ideal S1x1x1024 .f32)
    (x5 : Vec Ideal S1x1x1024 .f32)
    (x6 : Vec Ideal S1x1x1024 .f32)
    (x7 : Vec Ideal S1024x5632 .bf16)
    (x8 : Vec Ideal S3x5632 .f32)
    (x9 : Vec Ideal S1x5632 .f32)
    (x10 : Vec Ideal S2816x1024 .bf16)
    (y : S1x512x1024.Idx) : EReal :=
  x0 (ix3 0 (y 1) (y 2)) + x6 (ix3 0 0 (y 2)) * ∑ j : Fin 2816, stageA i x0 x1 x2 x3 x4 x5 x7 x8 x9 (y 1) j * x10 (ix2 j (y 2))

/-- The stored tile is the output block. -/
theorem out_block (i : BitVec 32)
    (x0 : Vec Ideal S1x512x1024 .f32)
    (x1 : Vec Ideal S1x8x1024 .f32)
    (x2 : Vec Ideal S1x8x1024 .f32)
    (x3 : Vec Ideal S1x1024 .f32)
    (x4 : Vec Ideal S1x1x1024 .f32)
    (x5 : Vec Ideal S1x1x1024 .f32)
    (x6 : Vec Ideal S1x1x1024 .f32)
    (x7 : Vec Ideal S1024x5632 .bf16)
    (x8 : Vec Ideal S3x5632 .f32)
    (x9 : Vec Ideal S1x5632 .f32)
    (x10 : Vec Ideal S2816x1024 .bf16)
    (a : FVec Ideal S512x2816 .bf16) (ha : ∀ r n, a (ix2 r n) = stageA i x0 x1 x2 x3 x4 x5 x7 x8 x9 r n)
    (off : Fin 3 → ℕ) (e : off = ![0, 0, 0]) (inb : ∀ k, off k + S1x512x1024.size k ≤ S1x512x1024.size k) (x : S1x512x1024.Idx) :
    k0_pay1 (k0_pay130 x0) x6 a x10 x = outBlock i x0 x1 x2 x3 x4 x5 x6 x7 x8 x9 x10 ((Rect.unit (s := S1x512x1024) off S1x512x1024.size inb).emb x) := by
  subst e
  obtain ⟨z, r, d, rfl⟩ : ∃ (z : Fin 1) (r : Fin 512) (d : Fin 1024), x = ix3 z r d := ⟨x 0, x 1, x 2, by blk_ext⟩
  have hv := Rect.idx_unit_val (s := S1x512x1024) ![0, 0, 0] S1x512x1024.size inb (ix3 z r d)
  have hy : (Rect.unit (s := S1x512x1024) ![0, 0, 0] S1x512x1024.size inb).emb (ix3 z r d) = ix3 z r d := by
    funext k
    apply Fin.ext
    refine (hv k).trans ?_
    fin_cases k <;> exact Nat.zero_add _
  rw [hy, out_at]
  simp only [ha]
  rfl

variable (m : (ℓ : Loc nD τ sig) → Buf (Elt Ideal) ℓ)

/-- What a grid point leaves in the output's buffer. -/
theorem outs_eq (c : Dev nD) (t : Fin cfg0.N) : outsAt0 (F := Ideal) m c t = outBlock (BitVec.ofNat 32 (grid0.coords t 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  unfold outsAt0 out0_A_11
  rw [View.read_writes_junk_eq_canon]
  funext y
  refine View.canon_apply_of_pieces (outBlock (BitVec.ofNat 32 (grid0.coords t 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t)) _ ?_ y
    (cover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) y)
  unfold kernelRun0_A
  dsimp only
  refine List.forall_mem_cons.mpr ⟨fun x => ?_, fun _ h => absurd h List.not_mem_nil⟩
  refine Eq.trans ?_ (out_block (BitVec.ofNat 32 (grid0.coords t 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) _
    (load_gated c (grid0.coords t) (ms0_0 t) (hs0_0 t) (ms0_1 t) (hs0_1 t) (ms0_2 t) (hs0_2 t) (ms0_3 t) (hs0_3 t) (ms0_4 t) (hs0_4 t) (ms0_5 t) (hs0_5 t) (ms0_7 t) (hs0_7 t) (ms0_8 t) (hs0_8 t) (ms0_9 t) (hs0_9 t) scM0_0 scM0_1 (iblk m c 0 t) (iblk m c 1 t) (iblk m c 2 t) (iblk m c 3 t) (iblk m c 4 t) (iblk m c 5 t) (iblk m c 7 t) (iblk m c 8 t) (iblk m c 9 t)) ![0, 0, 0] rfl (by decide) x)
  have e0 := load_whole (ms0_0 t) (hs0_0 t) (iblk m c 0 t) ![0, 0, 0] (by decide) (by decide)
  have e6 := load_whole (ms0_6 t) (hs0_6 t) (iblk m c 6 t) ![0, 0, 0] (by decide) (by decide)
  have e10 := load_whole (ms0_10 t) (hs0_10 t) (iblk m c 10 t) ![0, 0] (by decide) (by decide)
  exact congrFun (congr (congrArg₂ (fun x g w => k0_pay1 (k0_pay130 x) g _ w) e0 e6) e10) x

end Cert.Kernel2Ideal.Ffn
-- ==== Proof.Ffn.Blocks.lean ====
/- The blocks a grid point of the feed-forward part stages, element by element over the arguments. -/
module

public import proofs.«01_k».proof.Proof.Gen.Kernel2Ideal.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

/-- The block each window stages at a grid point: the batch is `t / 8`, the tile of 512 rows `t % 8`; the eight rows
    before and after the tile stop at the ends of the sequence. -/
theorem idx : ∀ t : Fin cfg0.N, t.val < 64 ∧ (grid0.coords t 1).val = t.val % 8 ∧ win0_0.index t = ![t.val / 8, t.val % 8, 0] ∧
    win0_1.index t = ![t.val / 8, t.val % 8 * 64 - 1, 0] ∧ win0_2.index t = ![t.val / 8, min ((t.val % 8 + 1) * 64) 511, 0] ∧
    win0_3.index t = ![0, 0] ∧ win0_4.index t = ![t.val / 8, 0, 0] ∧ win0_5.index t = ![t.val / 8, 0, 0] ∧ win0_6.index t = ![t.val / 8, 0, 0] ∧
    win0_7.index t = ![0, 0] ∧ win0_8.index t = ![0, 0] ∧ win0_9.index t = ![0, 0] ∧ win0_10.index t = ![0, 0] ∧
    win0_11.index t = ![t.val / 8, t.val % 8, 0] :=
  (by decide +kernel : ∀ t : Fin grid0.N, _)

/-- A grid point's batch. -/
def batch (t : Fin cfg0.N) : Fin 8 := ⟨t.val / 8, by have := (idx t).1; omega⟩

/-- A grid point's tile of rows. -/
def tile (t : Fin cfg0.N) : Fin 8 := ⟨t.val % 8, by omega⟩

variable (m : (ℓ : Loc nD τ sig) → Buf (Elt Ideal) ℓ)

/-- The up-projection's weights, in the narrow type. -/
theorem wIn_at (c : Dev nD) (k : Fin 1024) (n : Fin 5632) : (V m c main_v0 : FVec Ideal S1024x5632 .bf16) (ix2 k n) = (m ((c : Thread nD τ).loc main_arg5) : FVec Ideal S1024x5632 .f32) (ix2 k n) := by
  simp only [V, hostOps0, List.flatten_cons, List.flatten_nil, List.append_nil, List.cons_append, List.nil_append]
  entry_read
  pointwise

/-- The down-projection's weights, in the narrow type. -/
theorem wOut_at (c : Dev nD) (j : Fin 2816) (d : Fin 1024) : (V m c main_v1 : FVec Ideal S2816x1024 .bf16) (ix2 j d) = (m ((c : Thread nD τ).loc main_arg8) : FVec Ideal S2816x1024 .f32) (ix2 j d) := by
  simp only [V, hostOps0, List.flatten_cons, List.flatten_nil, List.append_nil, List.cons_append, List.nil_append]
  entry_read
  pointwise

/-- The norm's weight as a row. -/
theorem weight_at (c : Dev nD) (k : Fin 1024) : (V m c main_v2 : FVec Ideal S1x1024 .f32) (ix2 0 k) = (m ((c : Thread nD τ).loc main_arg1) : FVec Ideal S1024 .f32) (ix1 k) := by
  simp only [V, hostOps0, List.flatten_cons, List.flatten_nil, List.append_nil, List.cons_append, List.nil_append]
  entry_read
  pointwise

/-- The bias as a row. -/
theorem bias_at (c : Dev nD) (n : Fin 5632) : (V m c main_v3 : FVec Ideal S1x5632 .f32) (ix2 0 n) = (m ((c : Thread nD τ).loc main_arg7) : FVec Ideal S5632 .f32) (ix1 n) := by
  simp only [V, hostOps0, List.flatten_cons, List.flatten_nil, List.append_nil, List.cons_append, List.nil_append]
  entry_read
  pointwise

/-- The block's own rows. -/
theorem block0 (c : Dev nD) (t : Fin cfg0.N) (r : Fin 512) (k : Fin 1024) : (iblk m c 0 t : FVec Ideal S1x512x1024 .f32) (ix3 0 r k) = (V m c main_arg0 : FVec Ideal S8x4096x1024 .f32) (ix3 (batch t) ⟨(tile t).val * 512 + r.val, by omega⟩ k) := by
  obtain ⟨ht, hc, i0, i1, i2, i3, i4, i5, i6, i7, i8, i9, i10, i11⟩ := idx t
  blk_simp [iblk, i0]
  blk_ext [i0, batch, tile]

/-- The eight rows before the block. -/
theorem block1 (c : Dev nD) (t : Fin cfg0.N) (r : Fin 8) (k : Fin 1024) : (iblk m c 1 t : FVec Ideal S1x8x1024 .f32) (ix3 0 r k) = (V m c main_arg0 : FVec Ideal S8x4096x1024 .f32) (ix3 (batch t) ⟨((tile t).val * 64 - 1) * 8 + r.val, by omega⟩ k) := by
  obtain ⟨ht, hc, i0, i1, i2, i3, i4, i5, i6, i7, i8, i9, i10, i11⟩ := idx t
  blk_simp [iblk, i1]
  blk_ext [i1, batch, tile]

/-- The eight rows after the block. -/
theorem block2 (c : Dev nD) (t : Fin cfg0.N) (r : Fin 8) (k : Fin 1024) : (iblk m c 2 t : FVec Ideal S1x8x1024 .f32) (ix3 0 r k) = (V m c main_arg0 : FVec Ideal S8x4096x1024 .f32) (ix3 (batch t) ⟨min (((tile t).val + 1) * 64) 511 * 8 + r.val, by omega⟩ k) := by
  obtain ⟨ht, hc, i0, i1, i2, i3, i4, i5, i6, i7, i8, i9, i10, i11⟩ := idx t
  blk_simp [iblk, i2]
  blk_ext [i2, batch, tile]

/-- The norm's weight. -/
theorem block3 (c : Dev nD) (t : Fin cfg0.N) (k : Fin 1024) : (iblk m c 3 t : FVec Ideal S1x1024 .f32) (ix2 0 k) = (V m c main_v2 : FVec Ideal S1x1024 .f32) (ix2 0 k) := by
  obtain ⟨ht, hc, i0, i1, i2, i3, i4, i5, i6, i7, i8, i9, i10, i11⟩ := idx t
  blk_simp [iblk, i3]
  blk_ext [i3, batch, tile]

/-- The shift. -/
theorem block4 (c : Dev nD) (t : Fin cfg0.N) (k : Fin 1024) : (iblk m c 4 t : FVec Ideal S1x1x1024 .f32) (ix3 0 0 k) = (V m c main_arg2 : FVec Ideal S8x1x1024 .f32) (ix3 (batch t) 0 k) := by
  obtain ⟨ht, hc, i0, i1, i2, i3, i4, i5, i6, i7, i8, i9, i10, i11⟩ := idx t
  blk_simp [iblk, i4]
  blk_ext [i4, batch, tile]

/-- The scale. -/
theorem block5 (c : Dev nD) (t : Fin cfg0.N) (k : Fin 1024) : (iblk m c 5 t : FVec Ideal S1x1x1024 .f32) (ix3 0 0 k) = (V m c main_arg3 : FVec Ideal S8x1x1024 .f32) (ix3 (batch t) 0 k) := by
  obtain ⟨ht, hc, i0, i1, i2, i3, i4, i5, i6, i7, i8, i9, i10, i11⟩ := idx t
  blk_simp [iblk, i5]
  blk_ext [i5, batch, tile]

/-- The gate. -/
theorem block6 (c : Dev nD) (t : Fin cfg0.N) (k : Fin 1024) : (iblk m c 6 t : FVec Ideal S1x1x1024 .f32) (ix3 0 0 k) = (V m c main_arg4 : FVec Ideal S8x1x1024 .f32) (ix3 (batch t) 0 k) := by
  obtain ⟨ht, hc, i0, i1, i2, i3, i4, i5, i6, i7, i8, i9, i10, i11⟩ := idx t
  blk_simp [iblk, i6]
  blk_ext [i6, batch, tile]

/-- The up-projection's weights. -/
theorem block7 (c : Dev nD) (t : Fin cfg0.N) (k : Fin 1024) (n : Fin 5632) : (iblk m c 7 t : FVec Ideal S1024x5632 .bf16) (ix2 k n) = (V m c main_v0 : FVec Ideal S1024x5632 .bf16) (ix2 k n) := by
  obtain ⟨ht, hc, i0, i1, i2, i3, i4, i5, i6, i7, i8, i9, i10, i11⟩ := idx t
  blk_simp [iblk, i7]
  blk_ext [i7, batch, tile]

/-- The convolution's weights. -/
theorem block8 (c : Dev nD) (t : Fin cfg0.N) (j : Fin 3) (n : Fin 5632) : (iblk m c 8 t : FVec Ideal S3x5632 .f32) (ix2 j n) = (V m c main_arg6 : FVec Ideal S3x5632 .f32) (ix2 j n) := by
  obtain ⟨ht, hc, i0, i1, i2, i3, i4, i5, i6, i7, i8, i9, i10, i11⟩ := idx t
  blk_simp [iblk, i8]
  blk_ext [i8, batch, tile]

/-- The convolution's bias. -/
theorem block9 (c : Dev nD) (t : Fin cfg0.N) (n : Fin 5632) : (iblk m c 9 t : FVec Ideal S1x5632 .f32) (ix2 0 n) = (V m c main_v3 : FVec Ideal S1x5632 .f32) (ix2 0 n) := by
  obtain ⟨ht, hc, i0, i1, i2, i3, i4, i5, i6, i7, i8, i9, i10, i11⟩ := idx t
  blk_simp [iblk, i9]
  blk_ext [i9, batch, tile]

/-- The down-projection's weights. -/
theorem block10 (c : Dev nD) (t : Fin cfg0.N) (j : Fin 2816) (d : Fin 1024) : (iblk m c 10 t : FVec Ideal S2816x1024 .bf16) (ix2 j d) = (V m c main_v1 : FVec Ideal S2816x1024 .bf16) (ix2 j d) := by
  obtain ⟨ht, hc, i0, i1, i2, i3, i4, i5, i6, i7, i8, i9, i10, i11⟩ := idx t
  blk_simp [iblk, i10]
  blk_ext [i10, batch, tile]

end Cert.Kernel2Ideal.Ffn
-- ==== Proof.Ffn.RefAt.lean ====
/- What the feed-forward reference computes at an index. -/
module

public import proofs.«01_k».proof.Proof.Gen.Reference2Ideal.Read
public import proofs.«01_k».proof.Proof.Ffn.Pure

@[expose] public section

set_option maxRecDepth 16384

noncomputable section

open Idealize.ShloMosaic Idealize.ShloMosaic.TcCoe Idealize.SL.Sem

namespace Cert.Reference2Ideal.Ffn

open Cert.Reference2Ideal Cert.Reference2Ideal.Gen Cert.Reference2Ideal.Read

variable (x0 : FVec Ideal S8x4096x1024 .f32) (x1 : FVec Ideal S1024 .f32) (x2 x3 x4 : FVec Ideal S8x1x1024 .f32)
  (x5 : FVec Ideal S1024x5632 .f32) (x6 : FVec Ideal S3x5632 .f32) (x7 : FVec Ideal S5632 .f32) (x8 : FVec Ideal S2816x1024 .f32)

/-- The modulated norm of row `t` of sequence `b`. -/
def hid (b : Fin 8) (t : Fin 4096) : Fin 1024 → EReal :=
  Ffn.normRow (fun j => x0 (ix3 b t j)) (fun j => x1 (ix1 j)) (fun j => x3 (ix3 b 0 j)) (fun j => x2 (ix3 b 0 j))

/-- The modulated norm at an index. -/
theorem hid_at (b : Fin 8) (t : Fin 4096) (k : Fin 1024) :
    val_main_v18 (F := Ideal) x0 x1 x2 x3 (ix3 b t k) = hid x0 x1 x2 x3 b t k := by
  pointwise [val_main_v18, val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0, val_main_cst_1, val_main_cst_2]
  rw [mul_assoc _ (x1 (ix1 k))]
  rfl

/-- The up-projection at an index. -/
theorem up_at (b : Fin 8) (t : Fin 4096) (n : Fin 5632) :
    val_main_v19 (F := Ideal) x0 x1 x2 x3 x5 (ix3 b t n) = Ffn.proj (hid x0 x1 x2 x3 b t) (fun k => x5 (ix2 k n)) := by
  pointwise [val_main_v19]
  simp only [hid_at]
  rfl

/-- The padded up-projection at an index: zero above the first row and below the last. -/
theorem padded_at (b : Fin 8) (t : Fin 4098) (n : Fin 5632) :
    val_main_v20 (F := Ideal) x0 x1 x2 x3 x5 (ix3 b t n) = Ffn.padded (hid x0 x1 x2 x3 b) (fun k => x5 (ix2 k n)) t.val := by
  pointwise [val_main_v20, val_main_call0_v0, val_main_c]
  have e : (FloatOps.sitofp (F := Ideal) FTy.f32 0#32 : EReal) = 0 := by simp [FloatOps.sitofp]
  unfold Ffn.padded
  by_cases h : 1 ≤ t.val ∧ t.val < 4097
  · rw [dif_pos h, dif_pos ⟨h.1, by omega⟩, up_at]
  · rw [dif_neg h, dif_neg (fun h' => h ⟨h'.1, by omega⟩)]
    exact e

/-- The convolution of hidden column `n` at row `t` of sequence `b`. -/
def conv (b : Fin 8) (t : Fin 4096) (n : Fin 5632) : EReal :=
  Ffn.taps (Ffn.padded (hid x0 x1 x2 x3 b) (fun k => x5 (ix2 k n)) t.val) (Ffn.padded (hid x0 x1 x2 x3 b) (fun k => x5 (ix2 k n)) (1 + t.val))
    (Ffn.padded (hid x0 x1 x2 x3 b) (fun k => x5 (ix2 k n)) (2 + t.val)) (x6 (ix2 0 n)) (x6 (ix2 1 n)) (x6 (ix2 2 n)) (x7 (ix1 n))

/-- The convolution at an index. -/
theorem conv_at (b : Fin 8) (t : Fin 4096) (n : Fin 5632) :
    val_main_v43 (F := Ideal) x0 x1 x2 x3 x5 x6 x7 (ix3 b t n) = conv x0 x1 x2 x3 x5 x6 x7 b t n := by
  pointwise [val_main_v43, val_main_v42, val_main_v41, val_main_v40, val_main_v39, val_main_v38, val_main_v37, val_main_v36, val_main_v35, val_main_v34, val_main_v33,
    val_main_v32, val_main_v31, val_main_v30, val_main_v29, val_main_v28, val_main_v27, val_main_v26, val_main_v25, val_main_v24, val_main_v23, val_main_v22, val_main_v21]
  simp only [padded_at]
  rfl

/-- The gated product at an index. -/
theorem gated_at (b : Fin 8) (t : Fin 4096) (n : Fin 2816) :
    val_main_v47 (F := Ideal) x0 x1 x2 x3 x5 x6 x7 (ix3 b t n) =
      Ffn.gate (conv x0 x1 x2 x3 x5 x6 x7 b t ⟨n.val, by omega⟩) (conv x0 x1 x2 x3 x5 x6 x7 b t ⟨2816 + n.val, by omega⟩) := by
  pointwise [val_main_v47, val_main_v46, val_main_v45, val_main_v44, val_main_call1_v5, val_main_call1_v4, val_main_call1_v3, val_main_call1_v2, val_main_call1_v1, val_main_call1_v0,
    val_main_call1_cst, val_main_call1_cst_0]
  simp only [conv_at]
  rfl

/-- The reference's result at an index. -/
theorem result_at (b : Fin 8) (t : Fin 4096) (d : Fin 1024) :
    val_main_v51 (F := Ideal) x0 x1 x2 x3 x4 x5 x6 x7 x8 (ix3 b t d) =
      x0 (ix3 b t d) + x4 (ix3 b 0 d) * ∑ j : Fin 2816,
        Ffn.gate (conv x0 x1 x2 x3 x5 x6 x7 b t ⟨j.val, by omega⟩) (conv x0 x1 x2 x3 x5 x6 x7 b t ⟨2816 + j.val, by omega⟩) * x8 (ix2 j d) := by
  pointwise [val_main_v51, val_main_v50, val_main_v49, val_main_v48]
  simp only [gated_at]

end Cert.Reference2Ideal.Ffn
-- ==== Proof.Ffn.Final.lean ====
/- The feed-forward part: the array the kernel writes is the reference's. -/
module

public import proofs.«01_k».proof.Proof.Ffn.Block
public import proofs.«01_k».proof.Proof.Ffn.Blocks
public import proofs.«01_k».proof.Proof.Ffn.RefAt

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

/-- The factor of the rows before a tile: zero for the first tile. -/
theorem hasPrev_at (i : Fin 8) : hasPrev (BitVec.ofNat 32 i.val) = if i.val = 0 then 0 else 1 := by
  have e : ∀ i : Fin 8, (Scalar.extui (Scalar.cmpi .sgt (BitVec.ofNat 32 i.val) 0#32) : BitVec 32) = if i.val = 0 then 0#32 else 1#32 := by decide
  unfold hasPrev
  rw [e]
  split <;> simp [FloatOps.sitofp]

/-- The factor of the rows after a tile: zero for the last tile. -/
theorem hasNext_at (i : Fin 8) : hasNext (BitVec.ofNat 32 i.val) = if i.val = 7 then 0 else 1 := by
  have e : ∀ i : Fin 8, (Scalar.extui (Scalar.cmpi .slt (BitVec.ofNat 32 i.val) 7#32) : BitVec 32) = if i.val = 7 then 0#32 else 1#32 := by decide
  unfold hasNext
  rw [e]
  split <;> simp [FloatOps.sitofp]

/-- A tile's column is the padded column's convolution, when the tile's rows are the sequence's and the rows beside it are the
    padded column's neighbours. -/
theorem column_eq (H : Fin 4096 → Fin 1024 → EReal) (K : Fin 528 → Fin 1024 → EReal) (i : Fin 8) (w : Fin 1024 → EReal)
    (own : ∀ r : Fin 512, K ⟨r.val, by omega⟩ = H ⟨i.val * 512 + r.val, by omega⟩)
    (prev : Ffn.proj (K 519) w = Ffn.padded H w (i.val * 512)) (next : Ffn.proj (K 520) w = Ffn.padded H w (2 + (i.val * 512 + 511)))
    (c : Fin 3 → EReal) (b : EReal) (r : Fin 512) :
    column K w c b r = Ffn.taps (Ffn.padded H w (i.val * 512 + r.val)) (Ffn.padded H w (1 + (i.val * 512 + r.val))) (Ffn.padded H w (2 + (i.val * 512 + r.val)))
      (c 0) (c 1) (c 2) b := by
  have hi := i.isLt
  have hr := r.isLt
  have inside : ∀ (s : Fin 512) (n : ℕ), n = i.val * 512 + s.val + 1 → Ffn.proj (K ⟨s.val, by omega⟩) w = Ffn.padded H w n := by
    rintro s n rfl
    rw [Ffn.padded, dif_pos (by have := s.isLt; omega), own]
    rfl
  have e1 : (if h : r.val = 0 then Ffn.proj (K 519) w else Ffn.proj (K ⟨r.val - 1, by omega⟩) w) = Ffn.padded H w (i.val * 512 + r.val) := by
    by_cases h : r.val = 0
    · rw [dif_pos h, prev, h]
      rfl
    · rw [dif_neg h]
      exact inside ⟨r.val - 1, by omega⟩ _ (by show _ = i.val * 512 + (r.val - 1) + 1; omega)
  have e2 : (if h : r.val = 511 then Ffn.proj (K 520) w else Ffn.proj (K ⟨r.val + 1, by omega⟩) w) = Ffn.padded H w (2 + (i.val * 512 + r.val)) := by
    by_cases h : r.val = 511
    · rw [dif_pos h, next, h]
    · rw [dif_neg h]
      exact inside ⟨r.val + 1, by omega⟩ _ (by show _ = i.val * 512 + (r.val + 1) + 1; omega)
  rw [column, e1, e2, inside r (1 + (i.val * 512 + r.val)) (by omega)]

variable (m : (ℓ : Loc nD τ sig) → Buf (Elt Ideal) ℓ)

/-- A staged row's modulated norm is the sequence's. -/
theorem norm_row (c : Dev nD) (t : Fin cfg0.N) (x : Fin 1024 → EReal) (s : Fin 4096)
    (hx : ∀ j, x j = ((m ((c : Thread nD τ).loc main_arg0)) : FVec Ideal S8x4096x1024 .f32) (ix3 (batch t) s j)) :
    Ffn.normRow x (fun j => (iblk m c 3 t : FVec Ideal S1x1024 .f32) (ix2 0 j)) (fun j => (iblk m c 5 t : FVec Ideal S1x1x1024 .f32) (ix3 0 0 j))
      (fun j => (iblk m c 4 t : FVec Ideal S1x1x1024 .f32) (ix3 0 0 j)) = Cert.Reference2Ideal.Ffn.hid (m ((c : Thread nD τ).loc main_arg0)) (m ((c : Thread nD τ).loc main_arg1)) (m ((c : Thread nD τ).loc main_arg2)) (m ((c : Thread nD τ).loc main_arg3)) (batch t) s := by
  obtain rfl : x = _ := funext hx
  have e3 := fun j => (block3 m c t j).trans (weight_at m c j)
  have e4 := fun j => (block4 m c t j).trans (congrFun (V_main_arg2 m c) _)
  have e5 := fun j => (block5 m c t j).trans (congrFun (V_main_arg3 m c) _)
  simp only [e3, e4, e5]
  rfl

/-- The tile's own rows. -/
theorem own_rows (c : Dev nD) (t : Fin cfg0.N) (r : Fin 512) :
    hidK (BitVec.ofNat 32 (grid0.coords t 1).val) (iblk m c 0 t) (iblk m c 1 t) (iblk m c 2 t) (iblk m c 3 t) (iblk m c 4 t) (iblk m c 5 t) ⟨r.val, by omega⟩ = Cert.Reference2Ideal.Ffn.hid (m ((c : Thread nD τ).loc main_arg0)) (m ((c : Thread nD τ).loc main_arg1)) (m ((c : Thread nD τ).loc main_arg2)) (m ((c : Thread nD τ).loc main_arg3)) (batch t) ⟨(tile t).val * 512 + r.val, by omega⟩ := by
  funext k
  rw [hidK, dif_pos r.isLt]
  exact congrFun (norm_row m c t _ _ fun j => (block0 m c t r j).trans (congrFun (V_main_arg0 m c) _)) k

/-- The row before the tile. -/
theorem prev_row (c : Dev nD) (t : Fin cfg0.N) (w : Fin 1024 → EReal) :
    Ffn.proj (hidK (BitVec.ofNat 32 (grid0.coords t 1).val) (iblk m c 0 t) (iblk m c 1 t) (iblk m c 2 t) (iblk m c 3 t) (iblk m c 4 t) (iblk m c 5 t) 519) w = Ffn.padded (Cert.Reference2Ideal.Ffn.hid (m ((c : Thread nD τ).loc main_arg0)) (m ((c : Thread nD τ).loc main_arg1)) (m ((c : Thread nD τ).loc main_arg2)) (m ((c : Thread nD τ).loc main_arg3)) (batch t)) w ((tile t).val * 512) := by
  have ht := (tile t).isLt
  have hi : (grid0.coords t 1).val = (tile t).val := (idx t).2.1
  have e : hidK (BitVec.ofNat 32 (grid0.coords t 1).val) (iblk m c 0 t) (iblk m c 1 t) (iblk m c 2 t) (iblk m c 3 t) (iblk m c 4 t) (iblk m c 5 t) 519 = fun k => Cert.Reference2Ideal.Ffn.hid (m ((c : Thread nD τ).loc main_arg0)) (m ((c : Thread nD τ).loc main_arg1)) (m ((c : Thread nD τ).loc main_arg2)) (m ((c : Thread nD τ).loc main_arg3)) (batch t) ⟨((tile t).val * 64 - 1) * 8 + 7, by omega⟩ k * hasPrev (BitVec.ofNat 32 (tile t).val) := by
    funext k
    rw [hidK, dif_neg (by decide), dif_pos (by decide), hi]
    exact congrArg (fun f : Fin 1024 → EReal => f k * hasPrev (BitVec.ofNat 32 (tile t).val))
      (norm_row m c t _ _ fun j => (block1 m c t 7 j).trans (congrFun (V_main_arg0 m c) _))
  rw [e, hasPrev_at, Ffn.padded]
  by_cases h : (tile t).val = 0
  · rw [if_pos h, dif_neg (by omega)]
    exact Ffn.proj_zero _ _
  · rw [if_neg h, dif_pos (by omega)]
    refine (Ffn.proj_one _ _).trans ?_
    exact congrArg (fun s => Ffn.proj (Cert.Reference2Ideal.Ffn.hid (m ((c : Thread nD τ).loc main_arg0)) (m ((c : Thread nD τ).loc main_arg1)) (m ((c : Thread nD τ).loc main_arg2)) (m ((c : Thread nD τ).loc main_arg3)) (batch t) s) w) (Fin.ext (by show ((tile t).val * 64 - 1) * 8 + 7 = (tile t).val * 512 - 1; omega))

/-- The row after the tile. -/
theorem next_row (c : Dev nD) (t : Fin cfg0.N) (w : Fin 1024 → EReal) :
    Ffn.proj (hidK (BitVec.ofNat 32 (grid0.coords t 1).val) (iblk m c 0 t) (iblk m c 1 t) (iblk m c 2 t) (iblk m c 3 t) (iblk m c 4 t) (iblk m c 5 t) 520) w = Ffn.padded (Cert.Reference2Ideal.Ffn.hid (m ((c : Thread nD τ).loc main_arg0)) (m ((c : Thread nD τ).loc main_arg1)) (m ((c : Thread nD τ).loc main_arg2)) (m ((c : Thread nD τ).loc main_arg3)) (batch t)) w (2 + ((tile t).val * 512 + 511)) := by
  have ht := (tile t).isLt
  have hi : (grid0.coords t 1).val = (tile t).val := (idx t).2.1
  have e : hidK (BitVec.ofNat 32 (grid0.coords t 1).val) (iblk m c 0 t) (iblk m c 1 t) (iblk m c 2 t) (iblk m c 3 t) (iblk m c 4 t) (iblk m c 5 t) 520 = fun k => Cert.Reference2Ideal.Ffn.hid (m ((c : Thread nD τ).loc main_arg0)) (m ((c : Thread nD τ).loc main_arg1)) (m ((c : Thread nD τ).loc main_arg2)) (m ((c : Thread nD τ).loc main_arg3)) (batch t) ⟨min (((tile t).val + 1) * 64) 511 * 8 + 0, by omega⟩ k * hasNext (BitVec.ofNat 32 (tile t).val) := by
    funext k
    rw [hidK, dif_neg (by decide), dif_neg (by decide), hi]
    exact congrArg (fun f : Fin 1024 → EReal => f k * hasNext (BitVec.ofNat 32 (tile t).val))
      (norm_row m c t _ _ fun j => (block2 m c t 0 j).trans (congrFun (V_main_arg0 m c) _))
  rw [e, hasNext_at, Ffn.padded]
  by_cases h : (tile t).val = 7
  · rw [if_pos h, dif_neg (by omega)]
    exact Ffn.proj_zero _ _
  · rw [if_neg h, dif_pos (by omega)]
    refine (Ffn.proj_one _ _).trans ?_
    exact congrArg (fun s => Ffn.proj (Cert.Reference2Ideal.Ffn.hid (m ((c : Thread nD τ).loc main_arg0)) (m ((c : Thread nD τ).loc main_arg1)) (m ((c : Thread nD τ).loc main_arg2)) (m ((c : Thread nD τ).loc main_arg3)) (batch t) s) w)
      (Fin.ext (by show min (((tile t).val + 1) * 64) 511 * 8 + 0 = 2 + ((tile t).val * 512 + 511) - 1; omega))

/-- A tile's column is the reference's convolution. -/
theorem column_conv (c : Dev nD) (t : Fin cfg0.N) (r : Fin 512) (n : Fin 5632) :
    column (hidK (BitVec.ofNat 32 (grid0.coords t 1).val) (iblk m c 0 t) (iblk m c 1 t) (iblk m c 2 t) (iblk m c 3 t) (iblk m c 4 t) (iblk m c 5 t)) (fun k => (iblk m c 7 t : FVec Ideal S1024x5632 .bf16) (ix2 k n)) (fun k => (iblk m c 8 t : FVec Ideal S3x5632 .f32) (ix2 k n))
      ((iblk m c 9 t : FVec Ideal S1x5632 .f32) (ix2 0 n)) r = Cert.Reference2Ideal.Ffn.conv (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (batch t) ⟨(tile t).val * 512 + r.val, by omega⟩ n := by
  rw [column_eq (Cert.Reference2Ideal.Ffn.hid (m ((c : Thread nD τ).loc main_arg0)) (m ((c : Thread nD τ).loc main_arg1)) (m ((c : Thread nD τ).loc main_arg2)) (m ((c : Thread nD τ).loc main_arg3)) (batch t)) _ (tile t) _ (own_rows m c t) (prev_row m c t _) (next_row m c t _)]
  have e7 := fun k => (block7 m c t k n).trans (wIn_at m c k n)
  have e8 := fun j => (block8 m c t j n).trans (congrFun (V_main_arg6 m c) _)
  have e9 := (block9 m c t n).trans (bias_at m c n)
  simp only [e7, e8, e9]
  rfl

/-- A block's element is the reference's at that row and lane. -/
theorem block_eq (c : Dev nD) (t : Fin cfg0.N) (r : Fin 512) (d : Fin 1024) :
    outBlock (BitVec.ofNat 32 (grid0.coords t 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r d) =
    Cert.Reference2Ideal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 (batch t) ⟨(tile t).val * 512 + r.val, by omega⟩ d) := by
  refine Eq.trans ?_ (Cert.Reference2Ideal.Ffn.result_at _ _ _ _ _ _ _ _ _ _ _ _).symm
  have e0 := (block0 m c t r d).trans (congrFun (V_main_arg0 m c) _)
  have e6 := (block6 m c t d).trans (congrFun (V_main_arg4 m c) _)
  refine congrArg₂ (fun a b : EReal => a + b) e0 (congrArg₂ (fun a b : EReal => a * b) e6 (Finset.sum_congr rfl fun j _ => ?_))
  exact congrArg₂ (fun a b : EReal => a * b) (congrArg₂ Ffn.gate (column_conv m c t r _) (column_conv m c t r _)) ((block10 m c t j d).trans (wOut_at m c j d))

/-- Where a block's element lies in the result. -/
theorem place11 (t : Fin cfg0.N) (r : Fin 512) (d : Fin 1024) :
    (win0_11.blk t).view.emb (ix3 (0 : Fin 1) r d) = ix3 (batch t) (⟨(tile t).val * 512 + r.val, by omega⟩ : Fin 4096) d := by
  obtain ⟨ht, hc, i0, i1, i2, i3, i4, i5, i6, i7, i8, i9, i10, i11⟩ := idx t
  blk_ext [i11, batch, tile]

/-- A block's element is the reference's at its place in the result. -/
theorem point_eq (c : Dev nD) (t : Fin cfg0.N) (y : S1x512x1024.Idx) :
    outBlock (BitVec.ofNat 32 (grid0.coords t 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) y =
    Cert.Reference2Ideal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ((win0_11.blk t).view.emb y) := by
  idx_vars y
  obtain rfl : y0 = 0 := Subsingleton.elim _ _
  exact (block_eq m c t y1 y2).trans (congrArg _ (place11 t y1 y2).symm)

/-- The array the kernel writes is the reference's result. -/
theorem final (c : Dev nD) : (dats m 0 c).arrAt 11 (cfgs 0).N = Cert.Reference2Ideal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t _ y => ?_
  blk_simp
  rw [after0_11, outs_eq]
  exact point_eq m c t y

end Cert.Kernel2Ideal.Ffn
-- ==== Proof.Qkv.Pure.lean ====
/- The projection's mathematics: the norm of a head, the sums over a head's columns, and which values are real numbers. -/
module

public import proofs.«01_k».proof.Proof.Ffn.Pure

@[expose] public section

noncomputable section

open Idealize.ShloMosaic

namespace Qkv

/-- The small number added under the root. -/
abbrev eps : EReal := Ideal.ofBits .f32 0x358637BD#32

/-- The root's reciprocal of a head's mean square. -/
def headInv (y : Fin 64 → EReal) : EReal := Ideal.rsqrt (Ideal.div (∑ j, y j * y j) (Ideal.ofBits .f32 0x42800000#32) + eps)

/-- The norm of a head of 64 columns: weight `g`. -/
def headNorm (y g : Fin 64 → EReal) (d : Fin 64) : EReal := y d * headInv y * g d

/-- The norm of a head, its column given otherwise. -/
theorem headNorm_eq (y g : Fin 64 → EReal) (d : Fin 64) (a : EReal) (h : a = y d) :
    a * Ideal.rsqrt (Ideal.div (∑ j, y j * y j) (Ideal.ofBits .f32 0x42800000#32) + Ideal.ofBits .f32 0x358637BD#32) * g d = headNorm y g d := by
  rw [h]
  rfl

/-- The value is a real number. -/
def IsReal (x : EReal) : Prop := ∃ r : ℝ, x = (r : EReal)

/-- A sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- One is real. -/
theorem isReal_one : IsReal 1 := ⟨1, rfl⟩

/-- Zero is real. -/
theorem isReal_zero : IsReal 0 := ⟨0, rfl⟩

/-- A finite sum of reals is real. -/
theorem isReal_sum {n : ℕ} (f : Fin n → EReal) (h : ∀ i, IsReal (f i)) : IsReal (∑ i, f i) :=
  Finset.sum_induction f IsReal (fun _ _ => IsReal.add) isReal_zero fun i _ => h i

/-- A real number less itself is zero. -/
theorem IsReal.sub_self {x : EReal} (hx : IsReal x) : x - x = 0 := by
  obtain ⟨a, rfl⟩ := hx
  rw [← EReal.coe_sub, _root_.sub_self]
  rfl

/-- A real number's square is not negative. -/
theorem IsReal.sq_nonneg {x : EReal} (hx : IsReal x) : 0 ≤ x * x := by
  obtain ⟨a, rfl⟩ := hx
  rw [← EReal.coe_mul]
  exact_mod_cast mul_self_nonneg a

/-- The reciprocal of the root of a positive real is real. -/
theorem isReal_rsqrt {x : EReal} (hx : IsReal x) (h : 0 < x) : IsReal (Ideal.rsqrt x) := by
  obtain ⟨a, rfl⟩ := hx
  have ha : 0 < a := by exact_mod_cast h
  rw [Ideal.rsqrt_coe, if_neg (not_lt.mpr ha.le), if_neg ha.ne']
  exact ⟨_, rfl⟩

/-- The small number is a positive real. -/
theorem eps_real : ∃ r : ℝ, 0 < r ∧ eps = (r : EReal) := by
  refine ⟨8796093 * (2 : ℝ) ^ (-43 : ℤ), by positivity, ?_⟩
  simp [eps, Ideal.ofBits, Ideal.ieee]

/-- The pattern of 1/64. -/
theorem ofBits_inv64 : Ideal.ofBits .f32 0x3C800000#32 = ((1 / 64 : ℝ) : EReal) := by
  simp [Ideal.ofBits, Ideal.ieee]; norm_num; rw [← EReal.coe_mul]; congr 1; norm_num

/-- The pattern of 64. -/
theorem ofBits_64 : Ideal.ofBits .f32 0x42800000#32 = ((64 : ℝ) : EReal) := by
  simp [Ideal.ofBits, Ideal.ieee]; norm_num; rw [← EReal.coe_mul]; congr 1; norm_num

/-- The pattern of 1024. -/
theorem ofBits_1024 : Ideal.ofBits .f32 0x44800000#32 = ((1024 : ℝ) : EReal) := by
  simp [Ideal.ofBits, Ideal.ieee]; norm_num; rw [← EReal.coe_mul]; congr 1; norm_num

/-- Dividing by a nonzero real multiplies by its reciprocal. -/
theorem div_real (a : EReal) (r : ℝ) (h : r ≠ 0) : Ideal.div a (r : EReal) = a * ((1 / r : ℝ) : EReal) := by
  rw [Ideal.div, if_neg (by exact_mod_cast h), ← EReal.coe_inv, one_div]

/-- Dividing by 64 multiplies by 1/64. -/
theorem div_64 (a : EReal) : Ideal.div a (Ideal.ofBits .f32 0x42800000#32) = a * Ideal.ofBits .f32 0x3C800000#32 := by
  rw [ofBits_64, ofBits_inv64, div_real a 64 (by norm_num)]

/-- A nonnegative real plus the small number has a real reciprocal root. -/
theorem isReal_rsqrt_eps {x : EReal} (hx : IsReal x) (h : 0 ≤ x) : IsReal (Ideal.rsqrt (x + eps)) := by
  obtain ⟨e, he, ee⟩ := eps_real
  obtain ⟨a, rfl⟩ := hx
  have ha : 0 ≤ a := by exact_mod_cast h
  rw [ee, ← EReal.coe_add]
  exact isReal_rsqrt ⟨_, rfl⟩ (by exact_mod_cast add_pos_of_nonneg_of_pos ha he)

/-- A row of reals has a real modulated norm, when weight, scale and shift are real. -/
theorem isReal_normRow {x g sc sh : Fin 1024 → EReal} (hx : ∀ j, IsReal (x j)) (hg : ∀ j, IsReal (g j)) (hc : ∀ j, IsReal (sc j)) (hs : ∀ j, IsReal (sh j))
    (k : Fin 1024) : IsReal (Ffn.normRow x g sc sh k) := by
  have hsum : IsReal (∑ j, x j * x j) := isReal_sum _ fun j => (hx j).mul (hx j)
  have hpos : 0 ≤ ∑ j, x j * x j := Finset.sum_nonneg fun j _ => (hx j).sq_nonneg
  have hq : (0 : EReal) ≤ ((1 / 1024 : ℝ) : EReal) := by exact_mod_cast (by norm_num : (0 : ℝ) ≤ 1 / 1024)
  unfold Ffn.normRow
  rw [ofBits_1024, div_real _ 1024 (by norm_num)]
  exact (((hx k).mul (isReal_rsqrt_eps (hsum.mul ⟨_, rfl⟩) (mul_nonneg hpos hq))).mul ((hg k).mul (isReal_one.add (hc k)))).add (hs k)

/-- A projection of reals is real. -/
theorem isReal_proj {h w : Fin 1024 → EReal} (hh : ∀ k, IsReal (h k)) (hw : ∀ k, IsReal (w k)) : IsReal (Ffn.proj h w) :=
  isReal_sum _ fun k => (hh k).mul (hw k)

/-- Whether column `c` is one of head `s`. -/
def sel (c : Fin 256) (s : Fin 128) : EReal := if c.val / 64 = s.val then 1 else 0

/-- The selector is real. -/
theorem isReal_sel (c : Fin 256) (s : Fin 128) : IsReal (sel c s) := by
  unfold sel
  split
  exacts [isReal_one, isReal_zero]

/-- The selector is not negative. -/
theorem sel_nonneg (c : Fin 256) (s : Fin 128) : 0 ≤ sel c s := by
  unfold sel
  split
  exacts [zero_le_one, le_rfl]

/-- The selected sum over all columns is the sum over the head's. -/
theorem gather (y : Fin 256 → EReal) (s : Fin 128) (hs : s.val < 4) :
    ∑ c, y c * sel c s = ∑ j : Fin 64, y ⟨s.val * 64 + j.val, by omega⟩ := by
  have e := (finProdFinEquiv (m := 4) (n := 64)).sum_comp (fun c : Fin 256 => y c * sel c s)
  rw [← e, Fintype.sum_prod_type, Finset.sum_eq_single (⟨s.val, hs⟩ : Fin 4)]
  · refine Finset.sum_congr rfl fun j _ => ?_
    have h : (finProdFinEquiv ((⟨s.val, hs⟩ : Fin 4), j) : Fin 256) = ⟨s.val * 64 + j.val, by omega⟩ := Fin.ext (by simp [finProdFinEquiv]; omega)
    rw [h, sel, if_pos (by show (s.val * 64 + j.val) / 64 = s.val; omega), mul_one]
  · intro b _ hb
    refine Finset.sum_eq_zero fun j _ => ?_
    have h : ((finProdFinEquiv (b, j) : Fin 256)).val = b.val * 64 + j.val := by simp [finProdFinEquiv]; omega
    have hne : b.val ≠ s.val := fun e => hb (Fin.ext e)
    rw [sel, if_neg (by rw [h]; omega), mul_zero]
  · intro h
    exact absurd (Finset.mem_univ _) h

/-- The selected sum over the heads is the column's own head. -/
theorem spread (r : Fin 128 → EReal) (c : Fin 256) : ∑ s, r s * sel c s = r ⟨c.val / 64, by omega⟩ := by
  rw [Finset.sum_eq_single (⟨c.val / 64, by omega⟩ : Fin 128)]
  · rw [sel, if_pos rfl, mul_one]
  · intro b _ hb
    rw [sel, if_neg (fun e => hb (Fin.ext e.symm)), mul_zero]
  · intro h
    exact absurd (Finset.mem_univ _) h

/-- The root's reciprocal of a head's mean square, its sum of squares taken as a leading part and a remainder. -/
def lane (y : Fin 256 → EReal) (s : Fin 128) : EReal :=
  Ideal.rsqrt ((∑ c, y c * y c * sel c s + ∑ c, (y c * y c - y c * y c) * sel c s) * Ideal.ofBits .f32 0x3C800000#32 + eps)

/-- The remainder of a row of reals vanishes. -/
theorem lane_eq (y : Fin 256 → EReal) (hy : ∀ c, IsReal (y c)) (s : Fin 128) :
    lane y s = Ideal.rsqrt ((∑ c, y c * y c * sel c s) * Ideal.ofBits .f32 0x3C800000#32 + eps) := by
  have h : ∀ c, y c * y c - y c * y c = 0 := fun c => ((hy c).mul (hy c)).sub_self
  unfold lane
  simp only [h, zero_mul, Finset.sum_const_zero, add_zero]

/-- A row of reals has real lanes. -/
theorem isReal_lane (y : Fin 256 → EReal) (hy : ∀ c, IsReal (y c)) (s : Fin 128) : IsReal (lane y s) := by
  have hq : (0 : EReal) ≤ ((1 / 64 : ℝ) : EReal) := by exact_mod_cast (by norm_num : (0 : ℝ) ≤ 1 / 64)
  rw [lane_eq y hy, ofBits_inv64]
  exact isReal_rsqrt_eps ((isReal_sum _ fun c => ((hy c).mul (hy c)).mul (isReal_sel c s)).mul ⟨_, rfl⟩)
    (mul_nonneg (Finset.sum_nonneg fun c _ => mul_nonneg (hy c).sq_nonneg (sel_nonneg c s)) hq)

/-- Taking the heads' norms through the selectors, with leading parts and remainders, is the norm of each head. -/
theorem selected_norm (y : Fin 256 → EReal) (hy : ∀ c, IsReal (y c)) (g : Fin 64 → EReal) (c : Fin 256) :
    y c * (∑ s, lane y s * sel c s + ∑ s, (lane y s - lane y s) * sel c s) * g ⟨c.val % 64, by omega⟩ =
      headNorm (fun j => y ⟨c.val / 64 * 64 + j.val, by omega⟩) g ⟨c.val % 64, by omega⟩ := by
  have h : ∀ s, lane y s - lane y s = 0 := fun s => (isReal_lane y hy s).sub_self
  have hc : (⟨c.val / 64 * 64 + c.val % 64, by omega⟩ : Fin 256) = c := Fin.ext (Nat.div_add_mod' _ _)
  simp only [h, zero_mul, Finset.sum_const_zero, add_zero]
  rw [spread, lane_eq y hy, gather (fun c => y c * y c) _ (by show c.val / 64 < 4; omega)]
  unfold headNorm headInv
  rw [div_64]
  simp only [hc]

end Qkv
-- ==== Proof.Qkv.Word.lean ====
/- What the projection's payloads hold at an index. -/
module

public import proofs.«01_k».proof.Proof.Gen.Kernel3Ideal.Value
public import proofs.«01_k».proof.Proof.Qkv.Pure

@[expose] public section

set_option maxRecDepth 16384

noncomputable section

open Idealize.ShloMosaic Idealize.ShloMosaic.TcCoe Idealize.SL.Sem
open Idealize.ShloMosaic.Pipeline (Dat)

namespace Cert.Kernel3Ideal.Qkv

open Cert.Kernel3Ideal Cert.Kernel3Ideal.Gen

/-- One column of the projection at a staged row. -/
def column (x : FVec Ideal S1x256x1024 .f32) (g : FVec Ideal S1x1024 .f32) (sh sc : FVec Ideal S1x1x1024 .f32) (w : FVec Ideal S1024x1536 .bf16)
    (r : Fin 256) (n : Fin 1536) : EReal :=
  Ffn.proj (Ffn.normRow (fun j => x (ix3 0 r j)) (fun j => g (ix2 0 j)) (fun j => sc (ix3 0 0 j)) (fun j => sh (ix3 0 0 j))) (fun k => w (ix2 k n))

/-- The projection at an index. -/
theorem column_at (x : FVec Ideal S1x256x1024 .f32) (g : FVec Ideal S1x1024 .f32) (sh sc : FVec Ideal S1x1x1024 .f32) (w : FVec Ideal S1024x1536 .bf16)
    (r : Fin 256) (n : Fin 1536) : k0_pay4 (F := Ideal) g sc x sh w (ix2 r n) = column x g sh sc w r n := by
  pointwise [k0_pay4]
  rfl

/-- The normed keys at an index, over the projection's key columns and the selectors. -/
theorem keys_at (y : FVec Ideal S256x256 .f32) (e : FVec Ideal S256x128 .bf16) (et : FVec Ideal S128x256 .bf16) (g : FVec Ideal S1x256 .f32)
    (he : ∀ c s, e (ix2 c s) = Qkv.sel c s) (het : ∀ s c, et (ix2 s c) = Qkv.sel c s) (r n : Fin 256) :
    k0_pay10 (F := Ideal) y e et (mulf y y) g (ix2 r n) =
      y (ix2 r n) * (∑ s, Qkv.lane (fun c => y (ix2 r c)) s * Qkv.sel n s + ∑ s, (Qkv.lane (fun c => y (ix2 r c)) s - Qkv.lane (fun c => y (ix2 r c)) s) * Qkv.sel n s) * g (ix2 0 n) := by
  pointwise [k0_pay10]
  simp only [he, het]
  rfl

/-- The 64 rows of the transposed queries from row `64 * h`, normed column by column. -/
def headWord (v : FVec Ideal S1024x256 .f32) (g : FVec Ideal S64x256 .f32) (h : Fin 16) (d : Fin 64) (r : Fin 256) : EReal :=
  v (ix2 ⟨h.val * 64 + d.val, by omega⟩ r) * Ideal.rsqrt ((∑ j : Fin 64, v (ix2 ⟨h.val * 64 + j.val, by omega⟩ r) * v (ix2 ⟨h.val * 64 + j.val, by omega⟩ r)) *
    Ideal.ofBits .f32 0x3C800000#32 + Qkv.eps) * g (ix2 d r)

/-- A head's norm, as an array. -/
def headArr (v : FVec Ideal S1024x256 .f32) (g : FVec Ideal S64x256 .f32) (off : Fin 2 → ℕ) (sl : S1024x256.Slices off S64x256) : FVec Ideal S64x256 .bf16 :=
  truncf .bf16 (mulf (mulf (extractStridedSlice S64x256 off v sl) (broadcastTo S64x256 (rsqrt (addf (mulf (shapeCast S1x256
    (multiReduction .add [0] S256 (mulf (extractStridedSlice S64x256 off v sl) (extractStridedSlice S64x256 off v sl)) 0x00000000#32 reduces_S64x256_S256 (.inl rfl) rfl)
    shapeCasts_S256_S1x256) (broadcast S1x256 (Scalar.ofBits .f32 0x3C800000#32))) (broadcast S1x256 (Scalar.ofBits .f32 0x358637BD#32)))) broadcasts_S1x256_S64x256))
    (shapeCast S64x256 g shapeCasts_S64x256_S64x256)) bitsLt_bf16_f32

/-- A head's norm at an index. -/
theorem headArr_at (v : FVec Ideal S1024x256 .f32) (g : FVec Ideal S64x256 .f32) (h : Fin 16) (sl : S1024x256.Slices ![h.val * 64, 0] S64x256) (d : Fin 64) (r : Fin 256) :
    headArr v g ![h.val * 64, 0] sl (ix2 d r) = headWord v g h d r := by
  pointwise [headArr]
  rfl

/-- The 128 columns of a head's norm from column `128 * o`, as a block of the queries. -/
def headHalf (v : FVec Ideal S1024x256 .f32) (g : FVec Ideal S64x256 .f32) (off : Fin 2 → ℕ) (sl : S1024x256.Slices off S64x256) (o : Fin 2 → ℕ) (so : S64x256.Slices o S64x128) :
    FVec Ideal S1x1x64x128 .bf16 :=
  shapeCast S1x1x64x128 (extractStridedSlice S64x128 o (headArr v g off sl) so) shapeCasts_S64x128_S1x1x64x128

/-- A block of the queries at an index. -/
theorem headHalf_at (v : FVec Ideal S1024x256 .f32) (g : FVec Ideal S64x256 .f32) (h : Fin 16) (o : Fin 2) (sl : S1024x256.Slices ![h.val * 64, 0] S64x256)
    (so : S64x256.Slices ![0, o.val * 128] S64x128) (d : Fin 64) (r : Fin 128) :
    headHalf v g ![h.val * 64, 0] sl ![0, o.val * 128] so (ix4 0 0 d r) = headWord v g h d ⟨o.val * 128 + r.val, by omega⟩ := by
  pointwise [headHalf]
  exact headArr_at v g h sl d _

end Cert.Kernel3Ideal.Qkv
-- ==== Proof.Qkv.Block.lean ====
/- The blocks a grid point of the projection writes, in closed form. -/
module

public import proofs.«01_k».proof.Proof.Qkv.Word
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Qkv

open Cert.Kernel3Ideal Cert.Kernel3Ideal.Gen

/-- The block of queries over the transposed projection and the norm's weight. -/
def queryBlock (v : FVec Ideal S1024x256 .f32) (g : FVec Ideal S64x256 .f32) (y : S1x2x1024x128.Idx) : EReal :=
  headWord v g ⟨(y 2).val / 64, by have : (y 2).val < 1024 := (y 2).isLt; omega⟩ ⟨(y 2).val % 64, by omega⟩
    ⟨(y 1).val * 128 + (y 3).val, by have : (y 1).val < 2 := (y 1).isLt; have : (y 3).val < 128 := (y 3).isLt; omega⟩

/-- A stored piece of the queries is the block's. -/
theorem query_piece (v : FVec Ideal S1024x256 .f32) (g : FVec Ideal S64x256 .f32) (h : Fin 16) (o : Fin 2) (inb : ∀ a, (![0, o.val, h.val * 64, 0] : Fin 4 → ℕ) a + S1x1x64x128.size a ≤ S1x2x1024x128.size a)
    (sl : S1024x256.Slices ![h.val * 64, 0] S64x256) (so : S64x256.Slices ![0, o.val * 128] S64x128) (x : S1x1x64x128.Idx) :
    headHalf v g ![h.val * 64, 0] sl ![0, o.val * 128] so x = queryBlock v g ((Rect.unit (s := S1x2x1024x128) ![0, o.val, h.val * 64, 0] S1x1x64x128.size inb).emb x) := by
  obtain ⟨a, b, d, r, rfl⟩ : ∃ (a b : Fin 1) (d : Fin 64) (r : Fin 128), x = ix4 a b d r := ⟨x 0, x 1, x 2, x 3, by blk_ext⟩
  obtain rfl : a = 0 := Subsingleton.elim _ _
  obtain rfl : b = 0 := Subsingleton.elim _ _
  have hy : (Rect.unit (s := S1x2x1024x128) ![0, o.val, h.val * 64, 0] S1x1x64x128.size inb).emb (ix4 0 0 d r) = ix4 0 o ⟨h.val * 64 + d.val, by omega⟩ r := by
    funext k
    apply Fin.ext
    refine (Rect.idx_unit_val (s := S1x2x1024x128) ![0, o.val, h.val * 64, 0] S1x1x64x128.size inb (ix4 0 0 d r) k).trans ?_
    fin_cases k
    · rfl
    · rfl
    · rfl
    · exact Nat.zero_add _
  rw [hy, headHalf_at]
  unfold queryBlock
  have h1 : (h.val * 64 + d.val) / 64 = h.val := by omega
  have h2 : (h.val * 64 + d.val) % 64 = d.val := by omega
  show headWord v g h d _ = headWord v g ⟨(h.val * 64 + d.val) / 64, _⟩ ⟨(h.val * 64 + d.val) % 64, _⟩ ⟨o.val * 128 + r.val, _⟩
  simp only [h1, h2, Fin.eta]

section
variable
  (x0 : Vec Ideal S1x256x1024 .f32)
  (x1 : Vec Ideal S1x1024 .f32)
  (x2 : Vec Ideal S1x1x1024 .f32)
  (x3 : Vec Ideal S1x1x1024 .f32)
  (x4 : Vec Ideal S1024x1536 .bf16)
  (x5 : Vec Ideal S64x256 .f32)
  (x6 : Vec Ideal S1x256 .f32)
  (x7 : Vec Ideal S256x128 .bf16)
  (x8 : Vec Ideal S128x256 .bf16)

/-- The whole block of the query norm's weight is loaded. -/
theorem ld5 : View.ld x5 r0_10 = x5 := View.ld_unit_lit _ x5 (by decide)

/-- The whole block of the key norm's weight is loaded. -/
theorem ld6 : View.ld x6 r0_6 = x6 := View.ld_unit_lit _ x6 (by decide)

/-- The projection of the staged rows. -/
theorem product_at (r : Fin 256) (n : Fin 1536) : k0_pay78 (F := Ideal) x0 x1 x2 x3 x4 x5 x6 x7 x8 (ix2 r n) = column x0 x1 x2 x3 x4 r n := by
  have e0 : View.ld x0 r0_2 = x0 := View.ld_unit_lit _ x0 (by decide)
  have e1 : View.ld x1 r0_0 = x1 := View.ld_unit_lit _ x1 (by decide)
  have e2 : View.ld x2 r0_1 = x2 := View.ld_unit_lit _ x2 (by decide)
  have e3 : View.ld x3 r0_1 = x3 := View.ld_unit_lit _ x3 (by decide)
  have e4 : View.ld x4 r0_3 = x4 := View.ld_unit_lit _ x4 (by decide)
  unfold k0_pay78
  rw [e0, e1, e2, e3, e4]
  exact column_at x0 x1 x2 x3 x4 r n

/-- The key columns of the projection. -/
theorem keyCols_at (r n : Fin 256) : k0_pay79 (F := Ideal) x0 x1 x2 x3 x4 x5 x6 x7 x8 (ix2 r n) = column x0 x1 x2 x3 x4 r ⟨1024 + n.val, by omega⟩ := by
  rw [← product_at x0 x1 x2 x3 x4 x5 x6 x7 x8]
  unfold k0_pay79 k0_pay78
  pointwise [k0_pay5]

/-- The value columns of the projection. -/
theorem valueCols_at (r n : Fin 256) : k0_pay80 (F := Ideal) x0 x1 x2 x3 x4 x5 x6 x7 x8 (ix2 r n) = column x0 x1 x2 x3 x4 r ⟨1280 + n.val, by omega⟩ := by
  rw [← product_at x0 x1 x2 x3 x4 x5 x6 x7 x8]
  unfold k0_pay80 k0_pay78
  pointwise [k0_pay6]

/-- The query columns of the projection, transposed. -/
theorem queryCols_at (n : Fin 1024) (r : Fin 256) : k0_pay84 (F := Ideal) x0 x1 x2 x3 x4 x5 x6 x7 x8 (ix2 n r) = column x0 x1 x2 x3 x4 r ⟨n.val, by omega⟩ := by
  rw [← product_at x0 x1 x2 x3 x4 x5 x6 x7 x8]
  unfold k0_pay84
  pointwise [k0_pay18]

/-- The block of queries a grid point writes. -/
theorem out9_eq (y : S1x2x1024x128.Idx) : out0_9 (F := Ideal) x0 x1 x2 x3 x4 x5 x6 x7 x8 y = queryBlock (k0_pay84 x0 x1 x2 x3 x4 x5 x6 x7 x8) x5 y := by
  have P := query_piece (k0_pay84 x0 x1 x2 x3 x4 x5 x6 x7 x8) (View.ld x5 r0_10)
  unfold out0_9
  rw [← congrArg (fun g => queryBlock (k0_pay84 x0 x1 x2 x3 x4 x5 x6 x7 x8) g y) (ld5 x5)]
  refine View.canon_apply_of_pieces (Val := Elt Ideal) (e := .bf16) (queryBlock (k0_pay84 x0 x1 x2 x3 x4 x5 x6 x7 x8) (View.ld x5 r0_10)) _ ?_ y (cover0_9 _ _ _ _ _ _ _ _ _ _ _ _ _ _ _ _ _ _ _ _ _ _ _ _ _ _ _ _ _ _ _ _ y)
  refine List.forall_mem_cons.mpr ⟨fun x => Eq.trans ?_ (P 15 1 (by decide) (by decide) (by decide) x), ?_⟩
  · rfl
  refine List.forall_mem_cons.mpr ⟨fun x => Eq.trans ?_ (P 15 0 (by decide) (by decide) (by decide) x), ?_⟩
  · rfl
  refine List.forall_mem_cons.mpr ⟨fun x => Eq.trans ?_ (P 14 1 (by decide) (by decide) (by decide) x), ?_⟩
  · rfl
  refine List.forall_mem_cons.mpr ⟨fun x => Eq.trans ?_ (P 14 0 (by decide) (by decide) (by decide) x), ?_⟩
  · rfl
  refine List.forall_mem_cons.mpr ⟨fun x => Eq.trans ?_ (P 13 1 (by decide) (by decide) (by decide) x), ?_⟩
  · rfl
  refine List.forall_mem_cons.mpr ⟨fun x => Eq.trans ?_ (P 13 0 (by decide) (by decide) (by decide) x), ?_⟩
  · rfl
  refine List.forall_mem_cons.mpr ⟨fun x => Eq.trans ?_ (P 12 1 (by decide) (by decide) (by decide) x), ?_⟩
  · rfl
  refine List.forall_mem_cons.mpr ⟨fun x => Eq.trans ?_ (P 12 0 (by decide) (by decide) (by decide) x), ?_⟩
  · rfl
  refine List.forall_mem_cons.mpr ⟨fun x => Eq.trans ?_ (P 11 1 (by decide) (by decide) (by decide) x), ?_⟩
  · rfl
  refine List.forall_mem_cons.mpr ⟨fun x => Eq.trans ?_ (P 11 0 (by decide) (by decide) (by decide) x), ?_⟩
  · rfl
  refine List.forall_mem_cons.mpr ⟨fun x => Eq.trans ?_ (P 10 1 (by decide) (by decide) (by decide) x), ?_⟩
  · rfl
  refine List.forall_mem_cons.mpr ⟨fun x => Eq.trans ?_ (P 10 0 (by decide) (by decide) (by decide) x), ?_⟩
  · rfl
  refine List.forall_mem_cons.mpr ⟨fun x => Eq.trans ?_ (P 9 1 (by decide) (by decide) (by decide) x), ?_⟩
  · rfl
  refine List.forall_mem_cons.mpr ⟨fun x => Eq.trans ?_ (P 9 0 (by decide) (by decide) (by decide) x), ?_⟩
  · rfl
  refine List.forall_mem_cons.mpr ⟨fun x => Eq.trans ?_ (P 8 1 (by decide) (by decide) (by decide) x), ?_⟩
  · rfl
  refine List.forall_mem_cons.mpr ⟨fun x => Eq.trans ?_ (P 8 0 (by decide) (by decide) (by decide) x), ?_⟩
  · rfl
  refine List.forall_mem_cons.mpr ⟨fun x => Eq.trans ?_ (P 7 1 (by decide) (by decide) (by decide) x), ?_⟩
  · rfl
  refine List.forall_mem_cons.mpr ⟨fun x => Eq.trans ?_ (P 7 0 (by decide) (by decide) (by decide) x), ?_⟩
  · rfl
  refine List.forall_mem_cons.mpr ⟨fun x => Eq.trans ?_ (P 6 1 (by decide) (by decide) (by decide) x), ?_⟩
  · rfl
  refine List.forall_mem_cons.mpr ⟨fun x => Eq.trans ?_ (P 6 0 (by decide) (by decide) (by decide) x), ?_⟩
  · rfl
  refine List.forall_mem_cons.mpr ⟨fun x => Eq.trans ?_ (P 5 1 (by decide) (by decide) (by decide) x), ?_⟩
  · rfl
  refine List.forall_mem_cons.mpr ⟨fun x => Eq.trans ?_ (P 5 0 (by decide) (by decide) (by decide) x), ?_⟩
  · rfl
  refine List.forall_mem_cons.mpr ⟨fun x => Eq.trans ?_ (P 4 1 (by decide) (by decide) (by decide) x), ?_⟩
  · rfl
  refine List.forall_mem_cons.mpr ⟨fun x => Eq.trans ?_ (P 4 0 (by decide) (by decide) (by decide) x), ?_⟩
  · rfl
  refine List.forall_mem_cons.mpr ⟨fun x => Eq.trans ?_ (P 3 1 (by decide) (by decide) (by decide) x), ?_⟩
  · rfl
  refine List.forall_mem_cons.mpr ⟨fun x => Eq.trans ?_ (P 3 0 (by decide) (by decide) (by decide) x), ?_⟩
  · rfl
  refine List.forall_mem_cons.mpr ⟨fun x => Eq.trans ?_ (P 2 1 (by decide) (by decide) (by decide) x), ?_⟩
  · rfl
  refine List.forall_mem_cons.mpr ⟨fun x => Eq.trans ?_ (P 2 0 (by decide) (by decide) (by decide) x), ?_⟩
  · rfl
  refine List.forall_mem_cons.mpr ⟨fun x => Eq.trans ?_ (P 1 1 (by decide) (by decide) (by decide) x), ?_⟩
  · rfl
  refine List.forall_mem_cons.mpr ⟨fun x => Eq.trans ?_ (P 1 0 (by decide) (by decide) (by decide) x), ?_⟩
  · rfl
  refine List.forall_mem_cons.mpr ⟨fun x => Eq.trans ?_ (P 0 1 (by decide) (by decide) (by decide) x), ?_⟩
  · rfl
  refine List.forall_mem_cons.mpr ⟨fun x => Eq.trans ?_ (P 0 0 (by decide) (by decide) (by decide) x), ?_⟩
  · rfl
  exact fun _ h => absurd h List.not_mem_nil

/-- The block of queries at an index. -/
theorem out9_at (i : Fin 2) (n : Fin 1024) (r : Fin 128) : out0_9 (F := Ideal) x0 x1 x2 x3 x4 x5 x6 x7 x8 (ix4 0 i n r) =
    column x0 x1 x2 x3 x4 ⟨i.val * 128 + r.val, by omega⟩ ⟨n.val / 64 * 64 + n.val % 64, by omega⟩ *
      Ideal.rsqrt ((∑ j : Fin 64, column x0 x1 x2 x3 x4 ⟨i.val * 128 + r.val, by omega⟩ ⟨n.val / 64 * 64 + j.val, by omega⟩ *
        column x0 x1 x2 x3 x4 ⟨i.val * 128 + r.val, by omega⟩ ⟨n.val / 64 * 64 + j.val, by omega⟩) * Ideal.ofBits .f32 0x3C800000#32 + Qkv.eps) *
      x5 (ix2 ⟨n.val % 64, by omega⟩ ⟨i.val * 128 + r.val, by omega⟩) := by
  rw [out9_eq]
  unfold queryBlock headWord
  simp only [queryCols_at]
  rfl

/-- The block of normed keys at an index, when the selectors are. -/
theorem keyBlock_at (he : ∀ c s, x7 (ix2 c s) = Qkv.sel c s) (het : ∀ s c, x8 (ix2 s c) = Qkv.sel c s) (g : Fin 64 → EReal) (hg : ∀ n : Fin 256, x6 (ix2 0 n) = g ⟨n.val % 64, by omega⟩)
    (r n : Fin 256) (hy : ∀ c : Fin 256, Qkv.IsReal (column x0 x1 x2 x3 x4 r ⟨1024 + c.val, by omega⟩)) :
    k0_pay10 (F := Ideal) (k0_pay79 x0 x1 x2 x3 x4 x5 x6 x7 x8) (k0_pay81 x0 x1 x2 x3 x4 x5 x6 x7 x8) (k0_pay82 x0 x1 x2 x3 x4 x5 x6 x7 x8) (k0_pay83 x0 x1 x2 x3 x4 x5 x6 x7 x8) (View.ld x6 r0_6) (ix2 r n) =
      Qkv.headNorm (fun j => column x0 x1 x2 x3 x4 r ⟨1024 + (n.val / 64 * 64 + j.val), by omega⟩) g ⟨n.val % 64, by omega⟩ := by
  have e7 : View.ld x7 r0_4 = x7 := View.ld_unit_lit _ x7 (by decide)
  have e8 : View.ld x8 r0_5 = x8 := View.ld_unit_lit _ x8 (by decide)
  have h7 : ∀ c s, k0_pay81 (F := Ideal) x0 x1 x2 x3 x4 x5 x6 x7 x8 (ix2 c s) = Qkv.sel c s := by
    intro c s
    unfold k0_pay81
    rw [e7]
    pointwise [k0_pay7]
    exact he c s
  have h8 : ∀ s c, k0_pay82 (F := Ideal) x0 x1 x2 x3 x4 x5 x6 x7 x8 (ix2 s c) = Qkv.sel c s := by
    intro s c
    unfold k0_pay82
    rw [e8]
    pointwise [k0_pay8]
    exact het s c
  have h := keys_at (k0_pay79 x0 x1 x2 x3 x4 x5 x6 x7 x8) (k0_pay81 x0 x1 x2 x3 x4 x5 x6 x7 x8) (k0_pay82 x0 x1 x2 x3 x4 x5 x6 x7 x8) x6 h7 h8 r n
  simp only [keyCols_at] at h
  rw [ld6]
  refine Eq.trans h ?_
  rw [hg]
  exact Qkv.selected_norm (fun c => column x0 x1 x2 x3 x4 r ⟨1024 + c.val, by omega⟩) hy g n

/-- The block of keys in the narrow type is the block of keys. -/
theorem out10_at (r n : Fin 256) : out0_10 (F := Ideal) x0 x1 x2 x3 x4 x5 x6 x7 x8 (ix3 0 r n) =
    k0_pay10 (F := Ideal) (k0_pay79 x0 x1 x2 x3 x4 x5 x6 x7 x8) (k0_pay81 x0 x1 x2 x3 x4 x5 x6 x7 x8) (k0_pay82 x0 x1 x2 x3 x4 x5 x6 x7 x8) (k0_pay83 x0 x1 x2 x3 x4 x5 x6 x7 x8) (View.ld x6 r0_6) (ix2 r n) := by
  unfold out0_10
  rw [View.canon_cons_unit_lit _ _ _ (by decide)]
  pointwise [k0_pay13]

/-- The block of keys. -/
theorem out12_at (r n : Fin 256) : out0_12 (F := Ideal) x0 x1 x2 x3 x4 x5 x6 x7 x8 (ix3 0 r n) =
    k0_pay10 (F := Ideal) (k0_pay79 x0 x1 x2 x3 x4 x5 x6 x7 x8) (k0_pay81 x0 x1 x2 x3 x4 x5 x6 x7 x8) (k0_pay82 x0 x1 x2 x3 x4 x5 x6 x7 x8) (k0_pay83 x0 x1 x2 x3 x4 x5 x6 x7 x8) (View.ld x6 r0_6) (ix2 r n) := by
  unfold out0_12
  rw [View.canon_cons_unit_lit _ _ _ (by decide)]
  pointwise [k0_pay11]

/-- The block of values. -/
theorem out13_at (r n : Fin 256) : out0_13 (F := Ideal) x0 x1 x2 x3 x4 x5 x6 x7 x8 (ix3 0 r n) = column x0 x1 x2 x3 x4 r ⟨1280 + n.val, by omega⟩ := by
  unfold out0_13
  rw [View.canon_cons_unit_lit _ _ _ (by decide)]
  pointwise [k0_pay12]
  exact valueCols_at x0 x1 x2 x3 x4 x5 x6 x7 x8 r n

/-- The block of values, transposed, over the value columns. -/
def valueBlock (v : FVec Ideal S256x256 .f32) (y : S1x2x256x128.Idx) : EReal :=
  v (ix2 ⟨(y 1).val * 128 + (y 3).val, by have : (y 1).val < 2 := (y 1).isLt; have : (y 3).val < 128 := (y 3).isLt; omega⟩ (y 2))

/-- The first 128 rows of the values, transposed. -/
theorem value_piece0 (v : FVec Ideal S256x256 .f32) (b : Fin 256) (r : Fin 128) : k0_pay16 (F := Ideal) (k0_pay15 v) (ix4 0 0 b r) = v (ix2 ⟨r.val, by omega⟩ b) := by
  pointwise [k0_pay16, k0_pay15, k0_pay14]

/-- The last 128 rows of the values, transposed. -/
theorem value_piece1 (v : FVec Ideal S256x256 .f32) (b : Fin 256) (r : Fin 128) : k0_pay17 (F := Ideal) (k0_pay14 v) (ix4 0 0 b r) = v (ix2 ⟨128 + r.val, by omega⟩ b) := by
  pointwise [k0_pay17, k0_pay14]

/-- Where an element of a stored piece of the values lies. -/
theorem value_emb (o : Fin 2) (inb : ∀ a, (![0, o.val, 0, 0] : Fin 4 → ℕ) a + S1x1x256x128.size a ≤ S1x2x256x128.size a) (n : Fin 256) (r : Fin 128) :
    (Rect.unit (s := S1x2x256x128) ![0, o.val, 0, 0] S1x1x256x128.size inb).emb (ix4 0 0 n r) = ix4 0 o n r := by
  funext k
  apply Fin.ext
  refine (Rect.idx_unit_val (s := S1x2x256x128) ![0, o.val, 0, 0] S1x1x256x128.size inb (ix4 0 0 n r) k).trans ?_
  fin_cases k
  · rfl
  · rfl
  · exact Nat.zero_add _
  · exact Nat.zero_add _

/-- The block of values in the narrow type, transposed by block of 128 rows. -/
theorem out11_eq (y : S1x2x256x128.Idx) : out0_11 (F := Ideal) x0 x1 x2 x3 x4 x5 x6 x7 x8 y = valueBlock (k0_pay80 x0 x1 x2 x3 x4 x5 x6 x7 x8) y := by
  unfold out0_11
  refine View.canon_apply_of_pieces (Val := Elt Ideal) (e := .bf16) (valueBlock (k0_pay80 x0 x1 x2 x3 x4 x5 x6 x7 x8)) _ ?_ y (cover0_11 _ _ y)
  refine List.forall_mem_cons.mpr ⟨fun x => ?_, List.forall_mem_cons.mpr ⟨fun x => ?_, fun _ h => absurd h List.not_mem_nil⟩⟩
  · obtain ⟨a, b, n, r, rfl⟩ : ∃ (a b : Fin 1) (n : Fin 256) (r : Fin 128), x = ix4 a b n r := ⟨x 0, x 1, x 2, x 3, by blk_ext⟩
    obtain rfl : a = 0 := Subsingleton.elim _ _
    obtain rfl : b = 0 := Subsingleton.elim _ _
    refine (value_piece1 _ n r).trans ?_
    exact (congrArg (valueBlock (k0_pay80 x0 x1 x2 x3 x4 x5 x6 x7 x8)) (value_emb 1 (by decide) n r)).symm
  · obtain ⟨a, b, n, r, rfl⟩ : ∃ (a b : Fin 1) (n : Fin 256) (r : Fin 128), x = ix4 a b n r := ⟨x 0, x 1, x 2, x 3, by blk_ext⟩
    obtain rfl : a = 0 := Subsingleton.elim _ _
    obtain rfl : b = 0 := Subsingleton.elim _ _
    refine (value_piece0 _ n r).trans ?_
    refine Eq.trans ?_ (congrArg (valueBlock (k0_pay80 x0 x1 x2 x3 x4 x5 x6 x7 x8)) (value_emb 0 (by decide) n r)).symm
    unfold valueBlock
    exact congrArg (fun i => k0_pay80 x0 x1 x2 x3 x4 x5 x6 x7 x8 (ix2 i n)) (Fin.ext (by show r.val = 0 * 128 + r.val; omega))

/-- The block of values in the narrow type at an index. -/
theorem out11_at (i : Fin 2) (n : Fin 256) (r : Fin 128) : out0_11 (F := Ideal) x0 x1 x2 x3 x4 x5 x6 x7 x8 (ix4 0 i n r) =
    column x0 x1 x2 x3 x4 ⟨i.val * 128 + r.val, by omega⟩ ⟨1280 + n.val, by omega⟩ := by
  rw [out11_eq]
  exact valueCols_at x0 x1 x2 x3 x4 x5 x6 x7 x8 _ n

end

end Cert.Kernel3Ideal.Qkv
-- ==== Proof.Qkv.Blocks.lean ====
/- The blocks a grid point of the projection stages, element by element over the arguments. -/
module

public import proofs.«01_k».proof.Proof.Gen.Kernel3Ideal.Value
public import proofs.«01_k».proof.Proof.Qkv.Pure
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Qkv

open Cert.Kernel3Ideal Cert.Kernel3Ideal.Gen

/-- The block each window stages at a grid point: the sequence is `t`. -/
theorem idx : ∀ t : Fin cfg0.N, t.val < 32 ∧ win0_0.index t = ![t.val, 0, 0] ∧ win0_1.index t = ![0, 0] ∧ win0_2.index t = ![0, 0, 0] ∧ win0_3.index t = ![0, 0, 0] ∧
    win0_4.index t = ![0, 0] ∧ win0_5.index t = ![0, 0] ∧ win0_6.index t = ![0, 0] ∧ win0_7.index t = ![0, 0] ∧ win0_8.index t = ![0, 0] ∧
    win0_9.index t = ![t.val, 0, 0, 0] ∧ win0_10.index t = ![t.val, 0, 0] ∧ win0_11.index t = ![t.val, 0, 0, 0] ∧ win0_12.index t = ![t.val, 0, 0] ∧ win0_13.index t = ![t.val, 0, 0] :=
  (by decide +kernel : ∀ t : Fin grid0.N, _)

/-- A grid point's sequence. -/
def batch (t : Fin cfg0.N) : Fin 32 := ⟨t.val, (idx t).1⟩

variable (m : (ℓ : Loc nD τ sig) → Buf (Elt Ideal) ℓ)

/-- The weights, in the narrow type. -/
theorem weights_at (c : Dev nD) (k : Fin 1024) (n : Fin 1536) : (V m c main_v0 : FVec Ideal S1024x1536 .bf16) (ix2 k n) = (m ((c : Thread nD τ).loc main_arg4) : FVec Ideal S1024x1536 .f32) (ix2 k n) := by
  simp only [V, hostOps0, hostOps0_1, hostOps0_2, List.flatten_cons, List.flatten_nil, List.append_nil, List.cons_append, List.nil_append]
  entry_read
  pointwise

/-- The norm's weight as a row. -/
theorem weight_at (c : Dev nD) (k : Fin 1024) : (V m c main_v17 : FVec Ideal S1x1024 .f32) (ix2 0 k) = (m ((c : Thread nD τ).loc main_arg1) : FVec Ideal S1024 .f32) (ix1 k) := by
  simp only [V, hostOps0, hostOps0_1, hostOps0_2, List.flatten_cons, List.flatten_nil, List.append_nil, List.cons_append, List.nil_append]
  entry_read
  pointwise

/-- The query norm's weight, one copy a row. -/
theorem qNorm_at (c : Dev nD) (d : Fin 64) (r : Fin 256) : (V m c main_v12 : FVec Ideal S64x256 .f32) (ix2 d r) = (m ((c : Thread nD τ).loc main_arg5) : FVec Ideal S64 .f32) (ix1 d) := by
  simp only [V, hostOps0, hostOps0_1, hostOps0_2, List.flatten_cons, List.flatten_nil, List.append_nil, List.cons_append, List.nil_append]
  entry_read
  pointwise

/-- The key norm's weight, one copy a head. -/
theorem kNorm_at (c : Dev nD) (n : Fin 256) : (V m c main_v16 : FVec Ideal S1x256 .f32) (ix2 0 n) = (m ((c : Thread nD τ).loc main_arg6) : FVec Ideal S64 .f32) (ix1 ⟨n.val % 64, by omega⟩) := by
  simp only [V, hostOps0, hostOps0_1, hostOps0_2, List.flatten_cons, List.flatten_nil, List.append_nil, List.cons_append, List.nil_append]
  entry_read
  pointwise

/-- The selector of the 16 heads as the host computes it. -/
def selArr : FVec Ideal S1024x128 .f32 :=
  select (cmpi .eq (Host.divsi (iotaInDim S1024x128 32 0) (broadcastInDim S1024x128 ![] bcast_S_S1024x128 (constantI S_ 32 64#32))) (iotaInDim S1024x128 32 1))
    (broadcastInDim S1024x128 ![] bcast_S_S1024x128 (constant (F := Ideal) S_ .f32 0x3F800000#32)) (broadcastInDim S1024x128 ![] bcast_S_S1024x128 (constant (F := Ideal) S_ .f32 0#32))

/-- The selector of the first four heads at an index. -/
theorem selArr_at (n : Fin 256) (s : Fin 128) : selArr (ix2 ⟨n.val, by omega⟩ s) = Qkv.sel n s := by
  pointwise [selArr]
  have e : ∀ n : Fin 256, IntOp.divsi ArithUnit.host (BitVec.ofNat 32 n.val) 64#32 = BitVec.ofNat 32 (n.val / 64) := by decide +kernel
  have f : ∀ (a : Fin 4) (b : Fin 128), IntOp.cmpi CmpIPredicate.eq (BitVec.ofNat 32 a.val) (BitVec.ofNat 32 b.val) = if a.val = b.val then 1#1 else 0#1 := by decide +kernel
  rw [e, f ⟨n.val / 64, by omega⟩ s]
  unfold Qkv.sel
  by_cases h : n.val / 64 = s.val
  · rw [if_pos h, if_pos h]
    rfl
  · rw [if_neg h, if_neg h]
    rfl

/-- The selector, one column a head. -/
theorem sel_at (c : Dev nD) (n : Fin 256) (s : Fin 128) : (V m c main_v18 : FVec Ideal S256x128 .bf16) (ix2 n s) = Qkv.sel n s := by
  simp only [V, hostOps0, hostOps0_1, hostOps0_2, List.flatten_cons, List.flatten_nil, List.append_nil, List.cons_append, List.nil_append]
  entry_read
  pointwise
  exact selArr_at n s

/-- The selector, one row a head. -/
theorem selT_at (c : Dev nD) (s : Fin 128) (n : Fin 256) : (V m c main_v19 : FVec Ideal S128x256 .bf16) (ix2 s n) = Qkv.sel n s := by
  simp only [V, hostOps0, hostOps0_1, hostOps0_2, List.flatten_cons, List.flatten_nil, List.append_nil, List.cons_append, List.nil_append]
  entry_read
  pointwise
  exact selArr_at n s

/-- The block's own rows. -/
theorem block0 (c : Dev nD) (t : Fin cfg0.N) (r : Fin 256) (k : Fin 1024) : (iblk m c 0 t : FVec Ideal S1x256x1024 .f32) (ix3 0 r k) = (V m c main_arg0 : FVec Ideal S32x256x1024 .f32) (ix3 (batch t) r k) := by
  obtain ⟨ht, i0, i1, i2, i3, i4, i5, i6, i7, i8, i9⟩ := idx t
  blk_simp [iblk, i0]
  blk_ext [i0, batch]

/-- The norm's weight. -/
theorem block1 (c : Dev nD) (t : Fin cfg0.N) (k : Fin 1024) : (iblk m c 1 t : FVec Ideal S1x1024 .f32) (ix2 0 k) = (V m c main_v17 : FVec Ideal S1x1024 .f32) (ix2 0 k) := by
  obtain ⟨ht, i0, i1, i2, i3, i4, i5, i6, i7, i8, i9⟩ := idx t
  blk_simp [iblk, i1]
  blk_ext [i1, batch]

/-- The shift. -/
theorem block2 (c : Dev nD) (t : Fin cfg0.N) (k : Fin 1024) : (iblk m c 2 t : FVec Ideal S1x1x1024 .f32) (ix3 0 0 k) = (V m c main_arg2 : FVec Ideal S1x1x1024 .f32) (ix3 0 0 k) := by
  obtain ⟨ht, i0, i1, i2, i3, i4, i5, i6, i7, i8, i9⟩ := idx t
  blk_simp [iblk, i2]
  blk_ext [i2, batch]

/-- The scale. -/
theorem block3 (c : Dev nD) (t : Fin cfg0.N) (k : Fin 1024) : (iblk m c 3 t : FVec Ideal S1x1x1024 .f32) (ix3 0 0 k) = (V m c main_arg3 : FVec Ideal S1x1x1024 .f32) (ix3 0 0 k) := by
  obtain ⟨ht, i0, i1, i2, i3, i4, i5, i6, i7, i8, i9⟩ := idx t
  blk_simp [iblk, i3]
  blk_ext [i3, batch]

/-- The weights. -/
theorem block4 (c : Dev nD) (t : Fin cfg0.N) (k : Fin 1024) (n : Fin 1536) : (iblk m c 4 t : FVec Ideal S1024x1536 .bf16) (ix2 k n) = (V m c main_v0 : FVec Ideal S1024x1536 .bf16) (ix2 k n) := by
  obtain ⟨ht, i0, i1, i2, i3, i4, i5, i6, i7, i8, i9⟩ := idx t
  blk_simp [iblk, i4]
  blk_ext [i4, batch]

/-- The query norm's weight. -/
theorem block5 (c : Dev nD) (t : Fin cfg0.N) (d : Fin 64) (r : Fin 256) : (iblk m c 5 t : FVec Ideal S64x256 .f32) (ix2 d r) = (V m c main_v12 : FVec Ideal S64x256 .f32) (ix2 d r) := by
  obtain ⟨ht, i0, i1, i2, i3, i4, i5, i6, i7, i8, i9⟩ := idx t
  blk_simp [iblk, i5]
  blk_ext [i5, batch]

/-- The key norm's weight. -/
theorem block6 (c : Dev nD) (t : Fin cfg0.N) (n : Fin 256) : (iblk m c 6 t : FVec Ideal S1x256 .f32) (ix2 0 n) = (V m c main_v16 : FVec Ideal S1x256 .f32) (ix2 0 n) := by
  obtain ⟨ht, i0, i1, i2, i3, i4, i5, i6, i7, i8, i9⟩ := idx t
  blk_simp [iblk, i6]
  blk_ext [i6, batch]

/-- The selector, one column a head. -/
theorem block7 (c : Dev nD) (t : Fin cfg0.N) (n : Fin 256) (s : Fin 128) : (iblk m c 7 t : FVec Ideal S256x128 .bf16) (ix2 n s) = (V m c main_v18 : FVec Ideal S256x128 .bf16) (ix2 n s) := by
  obtain ⟨ht, i0, i1, i2, i3, i4, i5, i6, i7, i8, i9⟩ := idx t
  blk_simp [iblk, i7]
  blk_ext [i7, batch]

/-- The selector, one row a head. -/
theorem block8 (c : Dev nD) (t : Fin cfg0.N) (s : Fin 128) (n : Fin 256) : (iblk m c 8 t : FVec Ideal S128x256 .bf16) (ix2 s n) = (V m c main_v19 : FVec Ideal S128x256 .bf16) (ix2 s n) := by
  obtain ⟨ht, i0, i1, i2, i3, i4, i5, i6, i7, i8, i9⟩ := idx t
  blk_simp [iblk, i8]
  blk_ext [i8, batch]

end Cert.Kernel3Ideal.Qkv
-- ==== Proof.Qkv.RefAt.lean ====
/- What the projection's reference computes at an index. -/
module

public import proofs.«01_k».proof.Proof.Gen.Reference3Ideal.Read
public import proofs.«01_k».proof.Proof.Qkv.Pure

@[expose] public section

set_option maxRecDepth 16384

noncomputable section

open Idealize.ShloMosaic Idealize.ShloMosaic.TcCoe Idealize.SL.Sem

namespace Cert.Reference3Ideal.Qkv

open Cert.Reference3Ideal Cert.Reference3Ideal.Gen Cert.Reference3Ideal.Read

variable (x0 : FVec Ideal S32x256x1024 .f32) (x1 : FVec Ideal S1024 .f32) (x2 x3 : FVec Ideal S1x1x1024 .f32)
  (x4 : FVec Ideal S1024x1536 .f32) (x5 x6 : FVec Ideal S64 .f32)

/-- The modulated norm of row `t` of sequence `b`. -/
def hid (b : Fin 32) (t : Fin 256) : Fin 1024 → EReal :=
  Ffn.normRow (fun j => x0 (ix3 b t j)) (fun j => x1 (ix1 j)) (fun j => x3 (ix3 0 0 j)) (fun j => x2 (ix3 0 0 j))

/-- The modulated norm at an index. -/
theorem hid_at (b : Fin 32) (t : Fin 256) (k : Fin 1024) :
    val_main_v18 (F := Ideal) x0 x1 x2 x3 (ix3 b t k) = hid x0 x1 x2 x3 b t k := by
  pointwise [val_main_v18, val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0, val_main_cst_1, val_main_cst_2]
  rw [mul_assoc _ (x1 (ix1 k))]
  rfl

/-- One column of the projection at a row. -/
def column (b : Fin 32) (t : Fin 256) (n : Fin 1536) : EReal := Ffn.proj (hid x0 x1 x2 x3 b t) (fun k => x4 (ix2 k n))

/-- The projection at an index. -/
theorem column_at (b : Fin 32) (t : Fin 256) (n : Fin 1536) :
    val_main_v19 (F := Ideal) x0 x1 x2 x3 x4 (ix3 b t n) = column x0 x1 x2 x3 x4 b t n := by
  pointwise [val_main_v19]
  simp only [hid_at]
  rfl

/-- The queries at an index. -/
theorem query_at (b : Fin 32) (t : Fin 256) (n : Fin 1024) :
    val_main_v37 (F := Ideal) x0 x1 x2 x3 x4 x5 (ix3 b t n) =
      Qkv.headNorm (fun j => column x0 x1 x2 x3 x4 b t ⟨n.val / 64 * 64 + j.val, by omega⟩) (fun j => x5 (ix1 j)) ⟨n.val % 64, by omega⟩ := by
  pointwise [val_main_v37, val_main_v36, val_main_v35, val_main_v34, val_main_v33, val_main_v32, val_main_v31, val_main_v30, val_main_v29, val_main_v28, val_main_v27, val_main_v26, val_main_v25, val_main_v24, val_main_v23, val_main_v20, val_main_cst_3, val_main_cst_4, val_main_cst_5]
  simp only [column_at]
  have hn : (⟨n.val / 64 * 64 + n.val % 64, by omega⟩ : Fin 1536) = ⟨n.val, by omega⟩ := Fin.ext (Nat.div_add_mod' _ _)
  exact Qkv.headNorm_eq (fun j => column x0 x1 x2 x3 x4 b t ⟨n.val / 64 * 64 + j.val, by omega⟩) (fun j => x5 (ix1 j)) ⟨n.val % 64, by omega⟩ _ (congrArg (column x0 x1 x2 x3 x4 b t) hn.symm)

/-- The keys at an index. -/
theorem key_at (b : Fin 32) (t : Fin 256) (n : Fin 256) :
    val_main_v52 (F := Ideal) x0 x1 x2 x3 x4 x6 (ix3 b t n) =
      Qkv.headNorm (fun j => column x0 x1 x2 x3 x4 b t ⟨1024 + (n.val / 64 * 64 + j.val), by omega⟩) (fun j => x6 (ix1 j)) ⟨n.val % 64, by omega⟩ := by
  pointwise [val_main_v52, val_main_v51, val_main_v50, val_main_v49, val_main_v48, val_main_v47, val_main_v46, val_main_v45, val_main_v44, val_main_v43, val_main_v42, val_main_v41, val_main_v40, val_main_v39, val_main_v38, val_main_v21, val_main_cst_6, val_main_cst_7, val_main_cst_8]
  simp only [column_at]
  have hn : (⟨1024 + (n.val / 64 * 64 + n.val % 64), by omega⟩ : Fin 1536) = ⟨1024 + n.val, by omega⟩ := Fin.ext (congrArg (1024 + ·) (Nat.div_add_mod' _ _))
  exact Qkv.headNorm_eq (fun j => column x0 x1 x2 x3 x4 b t ⟨1024 + (n.val / 64 * 64 + j.val), by omega⟩) (fun j => x6 (ix1 j)) ⟨n.val % 64, by omega⟩ _ (congrArg (column x0 x1 x2 x3 x4 b t) hn.symm)

/-- The values at an index. -/
theorem value_at (b : Fin 32) (t : Fin 256) (n : Fin 256) :
    val_main_v22 (F := Ideal) x0 x1 x2 x3 x4 (ix3 b t n) = column x0 x1 x2 x3 x4 b t ⟨1280 + n.val, by omega⟩ := by
  pointwise [val_main_v22]
  simp only [column_at]

/-- The queries by block of 128 rows, transposed, at an index. -/
theorem queryBlock_at (b : Fin 32) (i : Fin 2) (n : Fin 1024) (r : Fin 128) :
    val_main_v55 (F := Ideal) x0 x1 x2 x3 x4 x5 (ix4 b i n r) =
      Qkv.headNorm (fun j => column x0 x1 x2 x3 x4 b ⟨i.val * 128 + r.val, by omega⟩ ⟨n.val / 64 * 64 + j.val, by omega⟩) (fun j => x5 (ix1 j)) ⟨n.val % 64, by omega⟩ := by
  pointwise [val_main_v55, val_main_v54, val_main_v53]
  exact query_at x0 x1 x2 x3 x4 x5 b _ n

/-- The keys in the narrow type at an index. -/
theorem keyNarrow_at (b : Fin 32) (t : Fin 256) (n : Fin 256) :
    val_main_v56 (F := Ideal) x0 x1 x2 x3 x4 x6 (ix3 b t n) = val_main_v52 (F := Ideal) x0 x1 x2 x3 x4 x6 (ix3 b t n) := by
  pointwise [val_main_v56]

/-- The values by block of 128 rows, transposed, at an index. -/
theorem valueBlock_at (b : Fin 32) (i : Fin 2) (n : Fin 256) (r : Fin 128) :
    val_main_v59 (F := Ideal) x0 x1 x2 x3 x4 (ix4 b i n r) = column x0 x1 x2 x3 x4 b ⟨i.val * 128 + r.val, by omega⟩ ⟨1280 + n.val, by omega⟩ := by
  pointwise [val_main_v59, val_main_v58, val_main_v57]
  rw [← value_at]

end Cert.Reference3Ideal.Qkv
-- ==== Proof.Qkv.Pre.lean ====
/- The projection's precondition: every element of the five arrays is a real number. -/
module

public import proofs.«01_k».proof.Defs
public import proofs.«01_k».proof.Proof.Qkv.Pure
public import Idealize.ShloMosaic.Lib.ReduceAll
public import Idealize.ShloMosaic.Lib.Pointwise

@[expose] public section

set_option maxRecDepth 16384

noncomputable section

open Idealize.ShloMosaic Idealize.ShloMosaic.TcCoe Idealize.SL.Sem

namespace Qkv

/-- The predicate's shape relations. -/
theorem preFacts : Cert.Pre_finite3.Facts where
  bcast_S_S32x256x1024 := by decide
  reducesTo_S32x256x1024_S_d0_1_2 := by decide
  h_S_ := by decide
  bcast_S_S1024 := by decide
  reducesTo_S1024_S_d0 := by decide
  bcast_S_S1x1x1024 := by decide
  reducesTo_S1x1x1024_S_d0_1_2 := by decide
  bcast_S_S1024x1536 := by decide
  reducesTo_S1024x1536_S_d0_1 := by decide

/-- The bits the predicate compares with are the infinity. -/
theorem ofBits_inf : Ideal.ofBits .f32 0x7F800000#32 = ⊤ := by
  simp [Ideal.ofBits, Ideal.ieee]

/-- A value whose absolute value is below the infinity is real. -/
theorem isReal_of_abs (x : EReal) (h : Ideal.cmp .olt (max x (-x)) (Ideal.ofBits .f32 0x7F800000#32) = 1#1) : IsReal x := by
  rw [ofBits_inf] at h
  induction x with
  | bot => simp [Ideal.cmp] at h
  | top => simp [Ideal.cmp] at h
  | coe r => exact ⟨r, rfl⟩

/-- When all of an array's absolute values are below the infinity, its elements are real. -/
theorem isReal_of_all {s : Shape} {axes : List (Fin s.rank)} (x : FVec Ideal s .f32) (hb : Cert.Pre_finite3.S_.BroadcastsInDim s (![] : Fin 0 → Fin s.rank))
    (hr : s.ReducesTo axes Cert.Pre_finite3.S_) (hu : 0 < Cert.Pre_finite3.S_.numel) (j : Cert.Pre_finite3.S_.Idx)
    (e : Host.reduce IntOp.andi (cmpf .olt (Host.absf x) (broadcastInDim s ![] hb (constant (F := Ideal) Cert.Pre_finite3.S_ .f32 0x7F800000#32)))
      (constantI Cert.Pre_finite3.S_ 1 1#1) hr hu j = 1#1) (i : s.Idx) : IsReal (x i) := by
  haveI : Subsingleton Cert.Pre_finite3.S_.Idx := ⟨fun a b => funext fun k => k.elim0⟩
  exact isReal_of_abs (x i) (Host.reduce_andi_all _ _ hr hu j e i)

/-- What the precondition says of the five arrays. -/
structure Real3 (x0 : FVec Ideal Cert.Pre_finite3.S32x256x1024 .f32) (x1 : FVec Ideal Cert.Pre_finite3.S1024 .f32) (x2 x3 : FVec Ideal Cert.Pre_finite3.S1x1x1024 .f32)
    (x4 : FVec Ideal Cert.Pre_finite3.S1024x1536 .f32) : Prop where
  r0 : ∀ i, IsReal (x0 i)
  r1 : ∀ i, IsReal (x1 i)
  r2 : ∀ i, IsReal (x2 i)
  r3 : ∀ i, IsReal (x3 i)
  r4 : ∀ i, IsReal (x4 i)

/-- The predicate gives real arrays. -/
theorem real3_of_fn [Cert.Pre_finite3.Facts] (x0 : FVec Ideal Cert.Pre_finite3.S32x256x1024 .f32) (x1 : FVec Ideal Cert.Pre_finite3.S1024 .f32) (x2 x3 : FVec Ideal Cert.Pre_finite3.S1x1x1024 .f32)
    (x4 : FVec Ideal Cert.Pre_finite3.S1024x1536 .f32) (x5 x6 : FVec Ideal Cert.Pre_finite3.S64 .f32) (h : Cert.Pre_finite3.fn (F := Ideal) x0 x1 x2 x3 x4 x5 x6 = fun _ => 1#1) :
    Real3 x0 x1 x2 x3 x4 := by
  have e := congrFun h (fun k : Fin 0 => k.elim0)
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨isReal_of_all (axes := [0, 1, 2]) x0 _ _ _ _ h0, isReal_of_all (axes := [0]) x1 _ _ _ _ h1, isReal_of_all (axes := [0, 1, 2]) x2 _ _ _ _ h2, isReal_of_all (axes := [0, 1, 2]) x3 _ _ _ _ h3, isReal_of_all (axes := [0, 1]) x4 _ _ _ _ h4⟩

end Qkv
-- ==== Proof.Qkv.Final.lean ====
/- The projection: the arrays the kernel writes are the reference's. -/
module

public import proofs.«01_k».proof.Proof.Qkv.Block
public import proofs.«01_k».proof.Proof.Qkv.Blocks
public import proofs.«01_k».proof.Proof.Qkv.RefAt
public import proofs.«01_k».proof.Proof.Qkv.Pre

@[expose] public section

set_option maxRecDepth 16384

noncomputable section

open Idealize.ShloMosaic Idealize.ShloMosaic.TcCoe Idealize.SL.Sem
open Idealize.ShloMosaic.Pipeline (Dat)

namespace Cert.Kernel3Ideal.Qkv

open Cert.Kernel3Ideal Cert.Kernel3Ideal.Gen

variable (m : (ℓ : Loc nD τ sig) → Buf (Elt Ideal) ℓ)

/-- One column of the reference's projection at a row of a sequence, of the arrays in memory. -/
abbrev refColumn (c : Dev nD) (b : Fin 32) (r : Fin 256) (n : Fin 1536) : EReal :=
  Cert.Reference3Ideal.Qkv.column (m ((c : Thread nD τ).loc main_arg0)) (m ((c : Thread nD τ).loc main_arg1)) (m ((c : Thread nD τ).loc main_arg2)) (m ((c : Thread nD τ).loc main_arg3)) (m ((c : Thread nD τ).loc main_arg4)) b r n

/-- A staged column is the reference's. -/
theorem column_ref (c : Dev nD) (t : Fin cfg0.N) (r : Fin 256) (n : Fin 1536) : column (iblk m c 0 t) (iblk m c 1 t) (iblk m c 2 t) (iblk m c 3 t) (iblk m c 4 t) r n = refColumn m c (batch t) r n := by
  have e0 := fun j => (block0 m c t r j).trans (congrFun (V_main_arg0 m c) _)
  have e1 := fun j => (block1 m c t j).trans (weight_at m c j)
  have e2 := fun j => (block2 m c t j).trans (congrFun (V_main_arg2 m c) _)
  have e3 := fun j => (block3 m c t j).trans (congrFun (V_main_arg3 m c) _)
  have e4 := fun k => (block4 m c t k n).trans (weights_at m c k n)
  unfold column
  simp only [e0, e1, e2, e3, e4]
  rfl

/-- What the precondition says of the arrays in memory. -/
abbrev RealArgs (c : Dev nD) : Prop := Qkv.Real3 (m ((c : Thread nD τ).loc main_arg0)) (m ((c : Thread nD τ).loc main_arg1)) (m ((c : Thread nD τ).loc main_arg2)) (m ((c : Thread nD τ).loc main_arg3)) (m ((c : Thread nD τ).loc main_arg4))

/-- The reference's projection of real arrays is real. -/
theorem refColumn_real (c : Dev nD) (h : RealArgs m c) (b : Fin 32) (r : Fin 256) (n : Fin 1536) : Qkv.IsReal (refColumn m c b r n) :=
  Qkv.isReal_proj (fun k => Qkv.isReal_normRow (fun j => h.r0 _) (fun j => h.r1 _) (fun j => h.r3 _) (fun j => h.r2 _) k) (fun k => h.r4 _)

/-- A block's queries are the reference's. -/
theorem query_eq (c : Dev nD) (t : Fin cfg0.N) (i : Fin 2) (n : Fin 1024) (r : Fin 128) :
    out0_9 (F := Ideal) (iblk m c 0 t) (iblk m c 1 t) (iblk m c 2 t) (iblk m c 3 t) (iblk m c 4 t) (iblk m c 5 t) (iblk m c 6 t) (iblk m c 7 t) (iblk m c 8 t) (ix4 0 i n r) = Cert.Reference3Ideal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix4 (batch t) i n r) := by
  rw [out9_at, Cert.Reference3Ideal.Qkv.queryBlock_at, ← Qkv.div_64]
  have e5 := (block5 m c t ⟨n.val % 64, by omega⟩ ⟨i.val * 128 + r.val, by omega⟩).trans (qNorm_at m c _ _)
  rw [e5]
  simp only [column_ref]
  rfl

/-- A block's normed keys are the reference's, of real arrays. -/
theorem key_eq (c : Dev nD) (h : RealArgs m c) (t : Fin cfg0.N) (r n : Fin 256) :
    k0_pay10 (F := Ideal) (k0_pay79 (iblk m c 0 t) (iblk m c 1 t) (iblk m c 2 t) (iblk m c 3 t) (iblk m c 4 t) (iblk m c 5 t) (iblk m c 6 t) (iblk m c 7 t) (iblk m c 8 t)) (k0_pay81 (iblk m c 0 t) (iblk m c 1 t) (iblk m c 2 t) (iblk m c 3 t) (iblk m c 4 t) (iblk m c 5 t) (iblk m c 6 t) (iblk m c 7 t) (iblk m c 8 t)) (k0_pay82 (iblk m c 0 t) (iblk m c 1 t) (iblk m c 2 t) (iblk m c 3 t) (iblk m c 4 t) (iblk m c 5 t) (iblk m c 6 t) (iblk m c 7 t) (iblk m c 8 t)) (k0_pay83 (iblk m c 0 t) (iblk m c 1 t) (iblk m c 2 t) (iblk m c 3 t) (iblk m c 4 t) (iblk m c 5 t) (iblk m c 6 t) (iblk m c 7 t) (iblk m c 8 t)) (View.ld (iblk m c 6 t) r0_6) (ix2 r n) =
      Cert.Reference3Ideal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (ix3 (batch t) r n) := by
  rw [Cert.Reference3Ideal.Qkv.key_at]
  refine (keyBlock_at (iblk m c 0 t) (iblk m c 1 t) (iblk m c 2 t) (iblk m c 3 t) (iblk m c 4 t) (iblk m c 5 t) (iblk m c 6 t) (iblk m c 7 t) (iblk m c 8 t) (fun n s => (block7 m c t n s).trans (sel_at m c n s)) (fun s n => (block8 m c t s n).trans (selT_at m c s n))
    (fun j => (m ((c : Thread nD τ).loc main_arg6) : FVec Ideal S64 .f32) (ix1 j)) (fun n => (block6 m c t n).trans (kNorm_at m c n)) r n
    (fun k => by rw [column_ref]; exact refColumn_real m c h _ _ _)).trans ?_
  simp only [column_ref]

/-- A block's values are the reference's. -/
theorem value_eq (c : Dev nD) (t : Fin cfg0.N) (r n : Fin 256) :
    out0_13 (F := Ideal) (iblk m c 0 t) (iblk m c 1 t) (iblk m c 2 t) (iblk m c 3 t) (iblk m c 4 t) (iblk m c 5 t) (iblk m c 6 t) (iblk m c 7 t) (iblk m c 8 t) (ix3 0 r n) = Cert.Reference3Ideal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (batch t) r n) := by
  rw [out13_at, Cert.Reference3Ideal.Qkv.value_at, column_ref]

/-- A block's transposed values are the reference's. -/
theorem valueT_eq (c : Dev nD) (t : Fin cfg0.N) (i : Fin 2) (n : Fin 256) (r : Fin 128) :
    out0_11 (F := Ideal) (iblk m c 0 t) (iblk m c 1 t) (iblk m c 2 t) (iblk m c 3 t) (iblk m c 4 t) (iblk m c 5 t) (iblk m c 6 t) (iblk m c 7 t) (iblk m c 8 t) (ix4 0 i n r) = Cert.Reference3Ideal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix4 (batch t) i n r) := by
  rw [out11_at, Cert.Reference3Ideal.Qkv.valueBlock_at, column_ref]

/-- Where a block's element lies in the queries. -/
theorem place9 (t : Fin cfg0.N) (i : Fin 2) (n : Fin 1024) (r : Fin 128) : (win0_9.blk t).view.emb (ix4 (0 : Fin 1) i n r) = ix4 (batch t) i n r := by
  obtain ⟨ht, i0, i1, i2, i3, i4, i5, i6, i7, i8, i9, i10, i11, i12, i13⟩ := idx t
  blk_ext [i9, batch]

/-- Where a block's element lies in the narrow keys. -/
theorem place10 (t : Fin cfg0.N) (r n : Fin 256) : (win0_10.blk t).view.emb (ix3 (0 : Fin 1) r n) = ix3 (batch t) r n := by
  obtain ⟨ht, i0, i1, i2, i3, i4, i5, i6, i7, i8, i9, i10, i11, i12, i13⟩ := idx t
  blk_ext [i10, batch]

/-- Where a block's element lies in the transposed values. -/
theorem place11 (t : Fin cfg0.N) (i : Fin 2) (n : Fin 256) (r : Fin 128) : (win0_11.blk t).view.emb (ix4 (0 : Fin 1) i n r) = ix4 (batch t) i n r := by
  obtain ⟨ht, i0, i1, i2, i3, i4, i5, i6, i7, i8, i9, i10, i11, i12, i13⟩ := idx t
  blk_ext [i11, batch]

/-- Where a block's element lies in the keys. -/
theorem place12 (t : Fin cfg0.N) (r n : Fin 256) : (win0_12.blk t).view.emb (ix3 (0 : Fin 1) r n) = ix3 (batch t) r n := by
  obtain ⟨ht, i0, i1, i2, i3, i4, i5, i6, i7, i8, i9, i10, i11, i12, i13⟩ := idx t
  blk_ext [i12, batch]

/-- Where a block's element lies in the values. -/
theorem place13 (t : Fin cfg0.N) (r n : Fin 256) : (win0_13.blk t).view.emb (ix3 (0 : Fin 1) r n) = ix3 (batch t) r n := by
  obtain ⟨ht, i0, i1, i2, i3, i4, i5, i6, i7, i8, i9, i10, i11, i12, i13⟩ := idx t
  blk_ext [i13, batch]

/-- A block's element is the reference's at its place in the queries. -/
theorem point9 (c : Dev nD) (t : Fin cfg0.N) (y : S1x2x1024x128.Idx) :
    out0_9 (F := Ideal) (iblk m c 0 t) (iblk m c 1 t) (iblk m c 2 t) (iblk m c 3 t) (iblk m c 4 t) (iblk m c 5 t) (iblk m c 6 t) (iblk m c 7 t) (iblk m c 8 t) y = Cert.Reference3Ideal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((win0_9.blk t).view.emb y) := by
  idx_vars y
  obtain rfl : y0 = 0 := Subsingleton.elim _ _
  exact (query_eq m c t y1 y2 y3).trans (congrArg _ (place9 t y1 y2 y3).symm)

/-- The queries the kernel writes are the reference's. -/
theorem final9 (c : Dev nD) : (dats m 0 c).arrAt 9 (cfgs 0).N = Cert.Reference3Ideal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  exact point9 m c t y

/-- A block's element is the reference's at its place in the narrow keys. -/
theorem point10 (c : Dev nD) (h : RealArgs m c) (t : Fin cfg0.N) (y : S1x256x256.Idx) :
    out0_10 (F := Ideal) (iblk m c 0 t) (iblk m c 1 t) (iblk m c 2 t) (iblk m c 3 t) (iblk m c 4 t) (iblk m c 5 t) (iblk m c 6 t) (iblk m c 7 t) (iblk m c 8 t) y = Cert.Reference3Ideal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) ((win0_10.blk t).view.emb y) := by
  idx_vars y
  obtain rfl : y0 = 0 := Subsingleton.elim _ _
  exact (((out10_at (iblk m c 0 t) (iblk m c 1 t) (iblk m c 2 t) (iblk m c 3 t) (iblk m c 4 t) (iblk m c 5 t) (iblk m c 6 t) (iblk m c 7 t) (iblk m c 8 t) y1 y2).trans (key_eq m c h t y1 y2)).trans (Cert.Reference3Ideal.Qkv.keyNarrow_at _ _ _ _ _ _ _ _ _).symm).trans (congrArg _ (place10 t y1 y2).symm)

/-- The narrow keys the kernel writes are the reference's. -/
theorem final10 (c : Dev nD) (h : RealArgs m c) : (dats m 0 c).arrAt 10 (cfgs 0).N = Cert.Reference3Ideal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 10 _ (by decide +kernel) fun t _ y => ?_
  blk_simp
  rw [after0_10]
  exact point10 m c h t y

/-- A block's element is the reference's at its place in the transposed values. -/
theorem point11 (c : Dev nD) (t : Fin cfg0.N) (y : S1x2x256x128.Idx) :
    out0_11 (F := Ideal) (iblk m c 0 t) (iblk m c 1 t) (iblk m c 2 t) (iblk m c 3 t) (iblk m c 4 t) (iblk m c 5 t) (iblk m c 6 t) (iblk m c 7 t) (iblk m c 8 t) y = Cert.Reference3Ideal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ((win0_11.blk t).view.emb y) := by
  idx_vars y
  obtain rfl : y0 = 0 := Subsingleton.elim _ _
  exact (valueT_eq m c t y1 y2 y3).trans (congrArg _ (place11 t y1 y2 y3).symm)

/-- The transposed values the kernel writes are the reference's. -/
theorem final11 (c : Dev nD) : (dats m 0 c).arrAt 11 (cfgs 0).N = Cert.Reference3Ideal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 11 _ (by decide +kernel) fun t _ y => ?_
  blk_simp
  rw [after0_11]
  exact point11 m c t y

/-- A block's element is the reference's at its place in the keys. -/
theorem point12 (c : Dev nD) (h : RealArgs m c) (t : Fin cfg0.N) (y : S1x256x256.Idx) :
    out0_12 (F := Ideal) (iblk m c 0 t) (iblk m c 1 t) (iblk m c 2 t) (iblk m c 3 t) (iblk m c 4 t) (iblk m c 5 t) (iblk m c 6 t) (iblk m c 7 t) (iblk m c 8 t) y = Cert.Reference3Ideal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) ((win0_12.blk t).view.emb y) := by
  idx_vars y
  obtain rfl : y0 = 0 := Subsingleton.elim _ _
  exact ((out12_at (iblk m c 0 t) (iblk m c 1 t) (iblk m c 2 t) (iblk m c 3 t) (iblk m c 4 t) (iblk m c 5 t) (iblk m c 6 t) (iblk m c 7 t) (iblk m c 8 t) y1 y2).trans (key_eq m c h t y1 y2)).trans (congrArg _ (place12 t y1 y2).symm)

/-- The keys the kernel writes are the reference's. -/
theorem final12 (c : Dev nD) (h : RealArgs m c) : (dats m 0 c).arrAt 12 (cfgs 0).N = Cert.Reference3Ideal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 12 _ (by decide +kernel) fun t _ y => ?_
  blk_simp
  rw [after0_12]
  exact point12 m c h t y

/-- A block's element is the reference's at its place in the values. -/
theorem point13 (c : Dev nD) (t : Fin cfg0.N) (y : S1x256x256.Idx) :
    out0_13 (F := Ideal) (iblk m c 0 t) (iblk m c 1 t) (iblk m c 2 t) (iblk m c 3 t) (iblk m c 4 t) (iblk m c 5 t) (iblk m c 6 t) (iblk m c 7 t) (iblk m c 8 t) y = Cert.Reference3Ideal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ((win0_13.blk t).view.emb y) := by
  idx_vars y
  obtain rfl : y0 = 0 := Subsingleton.elim _ _
  exact (value_eq m c t y1 y2).trans (congrArg _ (place13 t y1 y2).symm)

/-- The values the kernel writes are the reference's. -/
theorem final13 (c : Dev nD) : (dats m 0 c).arrAt 13 (cfgs 0).N = Cert.Reference3Ideal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 13 _ (by decide +kernel) fun t _ y => ?_
  blk_simp
  rw [after0_13]
  exact point13 m c t y

end Cert.Kernel3Ideal.Qkv
-- ==== Proof.lean ====
/- The certificate's claims, put together. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Attn.Final
public import proofs.«01_k».proof.Proof.Ffn.Final
public import proofs.«01_k».proof.Proof.Qkv.Final
public import Idealize.ShloMosaic.Adequacy
public import Idealize.ShloMosaic.Init
public import Idealize.ShloMosaic.Lib.Claim

@[expose] public section

noncomputable section

namespace Cert.Proof

open Idealize.ShloMosaic Idealize.SL.Sem

/-- The attention call runs and leaves its arguments alone. -/
theorem frame_kernel : Cert.quiescent_Kernel := fun m g _ => Cert.Kernel.Gen.frame m g

/-- So does its idealisation. -/
theorem frame_kernelIdeal : Cert.quiescent_KernelIdeal := fun m g _ => Cert.KernelIdeal.Gen.frame m g

/-- So does the reference. -/
theorem frame_referenceIdeal : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

/-- The idealisation names one constant. -/
theorem preserves : Cert.preserves_Kernel_KernelIdeal :=
  IdealRules.named_const.statement Cert.KernelIdeal.κ "log2e" .f32 0x3FB8AA3B#32 (((Real.log 2)⁻¹ : ℝ) : EReal) rfl

/-- The attention call's result is the reference's. -/
theorem algebraic : Cert.algebraic_KernelIdeal_ReferenceIdeal := by
  pair_intro
  · run_from Cert.KernelIdeal.Value.run_blocks m g
  · run_from Cert.ReferenceIdeal.Value.run m' g'
    rw [Cert.ReferenceIdeal.Read.val_main_v53_eq]
    obtain ⟨h0, h1, h2, h3, h4, h5, h6, h7, h8⟩ := hagree c
    rw [h0, h1, h2, h3, h4, h5, h6, h7, h8]
    exact (Cert.KernelIdeal.Attn.final m c).symm

/-- The feed-forward call runs and leaves its arguments alone. -/
theorem frame_kernel2 : Cert.quiescent_Kernel2 := fun m g _ => Cert.Kernel2.Gen.frame m g

/-- So does its idealisation. -/
theorem frame_kernel2Ideal : Cert.quiescent_Kernel2Ideal := fun m g _ => Cert.Kernel2Ideal.Gen.frame m g

/-- So does the reference. -/
theorem frame_reference2Ideal : Cert.quiescent_Reference2Ideal := fun m g _ =>
  (θ_run Cert.Reference2Ideal.defs _ _).mono (fun r h => ⟨fun c => (h c).2, sem_eq_zero_of_no_sems (by decide) r.2⟩) (Cert.Reference2Ideal.Value.run m g)

/-- The idealisation of the feed-forward call rewrites nothing. -/
theorem preserves2 : Cert.preserves_Kernel2_Kernel2Ideal := trivial

/-- The feed-forward call's result is the reference's. -/
theorem algebraic2 : Cert.algebraic_Kernel2Ideal_Reference2Ideal := by
  pair_intro
  · run_from Cert.Kernel2Ideal.Value.run_blocks m g
  · run_from Cert.Reference2Ideal.Value.run m' g'
    rw [Cert.Reference2Ideal.Read.val_main_v51_eq]
    obtain ⟨h0, h1, h2, h3, h4, h5, h6, h7, h8⟩ := hagree c
    rw [h0, h1, h2, h3, h4, h5, h6, h7, h8]
    exact (Cert.Kernel2Ideal.Ffn.final m c).symm

/-- The projection call runs and leaves its arguments alone. -/
theorem frame_kernel3 : Cert.quiescent_Kernel3 := fun m g _ => Cert.Kernel3.Gen.frame m g

/-- So does its idealisation. -/
theorem frame_kernel3Ideal : Cert.quiescent_Kernel3Ideal := fun m g _ => Cert.Kernel3Ideal.Gen.frame m g

/-- So does the reference. -/
theorem frame_reference3Ideal : Cert.quiescent_Reference3Ideal := fun m g _ =>
  (θ_run Cert.Reference3Ideal.defs _ _).mono (fun r h => ⟨fun c => (h c).2.2.2.2.2, sem_eq_zero_of_no_sems (by decide) r.2⟩) (Cert.Reference3Ideal.Value.run m g)

/-- The predicate's shape relations. -/
instance : Cert.Pre_finite3.Facts := Qkv.preFacts

/-- The idealisation runs under the precondition, which it does not need. -/
theorem frame_kernel3Ideal_finite : Cert.quiescent_Kernel3Ideal_pre_finite3 := fun m g _ => frame_kernel3Ideal m g trivial

/-- So does the reference. -/
theorem frame_reference3Ideal_finite : Cert.quiescent_Reference3Ideal_pre_finite3 := fun m g _ => frame_reference3Ideal m g trivial

/-- The idealisation of the projection call rewrites nothing. -/
theorem preserves3 : Cert.preserves_Kernel3_Kernel3Ideal := trivial

/-- The projection call's results are the reference's, of real arrays. -/
theorem algebraic3 : Cert.algebraic_Kernel3Ideal_Reference3Ideal_pre_finite3 := by
  pair_intro
  · run_from Cert.Kernel3Ideal.Value.run_blocks m g
  · run_from Cert.Reference3Ideal.Value.run m' g'
    · rw [Cert.Reference3Ideal.Read.val_main_v55_eq]
      obtain ⟨h0, h1, h2, h3, h4, h5, h6⟩ := hagree c
      rw [h0, h1, h2, h3, h4, h5]
      exact (Cert.Kernel3Ideal.Qkv.final9 m c).symm
    · rw [Cert.Reference3Ideal.Read.val_main_v56_eq]
      obtain ⟨h0, h1, h2, h3, h4, h5, h6⟩ := hagree c
      rw [h0, h1, h2, h3, h4, h6]
      exact (Cert.Kernel3Ideal.Qkv.final10 m c (Qkv.real3_of_fn _ _ _ _ _ _ _ (hpre c))).symm
    · exact (Cert.Reference3Ideal.Read.val_main_v59_eq _ _ _ _ _).trans (Cert.Kernel3Ideal.Qkv.final11 m c).symm
    · rw [Cert.Reference3Ideal.Read.val_main_v52_eq]
      obtain ⟨h0, h1, h2, h3, h4, h5, h6⟩ := hagree c
      rw [h0, h1, h2, h3, h4, h6]
      exact (Cert.Kernel3Ideal.Qkv.final12 m c (Qkv.real3_of_fn _ _ _ _ _ _ _ (hpre c))).symm
    · exact (Cert.Reference3Ideal.Read.val_main_v22_eq _ _ _ _ _).trans (Cert.Kernel3Ideal.Qkv.final13 m c).symm

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Qkv.preFacts,
  frame_kernel, frame_kernelIdeal, frame_referenceIdeal, frame_kernel2, frame_kernel2Ideal, frame_reference2Ideal,
  frame_kernel3, frame_kernel3Ideal, frame_kernel3Ideal_finite, frame_reference3Ideal, frame_reference3Ideal_finite,
  preserves, algebraic, preserves2, algebraic2, preserves3, algebraic3⟩

end Cert.Proof

end
